-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_zero_head [hPre_finite_and_zero_head : Cert.Pre_finite_and_zero_head.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_zero_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).1 = (fun _ => 1#1)
    ∧ (Cert.Pre_finite_and_zero_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.1 = (fun _ => 1#1)
    ∧ (Cert.Pre_finite_and_zero_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.1 = (fun _ => 1#1)
    ∧ (Cert.Pre_finite_and_zero_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.1 = (fun _ => 1#1)
    ∧ (Cert.Pre_finite_and_zero_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.2.1 = (fun _ => 1#1)
    ∧ (Cert.Pre_finite_and_zero_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.2.2.1 = (fun _ => 1#1)
    ∧ (Cert.Pre_finite_and_zero_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.2.2.2.1 = (fun _ => 1#1)
    ∧ (Cert.Pre_finite_and_zero_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.2.2.2.2.1 = (fun _ => 1#1)
    ∧ (Cert.Pre_finite_and_zero_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.2.2.2.2.2.1 = (fun _ => 1#1)
    ∧ (Cert.Pre_finite_and_zero_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_zero_head [hPre_finite_and_zero_head : Cert.Pre_finite_and_zero_head.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_zero_head.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).1 = (fun _ => 1#1)
    ∧ (Cert.Pre_finite_and_zero_head.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.1 = (fun _ => 1#1)
    ∧ (Cert.Pre_finite_and_zero_head.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.1 = (fun _ => 1#1)
    ∧ (Cert.Pre_finite_and_zero_head.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.1 = (fun _ => 1#1)
    ∧ (Cert.Pre_finite_and_zero_head.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.2.1 = (fun _ => 1#1)
    ∧ (Cert.Pre_finite_and_zero_head.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.2.2.1 = (fun _ => 1#1)
    ∧ (Cert.Pre_finite_and_zero_head.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.2.2.2.1 = (fun _ => 1#1)
    ∧ (Cert.Pre_finite_and_zero_head.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.2.2.2.2.1 = (fun _ => 1#1)
    ∧ (Cert.Pre_finite_and_zero_head.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.2.2.2.2.2.1 = (fun _ => 1#1)
    ∧ (Cert.Pre_finite_and_zero_head.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ r.2.sem = fun _ => 0)

def quiescent_KernelIdeal_pre_finite_and_zero_head [hKernelIdeal : Cert.KernelIdeal.Facts] [hPre_finite_and_zero_head : Cert.Pre_finite_and_zero_head.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_zero_head m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))
      ∧ r.2.sem = fun _ => 0)

def quiescent_ReferenceIdeal_pre_finite_and_zero_head [hReferenceIdeal : Cert.ReferenceIdeal.Facts] [hPre_finite_and_zero_head : Cert.Pre_finite_and_zero_head.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_zero_head m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))
      ∧ r.2.sem = fun _ => 0)

def preserves_Kernel_KernelIdeal : Prop :=
  True

def algebraic_KernelIdeal_ReferenceIdeal_pre_finite_and_zero_head [hKernelIdeal : Cert.KernelIdeal.Facts] [hReferenceIdeal : Cert.ReferenceIdeal.Facts] [hPre_finite_and_zero_head : Cert.Pre_finite_and_zero_head.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_zero_head m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v71_0)) (v1 : (c : Dev Cert.KernelIdeal.nD) → Buf (Elt Ideal) ((c.tc : Thread Cert.KernelIdeal.nD Cert.KernelIdeal.τ).loc Cert.KernelIdeal.main_v71_1)) (v2 : (c : Dev Cert.KernelIdeal.nD) → Buf (Elt Ideal) ((c.tc : Thread Cert.KernelIdeal.nD Cert.KernelIdeal.τ).loc Cert.KernelIdeal.main_v71_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71_0) = v0 c
          ∧ r.2.mem ((c.tc : Thread Cert.KernelIdeal.nD Cert.KernelIdeal.τ).loc Cert.KernelIdeal.main_v71_1) = v1 c
          ∧ r.2.mem ((c.tc : Thread Cert.KernelIdeal.nD Cert.KernelIdeal.τ).loc Cert.KernelIdeal.main_v71_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v279) = v0 c
          ∧ r.2.mem ((c.tc : Thread Cert.ReferenceIdeal.nD Cert.ReferenceIdeal.τ).loc Cert.ReferenceIdeal.main_v280) = v1 c
          ∧ r.2.mem ((c.tc : Thread Cert.ReferenceIdeal.nD Cert.ReferenceIdeal.τ).loc Cert.ReferenceIdeal.main_v139) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_and_zero_head : Cert.Pre_finite_and_zero_head.Facts),
    quiescent_Kernel (hKernel := hKernel)
    ∧ quiescent_KernelIdeal (hKernelIdeal := hKernelIdeal)
    ∧ quiescent_KernelIdeal_pre_finite_and_zero_head (hKernelIdeal := hKernelIdeal) (hPre_finite_and_zero_head := hPre_finite_and_zero_head)
    ∧ quiescent_ReferenceIdeal (hReferenceIdeal := hReferenceIdeal)
    ∧ quiescent_ReferenceIdeal_pre_finite_and_zero_head (hReferenceIdeal := hReferenceIdeal) (hPre_finite_and_zero_head := hPre_finite_and_zero_head)
    ∧ preserves_Kernel_KernelIdeal
    ∧ algebraic_KernelIdeal_ReferenceIdeal_pre_finite_and_zero_head (hKernelIdeal := hKernelIdeal) (hReferenceIdeal := hReferenceIdeal) (hPre_finite_and_zero_head := hPre_finite_and_zero_head)
-- ==== Pre_finite_and_zero_head.lean ====
abbrev S160000x128 : Shape := ⟨2, ![160000, 128]⟩
abbrev S512x128 : Shape := ⟨2, ![512, 128]⟩
abbrev S160000 : Shape := ⟨1, ![160000]⟩
abbrev S128 : Shape := ⟨1, ![128]⟩
abbrev S128x128 : Shape := ⟨2, ![128, 128]⟩
abbrev S130 : Shape := ⟨1, ![130]⟩
abbrev S130x128 : Shape := ⟨2, ![130, 128]⟩
abbrev S256 : Shape := ⟨1, ![256]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S160000x128 : S_.BroadcastsInDim S160000x128 (![] : Fin 0 → Fin S160000x128.rank)
  bcast_S_S512x128 : S_.BroadcastsInDim S512x128 (![] : Fin 0 → Fin S512x128.rank)
  bcast_S_S128 : S_.BroadcastsInDim S128 (![] : Fin 0 → Fin S128.rank)
  bcast_S_S128x128 : S_.BroadcastsInDim S128x128 (![] : Fin 0 → Fin S128x128.rank)
  bcast_S_S130 : S_.BroadcastsInDim S130 (![] : Fin 0 → Fin S130.rank)
  bcast_S_S130x128 : S_.BroadcastsInDim S130x128 (![] : Fin 0 → Fin S130x128.rank)
  bcast_S_S128x1 : S_.BroadcastsInDim S128x1 (![] : Fin 0 → Fin S128x1.rank)

variable [Facts]

def fn_part1 {F : FTy → Type} [FloatOps F] (main_arg8 : FVec F S130 .f32) (main_arg9 : FVec F S130 .f32) (main_arg10 : FVec F S130x128 .f32) (main_arg20 : FVec F S128x1 .f32) (main_v2 : IVec S160000x128 1) (main_v5 : IVec S512x128 1) (main_v8 : IVec S128 1) (main_v11 : IVec S128 1) (main_v14 : IVec S128x128 1) (main_v17 : IVec S128 1) : IVec S160000x128 1 × IVec S512x128 1 × IVec S128 1 × IVec S128 1 × IVec S128x128 1 × IVec S128 1 × IVec S130 1 × IVec S130 1 × IVec S130x128 1 × IVec S128x1 1 :=
  let main_v18 : FVec F S130 .f32 := Host.absf main_arg8
  let main_cst_5 : FVec F S_ .f32 := constant S_ .f32 0x7F800000#32
  let main_v19 : FVec F S130 .f32 := broadcastInDim S130 ![] bcast_S_S130 main_cst_5
  let main_v20 : IVec S130 1 := cmpf .olt main_v18 main_v19
  let main_v21 : FVec F S130 .f32 := Host.absf main_arg9
  let main_cst_6 : FVec F S_ .f32 := constant S_ .f32 0x7F800000#32
  let main_v22 : FVec F S130 .f32 := broadcastInDim S130 ![] bcast_S_S130 main_cst_6
  let main_v23 : IVec S130 1 := cmpf .olt main_v21 main_v22
  let main_v24 : FVec F S130x128 .f32 := Host.absf main_arg10
  let main_cst_7 : FVec F S_ .f32 := constant S_ .f32 0x7F800000#32
  let main_v25 : FVec F S130x128 .f32 := broadcastInDim S130x128 ![] bcast_S_S130x128 main_cst_7
  let main_v26 : IVec S130x128 1 := cmpf .olt main_v24 main_v25
  let main_cst_8 : FVec F S_ .f32 := constant S_ .f32 0x00000000#32
  let main_v27 : FVec F S128x1 .f32 := broadcastInDim S128x1 ![] bcast_S_S128x1 main_cst_8
  let main_v28 : IVec S128x1 1 := cmpf .oeq main_arg20 main_v27
  (main_v2, main_v5, main_v8, main_v11, main_v14, main_v17, main_v20, main_v23, main_v26, main_v28)

def fn {F : FTy → Type} [FloatOps F] (main_arg0 : FVec F S160000x128 .f32) (main_arg1 : FVec F S512x128 .f32) (main_arg2 : IVec S160000 32) (main_arg3 : IVec S160000 1) (main_arg4 : FVec F S128 .f32) (main_arg5 : FVec F S128 .f32) (main_arg6 : FVec F S128x128 .f32) (main_arg7 : FVec F S128 .f32) (main_arg8 : FVec F S130 .f32) (main_arg9 : FVec F S130 .f32) (main_arg10 : FVec F S130x128 .f32) (main_arg11 : FVec F S128 .f32) (main_arg12 : FVec F S128x128 .f32) (main_arg13 : FVec F S128 .f32) (main_arg14 : FVec F S128 .f32) (main_arg15 : FVec F S128 .f32) (main_arg16 : FVec F S256 .f32) (main_arg17 : FVec F S256 .f32) (main_arg18 : FVec F S256x128 .f32) (main_arg19 : FVec F S128 .f32) (main_arg20 : FVec F S128x1 .f32) (main_arg21 : FVec F S1 .f32) (main_arg22 : FVec F S256 .f32) (main_arg23 : FVec F S256 .f32) (main_arg24 : FVec F S256x128 .f32) (main_arg25 : FVec F S128 .f32) (main_arg26 : FVec F S128x1 .f32) (main_arg27 : FVec F S1 .f32) : IVec S160000x128 1 × IVec S512x128 1 × IVec S128 1 × IVec S128 1 × IVec S128x128 1 × IVec S128 1 × IVec S130 1 × IVec S130 1 × IVec S130x128 1 × IVec S128x1 1 :=
  let main_v0 : FVec F S160000x128 .f32 := Host.absf main_arg0
  let main_cst : FVec F S_ .f32 := constant S_ .f32 0x7F800000#32
  let main_v1 : FVec F S160000x128 .f32 := broadcastInDim S160000x128 ![] bcast_S_S160000x128 main_cst
  let main_v2 : IVec S160000x128 1 := cmpf .olt main_v0 main_v1
  let main_v3 : FVec F S512x128 .f32 := Host.absf main_arg1
  let main_cst_0 : FVec F S_ .f32 := constant S_ .f32 0x7F800000#32
  let main_v4 : FVec F S512x128 .f32 := broadcastInDim S512x128 ![] bcast_S_S512x128 main_cst_0
  let main_v5 : IVec S512x128 1 := cmpf .olt main_v3 main_v4
  let main_v6 : FVec F S128 .f32 := Host.absf main_arg4
  let main_cst_1 : FVec F S_ .f32 := constant S_ .f32 0x7F800000#32
  let main_v7 : FVec F S128 .f32 := broadcastInDim S128 ![] bcast_S_S128 main_cst_1
  let main_v8 : IVec S128 1 := cmpf .olt main_v6 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_v12 : FVec F S128x128 .f32 := Host.absf main_arg6
  let main_cst_3 : FVec F S_ .f32 := constant S_ .f32 0x7F800000#32
  let main_v13 : FVec F S128x128 .f32 := broadcastInDim S128x128 ![] bcast_S_S128x128 main_cst_3
  let main_v14 : IVec S128x128 1 := cmpf .olt main_v12 main_v13
  let main_v15 : FVec F S128 .f32 := Host.absf main_arg7
  let main_cst_4 : FVec F S_ .f32 := constant S_ .f32 0x7F800000#32
  let main_v16 : FVec F S128 .f32 := broadcastInDim S128 ![] bcast_S_S128 main_cst_4
  let main_v17 : IVec S128 1 := cmpf .olt main_v15 main_v16
  fn_part1 (F := F) main_arg8 main_arg9 main_arg10 main_arg20 main_v2 main_v5 main_v8 main_v11 main_v14 main_v17
-- ==== Kernel.lean ====
abbrev S160000x128 : Shape := ⟨2, ![160000, 128]⟩
abbrev S512x128 : Shape := ⟨2, ![512, 128]⟩
abbrev S160000 : Shape := ⟨1, ![160000]⟩
abbrev S128 : Shape := ⟨1, ![128]⟩
abbrev S128x128 : Shape := ⟨2, ![128, 128]⟩
abbrev S130 : Shape := ⟨1, ![130]⟩
abbrev S130x128 : Shape := ⟨2, ![130, 128]⟩
abbrev S256 : Shape := ⟨1, ![256]⟩
abbrev S256x128 : Shape := ⟨2, ![256, 128]⟩
abbrev S128x1 : Shape := ⟨2, ![128, 1]⟩
abbrev S1 : Shape := ⟨1, ![1]⟩
abbrev S20x1x8000 : Shape := ⟨3, ![20, 1, 8000]⟩
abbrev S20x8000 : Shape := ⟨2, ![20, 8000]⟩
abbrev S_ : Shape := ⟨0, ![]⟩
abbrev S20 : Shape := ⟨1, ![20]⟩
abbrev S20x1 : Shape := ⟨2, ![20, 1]⟩
abbrev S20x2 : Shape := ⟨2, ![20, 2]⟩
abbrev S1x128 : Shape := ⟨2, ![1, 128]⟩
abbrev S1x256 : Shape := ⟨2, ![1, 256]⟩
abbrev S1x1 : Shape := ⟨2, ![1, 1]⟩
abbrev S512x1 : Shape := ⟨2, ![512, 1]⟩
abbrev S1x1x8000 : Shape := ⟨3, ![1, 1, 8000]⟩
abbrev S8000x128 : Shape := ⟨2, ![8000, 128]⟩
abbrev S512 : Shape := ⟨1, ![512]⟩
abbrev S1x8000 : Shape := ⟨2, ![1, 8000]⟩
abbrev S8000x1 : Shape := ⟨2, ![8000, 1]⟩
abbrev S8000x64 : Shape := ⟨2, ![8000, 64]⟩
abbrev S64x128 : Shape := ⟨2, ![64, 128]⟩
abbrev S8000 : Shape := ⟨1, ![8000]⟩
abbrev S64x8000 : Shape := ⟨2, ![64, 8000]⟩
abbrev S64x1 : Shape := ⟨2, ![64, 1]⟩
abbrev S64 : Shape := ⟨1, ![64]⟩
abbrev S8000x512 : Shape := ⟨2, ![8000, 512]⟩
abbrev S512x8000 : Shape := ⟨2, ![512, 8000]⟩
abbrev S512x256 : Shape := ⟨2, ![512, 256]⟩

abbrev nBuf : Space → Nat
  | .hbm => 130
  | .vmem => 32
  | .smem => 1
  | _ => 0

abbrev hbmTy0_0 (i : Nat) : BufTy := match i % 128 with
  | 0 => ⟨S160000x128, .f32⟩
  | 1 => ⟨S512x128, .f32⟩
  | 2 => ⟨S160000, .i32⟩
  | 3 => ⟨S160000, .i1⟩
  | 4 => ⟨S128, .f32⟩
  | 5 => ⟨S128, .f32⟩
  | 6 => ⟨S128x128, .f32⟩
  | 7 => ⟨S128, .f32⟩
  | 8 => ⟨S130, .f32⟩
  | 9 => ⟨S130, .f32⟩
  | 10 => ⟨S130x128, .f32⟩
  | 11 => ⟨S128, .f32⟩
  | 12 => ⟨S128x128, .f32⟩
  | 13 => ⟨S128, .f32⟩
  | 14 => ⟨S128, .f32⟩
  | 15 => ⟨S128, .f32⟩
  | 16 => ⟨S256, .f32⟩
  | 17 => ⟨S256, .f32⟩
  | 18 => ⟨S256x128, .f32⟩
  | 19 => ⟨S128, .f32⟩
  | 20 => ⟨S128x1, .f32⟩
  | 21 => ⟨S1, .f32⟩
  | 22 => ⟨S256, .f32⟩
  | 23 => ⟨S256, .f32⟩
  | 24 => ⟨S256x128, .f32⟩
  | 25 => ⟨S128, .f32⟩
  | 26 => ⟨S128x1, .f32⟩
  | 27 => ⟨S1, .f32⟩
  | 28 => ⟨S160000, .f32⟩
  | 29 => ⟨S20x1x8000, .i32⟩
  | 30 => ⟨S20x1x8000, .f32⟩
  | 31 => ⟨S20x8000, .i32⟩
  | 32 => ⟨S_, .i32⟩
  | 33 => ⟨S20, .i32⟩
  | 34 => ⟨S_, .i32⟩
  | 35 => ⟨S20, .i32⟩
  | 36 => ⟨S_, .i32⟩
  | 37 => ⟨S_, .i32⟩
  | 38 => ⟨S20, .i32⟩
  | 39 => ⟨S20, .i32⟩
  | 40 => ⟨S20, .i32⟩
  | 41 => ⟨S_, .i32⟩
  | 42 => ⟨S20, .i32⟩
  | 43 => ⟨S20, .i1⟩
  | 44 => ⟨S20, .i32⟩
  | 45 => ⟨S20, .i32⟩
  | 46 => ⟨S_, .i32⟩
  | 47 => ⟨S20, .i32⟩
  | 48 => ⟨S20, .i1⟩
  | 49 => ⟨S20, .i1⟩
  | 50 => ⟨S_, .i32⟩
  | 51 => ⟨S20, .i32⟩
  | 52 => ⟨S20, .i32⟩
  | 53 => ⟨S20, .i32⟩
  | 54 => ⟨S_, .i32⟩
  | 55 => ⟨S20, .i32⟩
  | 56 => ⟨S20, .i32⟩
  | 57 => ⟨S_, .i32⟩
  | 58 => ⟨S_, .i32⟩
  | 59 => ⟨S_, .i32⟩
  | 60 => ⟨S20, .i32⟩
  | 61 => ⟨S20, .i32⟩
  | 62 => ⟨S_, .i32⟩
  | 63 => ⟨S20, .i32⟩
  | 64 => ⟨S20, .i32⟩
  | 65 => ⟨S20, .i32⟩
  | 66 => ⟨S_, .i32⟩
  | 67 => ⟨S20, .i32⟩
  | 68 => ⟨S20, .i1⟩
  | 69 => ⟨S20, .i32⟩
  | 70 => ⟨S20x1, .i32⟩
  | 71 => ⟨S20x1, .i32⟩
  | 72 => ⟨S128x128, .f32⟩
  | 73 => ⟨S128, .f32⟩
  | 74 => ⟨S128x1, .f32⟩
  | 75 => ⟨S128x128, .f32⟩
  | 76 => ⟨S128x128, .f32⟩
  | 77 => ⟨S1, .f32⟩
  | 78 => ⟨S_, .f32⟩
  | 79 => ⟨S1x128, .f32⟩
  | 80 => ⟨S128, .f32⟩
  | 81 => ⟨S128, .f32⟩
  | 82 => ⟨S128, .f32⟩
  | 83 => ⟨S1, .f32⟩
  | 84 => ⟨S_, .f32⟩
  | 85 => ⟨S1x128, .f32⟩
  | 86 => ⟨S128, .f32⟩
  | 87 => ⟨S128, .f32⟩
  | 88 => ⟨S128, .f32⟩
  | 89 => ⟨S128, .f32⟩
  | 90 => ⟨S1x128, .f32⟩
  | 91 => ⟨S_, .f32⟩
  | 92 => ⟨S128, .f32⟩
  | 93 => ⟨S1x128, .f32⟩
  | 94 => ⟨S1x128, .f32⟩
  | 95 => ⟨S128, .f32⟩
  | 96 => ⟨S128x128, .f32⟩
  | 97 => ⟨S128, .f32⟩
  | 98 => ⟨S128, .f32⟩
  | 99 => ⟨S1, .f32⟩
  | 100 => ⟨S_, .f32⟩
  | 101 => ⟨S1x128, .f32⟩
  | 102 => ⟨S128, .f32⟩
  | 103 => ⟨S128, .f32⟩
  | 104 => ⟨S128, .f32⟩
  | 105 => ⟨S128, .f32⟩
  | 106 => ⟨S1, .f32⟩
  | 107 => ⟨S_, .f32⟩
  | 108 => ⟨S1x128, .f32⟩
  | 109 => ⟨S128, .f32⟩
  | 110 => ⟨S128, .f32⟩
  | 111 => ⟨S128, .f32⟩
  | 112 => ⟨S128, .f32⟩
  | 113 => ⟨S1x128, .f32⟩
  | 114 => ⟨S1x128, .f32⟩
  | 115 => ⟨S1x128, .f32⟩
  | 116 => ⟨S1x128, .f32⟩
  | 117 => ⟨S128x128, .bf16⟩
  | 118 => ⟨S128x128, .bf16⟩
  | 119 => ⟨S1x128, .f32⟩
  | 120 => ⟨S1x128, .f32⟩
  | 121 => ⟨S1x128, .f32⟩
  | 122 => ⟨S1x256, .f32⟩
  | 123 => ⟨S1x256, .f32⟩
  | 124 => ⟨S1x128, .f32⟩
  | 125 => ⟨S1x1, .f32⟩
  | 126 => ⟨S1x1, .f32⟩
  | 127 => ⟨S20x1x8000, .f32⟩
  | _ => ⟨S160000x128, .f32⟩

abbrev hbmTy0_1 (i : Nat) : BufTy := match i % 128 with
  | 0 => ⟨S512x1, .f32⟩
  | 1 => ⟨S512x128, .f32⟩
  | _ => ⟨S160000x128, .f32⟩

abbrev hbmTy (i : Nat) : BufTy := match i / 128 with
  | 0 => hbmTy0_0 i
  | 1 => hbmTy0_1 i
  | _ => ⟨S160000x128, .f32⟩

abbrev bufTy : (tb : Table) → Fin (tcTables nBuf tb) → BufTy
  | .hbm, ⟨i, _⟩ => hbmTy i
  | .local _ .vmem, ⟨0, _⟩ => ⟨S1x1x8000, .i32⟩
  | .local _ .vmem, ⟨1, _⟩ => ⟨S1x1x8000, .i32⟩
  | .local _ .vmem, ⟨2, _⟩ => ⟨S1x1x8000, .f32⟩
  | .local _ .vmem, ⟨3, _⟩ => ⟨S1x1x8000, .f32⟩
  | .local _ .vmem, ⟨4, _⟩ => ⟨S8000x128, .f32⟩
  | .local _ .vmem, ⟨5, _⟩ => ⟨S8000x128, .f32⟩
  | .local _ .vmem, ⟨6, _⟩ => ⟨S512x128, .f32⟩
  | .local _ .vmem, ⟨7, _⟩ => ⟨S1x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S128x128, .bf16⟩
  | .local _ .vmem, ⟨12, _⟩ => ⟨S1x128, .f32⟩
  | .local _ .vmem, ⟨13, _⟩ => ⟨S1x128, .f32⟩
  | .local _ .vmem, ⟨14, _⟩ => ⟨S128x128, .bf16⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x256, .f32⟩
  | .local _ .vmem, ⟨19, _⟩ => ⟨S1x256, .f32⟩
  | .local _ .vmem, ⟨20, _⟩ => ⟨S256x128, .f32⟩
  | .local _ .vmem, ⟨21, _⟩ => ⟨S1x128, .f32⟩
  | .local _ .vmem, ⟨22, _⟩ => ⟨S128x1, .f32⟩
  | .local _ .vmem, ⟨23, _⟩ => ⟨S1x1, .f32⟩
  | .local _ .vmem, ⟨24, _⟩ => ⟨S1x1, .f32⟩
  | .local _ .vmem, ⟨25, _⟩ => ⟨S1x1x8000, .f32⟩
  | .local _ .vmem, ⟨26, _⟩ => ⟨S1x1x8000, .f32⟩
  | .local _ .vmem, ⟨27, _⟩ => ⟨S512x1, .f32⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x1, .f32⟩
  | .local _ .smem, ⟨0, _⟩ => ⟨S20x2, .i32⟩
  | _, _ => ⟨S160000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_c : Ref sig .tc := ⟨.hbm, 32, rfl⟩
abbrev main_v4 : Ref sig .tc := ⟨.hbm, 33, rfl⟩
abbrev main_c_0 : Ref sig .tc := ⟨.hbm, 34, rfl⟩
abbrev main_v5 : Ref sig .tc := ⟨.hbm, 35, rfl⟩
abbrev main_c_1 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_c : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_0 : Ref sig .tc := ⟨.hbm, 50, rfl⟩
abbrev main_call0_v12 : Ref sig .tc := ⟨.hbm, 51, rfl⟩
abbrev main_call0_v13 : Ref sig .tc := ⟨.hbm, 52, rfl⟩
abbrev main_v6 : Ref sig .tc := ⟨.hbm, 53, rfl⟩
abbrev main_c_2 : Ref sig .tc := ⟨.hbm, 54, rfl⟩
abbrev main_v7 : Ref sig .tc := ⟨.hbm, 55, rfl⟩
abbrev main_v8 : Ref sig .tc := ⟨.hbm, 56, rfl⟩
abbrev main_c_3 : Ref sig .tc := ⟨.hbm, 57, rfl⟩
abbrev main_c_4 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_v9 : Ref sig .tc := ⟨.hbm, 64, rfl⟩
abbrev main_v10 : Ref sig .tc := ⟨.hbm, 65, rfl⟩
abbrev main_c_5 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_cst : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71_0 : Ref sig .tc := ⟨.hbm, 127, rfl⟩
abbrev main_v71_1 : Ref sig .tc := ⟨.hbm, 128, rfl⟩
abbrev main_v71_2 : Ref sig .tc := ⟨.hbm, 129, rfl⟩
abbrev main_v16 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_stg22_1 : Ref sig .tc := ⟨.vmem, 26, rfl⟩
abbrev cc0_stg23_0 : Ref sig .tc := ⟨.vmem, 27, rfl⟩
abbrev cc0_stg24_0 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem22_1 : DmaSem sig := 26
abbrev cc0_sem23_0 : DmaSem sig := 27
abbrev cc0_sem24_0 : DmaSem sig := 28

abbrev nD : Nat := 1
abbrev τ : Topo := Topo.v7x

variable {F : FTy → Type} [FloatOps F]

abbrev grid0 : Pipeline.Grid := ⟨1, ![20], ![false]⟩

abbrev pre0 : Pipeline.Prefetch sig := ⟨1, ![main_v16.idx], fun | 0 => main_v16.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v3 : Index := Scalar.indexCast arg0
  let c0 : Index := 0#32
  ![v3.toNat, 0]
def k0_off2 (i : grid0.Coords) : Fin 2 → Nat :=
  let arg0 : BitVec 32 := BitVec.ofNat 32 (i 0).val
  let v5 : Index := Scalar.indexCast arg0
  let c1 : Index := 1#32
  ![v5.toNat, 1]
def k0_off3 (v4 : BitVec 32) : Fin 2 → Nat :=
  let v41 : Index := Scalar.indexCast v4
  let c0_18 : Index := 0#32
  ![v41.toNat, 0]
def k0_cond2 (v6 : BitVec 32) : BitVec 1 :=
  let c0_i32_7 : BitVec 32 := 0#32
  let v13 : BitVec 1 := Scalar.cmpi .eq v6 c0_i32_7
  let v14 : BitVec 32 := Scalar.extui v13
  let c0_i32_8 : BitVec 32 := 0#32
  let v15 : BitVec 1 := Scalar.cmpi .ne v14 c0_i32_8
  v15

def k0_off4 (v4 : BitVec 32) : Fin 2 → Nat :=
  let v121 : Index := Scalar.indexCast v4
  let c0_48 : Index := 0#32
  ![v121.toNat, 0]

def k0_chk1 (v4 : BitVec 32) (v6 : BitVec 32) : Prop :=
  (∀ (k0_h2 : k0_cond2 v6 = 1#1), ∀ a, (k0_off3 v4) a + S64x128.size a ≤ S512x128.size a) ∧
  (∀ (k0_h2 : k0_cond2 v6 = 1#1), ∀ a, (k0_off4 v4) a + S64x1.size a ≤ S512x1.size a)
theorem k0_off3_inb : ∀ (v4 : BitVec 32) (v6 : BitVec 32) (k0_hw1 : k0_chk1 v4 v6), ∀ (k0_h2 : k0_cond2 v6 = 1#1), ∀ a, (k0_off3 v4) a + S64x128.size a ≤ S512x128.size a := fun v4 v6 k0_hw1 k0_h2 => k0_hw1.1 k0_h2
theorem k0_off4_inb : ∀ (v4 : BitVec 32) (v6 : BitVec 32) (k0_hw1 : k0_chk1 v4 v6), ∀ (k0_h2 : k0_cond2 v6 = 1#1), ∀ a, (k0_off4 v4) a + S64x1.size a ≤ S512x1.size a := fun v4 v6 k0_hw1 k0_h2 => k0_hw1.2 k0_h2

def k0_cond4 (i : grid0.Coords) : BitVec 1 :=
  let arg0 : BitVec 32 := BitVec.ofNat 32 (i 0).val
  let c19_i32 : BitVec 32 := 19#32
  let v30 : BitVec 1 := Scalar.cmpi .eq arg0 c19_i32
  let v31 : BitVec 32 := Scalar.extui v30
  let c0_i32_17 : BitVec 32 := 0#32
  let v32 : BitVec 1 := Scalar.cmpi .ne v31 c0_i32_17
  v32

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x8000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S1x1x8000 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 1 → Memref sig .tc .vmem S512x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S512x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== ReferenceIdeal.lean ====
abbrev S160000x128 : Shape := ⟨2, ![160000, 128]⟩
abbrev S512x128 : Shape := ⟨2, ![512, 128]⟩
abbrev S160000 : Shape := ⟨1, ![160000]⟩
abbrev S128 : Shape := ⟨1, ![128]⟩
abbrev S128x128 : Shape := ⟨2, ![128, 128]⟩
abbrev S130 : Shape := ⟨1, ![130]⟩
abbrev S130x128 : Shape := ⟨2, ![130, 128]⟩
abbrev S256 : Shape := ⟨1, ![256]⟩
abbrev S256x128 : Shape := ⟨2, ![256, 128]⟩
abbrev S128x1 : Shape := ⟨2, ![128, 1]⟩
abbrev S1 : Shape := ⟨1, ![1]⟩
abbrev S_ : Shape := ⟨0, ![]⟩
abbrev S160000x1 : Shape := ⟨2, ![160000, 1]⟩
abbrev S1x128 : Shape := ⟨2, ![1, 128]⟩
abbrev S160000x2 : Shape := ⟨2, ![160000, 2]⟩
abbrev S160000x130 : Shape := ⟨2, ![160000, 130]⟩
abbrev S1x130 : Shape := ⟨2, ![1, 130]⟩
abbrev S512 : Shape := ⟨1, ![512]⟩
abbrev S512x1 : Shape := ⟨2, ![512, 1]⟩
abbrev S160000x256 : Shape := ⟨2, ![160000, 256]⟩
abbrev S1x256 : Shape := ⟨2, ![1, 256]⟩
abbrev S1x1 : Shape := ⟨2, ![1, 1]⟩
abbrev S512x256 : Shape := ⟨2, ![512, 256]⟩
abbrev S20x1x8000 : Shape := ⟨3, ![20, 1, 8000]⟩

abbrev nBuf : Space → Nat
  | .hbm => 368
  | .vmem => 0
  | .smem => 0
  | _ => 0

abbrev hbmTy0_0 (i : Nat) : BufTy := match i % 128 with
  | 0 => ⟨S160000x128, .f32⟩
  | 1 => ⟨S512x128, .f32⟩
  | 2 => ⟨S160000, .i32⟩
  | 3 => ⟨S160000, .i1⟩
  | 4 => ⟨S128, .f32⟩
  | 5 => ⟨S128, .f32⟩
  | 6 => ⟨S128x128, .f32⟩
  | 7 => ⟨S128, .f32⟩
  | 8 => ⟨S130, .f32⟩
  | 9 => ⟨S130, .f32⟩
  | 10 => ⟨S130x128, .f32⟩
  | 11 => ⟨S128, .f32⟩
  | 12 => ⟨S128x128, .f32⟩
  | 13 => ⟨S128, .f32⟩
  | 14 => ⟨S128, .f32⟩
  | 15 => ⟨S128, .f32⟩
  | 16 => ⟨S256, .f32⟩
  | 17 => ⟨S256, .f32⟩
  | 18 => ⟨S256x128, .f32⟩
  | 19 => ⟨S128, .f32⟩
  | 20 => ⟨S128x1, .f32⟩
  | 21 => ⟨S1, .f32⟩
  | 22 => ⟨S256, .f32⟩
  | 23 => ⟨S256, .f32⟩
  | 24 => ⟨S256x128, .f32⟩
  | 25 => ⟨S128, .f32⟩
  | 26 => ⟨S128x1, .f32⟩
  | 27 => ⟨S1, .f32⟩
  | 28 => ⟨S_, .i32⟩
  | 29 => ⟨S160000, .i32⟩
  | 30 => ⟨S160000, .i1⟩
  | 31 => ⟨S_, .i32⟩
  | 32 => ⟨S160000, .i32⟩
  | 33 => ⟨S160000, .i32⟩
  | 34 => ⟨S160000, .i32⟩
  | 35 => ⟨S160000x1, .i32⟩
  | 36 => ⟨S160000x128, .f32⟩
  | 37 => ⟨S_, .f32⟩
  | 38 => ⟨S160000, .f32⟩
  | 39 => ⟨S160000x1, .f32⟩
  | 40 => ⟨S_, .f32⟩
  | 41 => ⟨S160000x1, .f32⟩
  | 42 => ⟨S160000x1, .f32⟩
  | 43 => ⟨S160000x128, .f32⟩
  | 44 => ⟨S160000x128, .f32⟩
  | 45 => ⟨S160000x128, .f32⟩
  | 46 => ⟨S_, .f32⟩
  | 47 => ⟨S160000, .f32⟩
  | 48 => ⟨S160000x1, .f32⟩
  | 49 => ⟨S_, .f32⟩
  | 50 => ⟨S160000x1, .f32⟩
  | 51 => ⟨S160000x1, .f32⟩
  | 52 => ⟨S160000x128, .f32⟩
  | 53 => ⟨S160000x128, .f32⟩
  | 54 => ⟨S_, .f32⟩
  | 55 => ⟨S160000x1, .f32⟩
  | 56 => ⟨S160000x1, .f32⟩
  | 57 => ⟨S160000x1, .f32⟩
  | 58 => ⟨S160000x128, .f32⟩
  | 59 => ⟨S160000x128, .f32⟩
  | 60 => ⟨S1x128, .f32⟩
  | 61 => ⟨S160000x128, .f32⟩
  | 62 => ⟨S160000x128, .f32⟩
  | 63 => ⟨S1x128, .f32⟩
  | 64 => ⟨S160000x128, .f32⟩
  | 65 => ⟨S160000x128, .f32⟩
  | 66 => ⟨S160000x128, .f32⟩
  | 67 => ⟨S1x128, .f32⟩
  | 68 => ⟨S160000x128, .f32⟩
  | 69 => ⟨S160000x128, .f32⟩
  | 70 => ⟨S_, .f32⟩
  | 71 => ⟨S160000x128, .f32⟩
  | 72 => ⟨S160000x128, .f32⟩
  | 73 => ⟨S_, .f32⟩
  | 74 => ⟨S160000x128, .f32⟩
  | 75 => ⟨S160000x128, .f32⟩
  | 76 => ⟨S160000x128, .f32⟩
  | 77 => ⟨S_, .f32⟩
  | 78 => ⟨S160000x128, .f32⟩
  | 79 => ⟨S160000x128, .f32⟩
  | 80 => ⟨S160000x128, .f32⟩
  | 81 => ⟨S160000x128, .f32⟩
  | 82 => ⟨S160000, .i1⟩
  | 83 => ⟨S160000, .f32⟩
  | 84 => ⟨S_, .f32⟩
  | 85 => ⟨S160000, .f32⟩
  | 86 => ⟨S160000x1, .f32⟩
  | 87 => ⟨S160000x1, .f32⟩
  | 88 => ⟨S160000x2, .f32⟩
  | 89 => ⟨S160000x130, .f32⟩
  | 90 => ⟨S_, .f32⟩
  | 91 => ⟨S160000, .f32⟩
  | 92 => ⟨S160000x1, .f32⟩
  | 93 => ⟨S_, .f32⟩
  | 94 => ⟨S160000x1, .f32⟩
  | 95 => ⟨S160000x1, .f32⟩
  | 96 => ⟨S160000x130, .f32⟩
  | 97 => ⟨S160000x130, .f32⟩
  | 98 => ⟨S160000x130, .f32⟩
  | 99 => ⟨S_, .f32⟩
  | 100 => ⟨S160000, .f32⟩
  | 101 => ⟨S160000x1, .f32⟩
  | 102 => ⟨S_, .f32⟩
  | 103 => ⟨S160000x1, .f32⟩
  | 104 => ⟨S160000x1, .f32⟩
  | 105 => ⟨S160000x130, .f32⟩
  | 106 => ⟨S160000x130, .f32⟩
  | 107 => ⟨S_, .f32⟩
  | 108 => ⟨S160000x1, .f32⟩
  | 109 => ⟨S160000x1, .f32⟩
  | 110 => ⟨S160000x1, .f32⟩
  | 111 => ⟨S160000x130, .f32⟩
  | 112 => ⟨S160000x130, .f32⟩
  | 113 => ⟨S1x130, .f32⟩
  | 114 => ⟨S160000x130, .f32⟩
  | 115 => ⟨S160000x130, .f32⟩
  | 116 => ⟨S1x130, .f32⟩
  | 117 => ⟨S160000x130, .f32⟩
  | 118 => ⟨S160000x130, .f32⟩
  | 119 => ⟨S160000x128, .f32⟩
  | 120 => ⟨S1x128, .f32⟩
  | 121 => ⟨S160000x128, .f32⟩
  | 122 => ⟨S160000x128, .f32⟩
  | 123 => ⟨S_, .f32⟩
  | 124 => ⟨S160000x128, .f32⟩
  | 125 => ⟨S160000x128, .f32⟩
  | 126 => ⟨S_, .f32⟩
  | 127 => ⟨S160000x128, .f32⟩
  | _ => ⟨S160000x128, .f32⟩

abbrev hbmTy0_1 (i : Nat) : BufTy := match i % 128 with
  | 0 => ⟨S160000x128, .f32⟩
  | 1 => ⟨S160000x128, .f32⟩
  | 2 => ⟨S_, .f32⟩
  | 3 => ⟨S160000x128, .f32⟩
  | 4 => ⟨S160000x128, .f32⟩
  | 5 => ⟨S160000x128, .f32⟩
  | 6 => ⟨S160000x128, .f32⟩
  | 7 => ⟨S1x128, .f32⟩
  | 8 => ⟨S160000x128, .f32⟩
  | 9 => ⟨S160000x128, .f32⟩
  | 10 => ⟨S_, .f32⟩
  | 11 => ⟨S160000x128, .f32⟩
  | 12 => ⟨S160000x128, .f32⟩
  | 13 => ⟨S_, .f32⟩
  | 14 => ⟨S160000x128, .f32⟩
  | 15 => ⟨S160000x128, .f32⟩
  | 16 => ⟨S160000x128, .f32⟩
  | 17 => ⟨S_, .f32⟩
  | 18 => ⟨S160000x128, .f32⟩
  | 19 => ⟨S160000x128, .f32⟩
  | 20 => ⟨S160000x128, .f32⟩
  | 21 => ⟨S160000, .f32⟩
  | 22 => ⟨S160000x1, .f32⟩
  | 23 => ⟨S160000x128, .f32⟩
  | 24 => ⟨S160000x128, .f32⟩
  | 25 => ⟨S_, .f32⟩
  | 26 => ⟨S512x128, .f32⟩
  | 27 => ⟨S160000x1, .i32⟩
  | 28 => ⟨S512x128, .f32⟩
  | 29 => ⟨S160000, .f32⟩
  | 30 => ⟨S_, .f32⟩
  | 31 => ⟨S512, .f32⟩
  | 32 => ⟨S160000x1, .i32⟩
  | 33 => ⟨S512, .f32⟩
  | 34 => ⟨S_, .f32⟩
  | 35 => ⟨S512, .f32⟩
  | 36 => ⟨S512, .f32⟩
  | 37 => ⟨S512x1, .f32⟩
  | 38 => ⟨S512x128, .f32⟩
  | 39 => ⟨S512x128, .f32⟩
  | 40 => ⟨S512x128, .f32⟩
  | 41 => ⟨S_, .f32⟩
  | 42 => ⟨S512, .f32⟩
  | 43 => ⟨S512x1, .f32⟩
  | 44 => ⟨S_, .f32⟩
  | 45 => ⟨S512x1, .f32⟩
  | 46 => ⟨S512x1, .f32⟩
  | 47 => ⟨S512x128, .f32⟩
  | 48 => ⟨S512x128, .f32⟩
  | 49 => ⟨S512x128, .f32⟩
  | 50 => ⟨S_, .f32⟩
  | 51 => ⟨S512, .f32⟩
  | 52 => ⟨S512x1, .f32⟩
  | 53 => ⟨S_, .f32⟩
  | 54 => ⟨S512x1, .f32⟩
  | 55 => ⟨S512x1, .f32⟩
  | 56 => ⟨S512x128, .f32⟩
  | 57 => ⟨S512x128, .f32⟩
  | 58 => ⟨S_, .f32⟩
  | 59 => ⟨S512x1, .f32⟩
  | 60 => ⟨S512x1, .f32⟩
  | 61 => ⟨S512x1, .f32⟩
  | 62 => ⟨S512x128, .f32⟩
  | 63 => ⟨S512x128, .f32⟩
  | 64 => ⟨S1x128, .f32⟩
  | 65 => ⟨S512x128, .f32⟩
  | 66 => ⟨S512x128, .f32⟩
  | 67 => ⟨S1x128, .f32⟩
  | 68 => ⟨S512x128, .f32⟩
  | 69 => ⟨S512x128, .f32⟩
  | 70 => ⟨S_, .i32⟩
  | 71 => ⟨S160000, .i32⟩
  | 72 => ⟨S160000, .i1⟩
  | 73 => ⟨S_, .i32⟩
  | 74 => ⟨S160000, .i32⟩
  | 75 => ⟨S160000, .i32⟩
  | 76 => ⟨S160000, .i32⟩
  | 77 => ⟨S160000x1, .i32⟩
  | 78 => ⟨S160000x128, .f32⟩
  | 79 => ⟨S160000x128, .f32⟩
  | 80 => ⟨S_, .i32⟩
  | 81 => ⟨S160000, .i32⟩
  | 82 => ⟨S160000, .i1⟩
  | 83 => ⟨S_, .i32⟩
  | 84 => ⟨S160000, .i32⟩
  | 85 => ⟨S160000, .i32⟩
  | 86 => ⟨S160000, .i32⟩
  | 87 => ⟨S160000x1, .i32⟩
  | 88 => ⟨S160000, .f32⟩
  | 89 => ⟨S160000x1, .f32⟩
  | 90 => ⟨S_, .f32⟩
  | 91 => ⟨S160000x1, .f32⟩
  | 92 => ⟨S160000x1, .f32⟩
  | 93 => ⟨S160000x128, .f32⟩
  | 94 => ⟨S160000x128, .f32⟩
  | 95 => ⟨S160000x128, .f32⟩
  | 96 => ⟨S_, .f32⟩
  | 97 => ⟨S160000, .f32⟩
  | 98 => ⟨S160000x1, .f32⟩
  | 99 => ⟨S_, .f32⟩
  | 100 => ⟨S160000x1, .f32⟩
  | 101 => ⟨S160000x1, .f32⟩
  | 102 => ⟨S160000x128, .f32⟩
  | 103 => ⟨S160000x128, .f32⟩
  | 104 => ⟨S160000x128, .f32⟩
  | 105 => ⟨S_, .f32⟩
  | 106 => ⟨S160000, .f32⟩
  | 107 => ⟨S160000x1, .f32⟩
  | 108 => ⟨S_, .f32⟩
  | 109 => ⟨S160000x1, .f32⟩
  | 110 => ⟨S160000x1, .f32⟩
  | 111 => ⟨S160000x128, .f32⟩
  | 112 => ⟨S160000x128, .f32⟩
  | 113 => ⟨S_, .f32⟩
  | 114 => ⟨S160000x1, .f32⟩
  | 115 => ⟨S160000x1, .f32⟩
  | 116 => ⟨S160000x1, .f32⟩
  | 117 => ⟨S160000x128, .f32⟩
  | 118 => ⟨S160000x128, .f32⟩
  | 119 => ⟨S1x128, .f32⟩
  | 120 => ⟨S160000x128, .f32⟩
  | 121 => ⟨S160000x128, .f32⟩
  | 122 => ⟨S1x128, .f32⟩
  | 123 => ⟨S160000x128, .f32⟩
  | 124 => ⟨S160000x128, .f32⟩
  | 125 => ⟨S_, .i32⟩
  | 126 => ⟨S160000, .i32⟩
  | 127 => ⟨S160000, .i1⟩
  | _ => ⟨S160000x128, .f32⟩

abbrev hbmTy0_2 (i : Nat) : BufTy := match i % 128 with
  | 0 => ⟨S_, .i32⟩
  | 1 => ⟨S160000, .i32⟩
  | 2 => ⟨S160000, .i32⟩
  | 3 => ⟨S160000, .i32⟩
  | 4 => ⟨S160000x1, .i32⟩
  | 5 => ⟨S160000x128, .f32⟩
  | 6 => ⟨S160000x256, .f32⟩
  | 7 => ⟨S_, .f32⟩
  | 8 => ⟨S160000, .f32⟩
  | 9 => ⟨S160000x1, .f32⟩
  | 10 => ⟨S_, .f32⟩
  | 11 => ⟨S160000x1, .f32⟩
  | 12 => ⟨S160000x1, .f32⟩
  | 13 => ⟨S160000x256, .f32⟩
  | 14 => ⟨S160000x256, .f32⟩
  | 15 => ⟨S160000x256, .f32⟩
  | 16 => ⟨S_, .f32⟩
  | 17 => ⟨S160000, .f32⟩
  | 18 => ⟨S160000x1, .f32⟩
  | 19 => ⟨S_, .f32⟩
  | 20 => ⟨S160000x1, .f32⟩
  | 21 => ⟨S160000x1, .f32⟩
  | 22 => ⟨S160000x256, .f32⟩
  | 23 => ⟨S160000x256, .f32⟩
  | 24 => ⟨S_, .f32⟩
  | 25 => ⟨S160000x1, .f32⟩
  | 26 => ⟨S160000x1, .f32⟩
  | 27 => ⟨S160000x1, .f32⟩
  | 28 => ⟨S160000x256, .f32⟩
  | 29 => ⟨S160000x256, .f32⟩
  | 30 => ⟨S1x256, .f32⟩
  | 31 => ⟨S160000x256, .f32⟩
  | 32 => ⟨S160000x256, .f32⟩
  | 33 => ⟨S1x256, .f32⟩
  | 34 => ⟨S160000x256, .f32⟩
  | 35 => ⟨S160000x256, .f32⟩
  | 36 => ⟨S160000x128, .f32⟩
  | 37 => ⟨S1x128, .f32⟩
  | 38 => ⟨S160000x128, .f32⟩
  | 39 => ⟨S160000x128, .f32⟩
  | 40 => ⟨S_, .f32⟩
  | 41 => ⟨S160000x128, .f32⟩
  | 42 => ⟨S160000x128, .f32⟩
  | 43 => ⟨S_, .f32⟩
  | 44 => ⟨S160000x128, .f32⟩
  | 45 => ⟨S160000x128, .f32⟩
  | 46 => ⟨S160000x128, .f32⟩
  | 47 => ⟨S_, .f32⟩
  | 48 => ⟨S160000x128, .f32⟩
  | 49 => ⟨S160000x128, .f32⟩
  | 50 => ⟨S160000x128, .f32⟩
  | 51 => ⟨S160000x1, .f32⟩
  | 52 => ⟨S1x1, .f32⟩
  | 53 => ⟨S160000x1, .f32⟩
  | 54 => ⟨S160000x1, .f32⟩
  | 55 => ⟨S160000, .f32⟩
  | 56 => ⟨S_, .f32⟩
  | 57 => ⟨S160000, .f32⟩
  | 58 => ⟨S160000, .f32⟩
  | 59 => ⟨S160000, .f32⟩
  | 60 => ⟨S512x256, .f32⟩
  | 61 => ⟨S_, .f32⟩
  | 62 => ⟨S512, .f32⟩
  | 63 => ⟨S512x1, .f32⟩
  | 64 => ⟨S_, .f32⟩
  | 65 => ⟨S512x1, .f32⟩
  | 66 => ⟨S512x1, .f32⟩
  | 67 => ⟨S512x256, .f32⟩
  | 68 => ⟨S512x256, .f32⟩
  | 69 => ⟨S512x256, .f32⟩
  | 70 => ⟨S_, .f32⟩
  | 71 => ⟨S512, .f32⟩
  | 72 => ⟨S512x1, .f32⟩
  | 73 => ⟨S_, .f32⟩
  | 74 => ⟨S512x1, .f32⟩
  | 75 => ⟨S512x1, .f32⟩
  | 76 => ⟨S512x256, .f32⟩
  | 77 => ⟨S512x256, .f32⟩
  | 78 => ⟨S_, .f32⟩
  | 79 => ⟨S512x1, .f32⟩
  | 80 => ⟨S512x1, .f32⟩
  | 81 => ⟨S512x1, .f32⟩
  | 82 => ⟨S512x256, .f32⟩
  | 83 => ⟨S512x256, .f32⟩
  | 84 => ⟨S1x256, .f32⟩
  | 85 => ⟨S512x256, .f32⟩
  | 86 => ⟨S512x256, .f32⟩
  | 87 => ⟨S1x256, .f32⟩
  | 88 => ⟨S512x256, .f32⟩
  | 89 => ⟨S512x256, .f32⟩
  | 90 => ⟨S512x128, .f32⟩
  | 91 => ⟨S1x128, .f32⟩
  | 92 => ⟨S512x128, .f32⟩
  | 93 => ⟨S512x128, .f32⟩
  | 94 => ⟨S_, .f32⟩
  | 95 => ⟨S512x128, .f32⟩
  | 96 => ⟨S512x128, .f32⟩
  | 97 => ⟨S_, .f32⟩
  | 98 => ⟨S512x128, .f32⟩
  | 99 => ⟨S512x128, .f32⟩
  | 100 => ⟨S512x128, .f32⟩
  | 101 => ⟨S_, .f32⟩
  | 102 => ⟨S512x128, .f32⟩
  | 103 => ⟨S512x128, .f32⟩
  | 104 => ⟨S512x128, .f32⟩
  | 105 => ⟨S512x1, .f32⟩
  | 106 => ⟨S1x1, .f32⟩
  | 107 => ⟨S512x1, .f32⟩
  | 108 => ⟨S512x1, .f32⟩
  | 109 => ⟨S512, .f32⟩
  | 110 => ⟨S20x1x8000, .f32⟩
  | 111 => ⟨S512x1, .f32⟩
  | _ => ⟨S160000x128, .f32⟩

abbrev hbmTy (i : Nat) : BufTy := match i / 128 with
  | 0 => hbmTy0_0 i
  | 1 => hbmTy0_1 i
  | 2 => hbmTy0_2 i
  | _ => ⟨S160000x128, .f32⟩

abbrev bufTy : (tb : Table) → Fin (tcTables nBuf tb) → BufTy
  | .hbm, ⟨i, _⟩ => hbmTy i
  | _, _ => ⟨S160000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_c : Ref sig .tc := ⟨.hbm, 28, rfl⟩
abbrev main_v0 : Ref sig .tc := ⟨.hbm, 29, rfl⟩
abbrev main_v1 : Ref sig .tc := ⟨.hbm, 30, rfl⟩
abbrev main_c_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_cst : Ref sig .tc := ⟨.hbm, 37, rfl⟩
abbrev main_v7 : Ref sig .tc := ⟨.hbm, 38, rfl⟩
abbrev main_v8 : Ref sig .tc := ⟨.hbm, 39, rfl⟩
abbrev main_cst_1 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst_2 : Ref sig .tc := ⟨.hbm, 46, rfl⟩
abbrev main_v14 : Ref sig .tc := ⟨.hbm, 47, rfl⟩
abbrev main_v15 : Ref sig .tc := ⟨.hbm, 48, rfl⟩
abbrev main_cst_3 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_cst_4 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_cst_5 : Ref sig .tc := ⟨.hbm, 70, rfl⟩
abbrev main_v35 : Ref sig .tc := ⟨.hbm, 71, rfl⟩
abbrev main_v36 : Ref sig .tc := ⟨.hbm, 72, rfl⟩
abbrev main_cst_6 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_7 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_8 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_cst_9 : Ref sig .tc := ⟨.hbm, 90, rfl⟩
abbrev main_v51 : Ref sig .tc := ⟨.hbm, 91, rfl⟩
abbrev main_v52 : Ref sig .tc := ⟨.hbm, 92, rfl⟩
abbrev main_cst_10 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_11 : Ref sig .tc := ⟨.hbm, 99, rfl⟩
abbrev main_v58 : Ref sig .tc := ⟨.hbm, 100, rfl⟩
abbrev main_v59 : Ref sig .tc := ⟨.hbm, 101, rfl⟩
abbrev main_cst_12 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_cst_13 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_cst_14 : Ref sig .tc := ⟨.hbm, 123, rfl⟩
abbrev main_v79 : Ref sig .tc := ⟨.hbm, 124, rfl⟩
abbrev main_v80 : Ref sig .tc := ⟨.hbm, 125, rfl⟩
abbrev main_cst_15 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_cst_16 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_cst_17 : Ref sig .tc := ⟨.hbm, 138, rfl⟩
abbrev main_v91 : Ref sig .tc := ⟨.hbm, 139, rfl⟩
abbrev main_v92 : Ref sig .tc := ⟨.hbm, 140, rfl⟩
abbrev main_cst_18 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_cst_19 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_cst_20 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_cst_21 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_cst_22 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_cst_23 : Ref sig .tc := ⟨.hbm, 169, rfl⟩
abbrev main_v116 : Ref sig .tc := ⟨.hbm, 170, rfl⟩
abbrev main_v117 : Ref sig .tc := ⟨.hbm, 171, rfl⟩
abbrev main_cst_24 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_cst_25 : Ref sig .tc := ⟨.hbm, 178, rfl⟩
abbrev main_v123 : Ref sig .tc := ⟨.hbm, 179, rfl⟩
abbrev main_v124 : Ref sig .tc := ⟨.hbm, 180, rfl⟩
abbrev main_cst_26 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_cst_27 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_c_28 : Ref sig .tc := ⟨.hbm, 198, rfl⟩
abbrev main_v140 : Ref sig .tc := ⟨.hbm, 199, rfl⟩
abbrev main_v141 : Ref sig .tc := ⟨.hbm, 200, rfl⟩
abbrev main_c_29 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_c_30 : Ref sig .tc := ⟨.hbm, 208, rfl⟩
abbrev main_v148 : Ref sig .tc := ⟨.hbm, 209, rfl⟩
abbrev main_v149 : Ref sig .tc := ⟨.hbm, 210, rfl⟩
abbrev main_c_31 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_cst_32 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_cst_33 : Ref sig .tc := ⟨.hbm, 224, rfl⟩
abbrev main_v161 : Ref sig .tc := ⟨.hbm, 225, rfl⟩
abbrev main_v162 : Ref sig .tc := ⟨.hbm, 226, rfl⟩
abbrev main_cst_34 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_cst_35 : Ref sig .tc := ⟨.hbm, 233, rfl⟩
abbrev main_v168 : Ref sig .tc := ⟨.hbm, 234, rfl⟩
abbrev main_v169 : Ref sig .tc := ⟨.hbm, 235, rfl⟩
abbrev main_cst_36 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_cst_37 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_c_38 : Ref sig .tc := ⟨.hbm, 253, rfl⟩
abbrev main_v185 : Ref sig .tc := ⟨.hbm, 254, rfl⟩
abbrev main_v186 : Ref sig .tc := ⟨.hbm, 255, rfl⟩
abbrev main_c_39 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_cst_40 : Ref sig .tc := ⟨.hbm, 263, rfl⟩
abbrev main_v193 : Ref sig .tc := ⟨.hbm, 264, rfl⟩
abbrev main_v194 : Ref sig .tc := ⟨.hbm, 265, rfl⟩
abbrev main_cst_41 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_v198 : Ref sig .tc := ⟨.hbm, 270, rfl⟩
abbrev main_v199 : Ref sig .tc := ⟨.hbm, 271, rfl⟩
abbrev main_cst_42 : Ref sig .tc := ⟨.hbm, 272, rfl⟩
abbrev main_v200 : Ref sig .tc := ⟨.hbm, 273, rfl⟩
abbrev main_v201 : Ref sig .tc := ⟨.hbm, 274, rfl⟩
abbrev main_cst_43 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_cst_44 : Ref sig .tc := ⟨.hbm, 280, rfl⟩
abbrev main_v206 : Ref sig .tc := ⟨.hbm, 281, rfl⟩
abbrev main_v207 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_v211 : Ref sig .tc := ⟨.hbm, 286, rfl⟩
abbrev main_v212 : Ref sig .tc := ⟨.hbm, 287, rfl⟩
abbrev main_v213 : Ref sig .tc := ⟨.hbm, 288, rfl⟩
abbrev main_v214 : Ref sig .tc := ⟨.hbm, 289, rfl⟩
abbrev main_v215 : Ref sig .tc := ⟨.hbm, 290, rfl⟩
abbrev main_v216 : Ref sig .tc := ⟨.hbm, 291, rfl⟩
abbrev main_v217 : Ref sig .tc := ⟨.hbm, 292, rfl⟩
abbrev main_v218 : Ref sig .tc := ⟨.hbm, 293, rfl⟩
abbrev main_v219 : Ref sig .tc := ⟨.hbm, 294, rfl⟩
abbrev main_v220 : Ref sig .tc := ⟨.hbm, 295, rfl⟩
abbrev main_cst_45 : Ref sig .tc := ⟨.hbm, 296, rfl⟩
abbrev main_v221 : Ref sig .tc := ⟨.hbm, 297, rfl⟩
abbrev main_v222 : Ref sig .tc := ⟨.hbm, 298, rfl⟩
abbrev main_cst_46 : Ref sig .tc := ⟨.hbm, 299, rfl⟩
abbrev main_v223 : Ref sig .tc := ⟨.hbm, 300, rfl⟩
abbrev main_v224 : Ref sig .tc := ⟨.hbm, 301, rfl⟩
abbrev main_v225 : Ref sig .tc := ⟨.hbm, 302, rfl⟩
abbrev main_cst_47 : Ref sig .tc := ⟨.hbm, 303, rfl⟩
abbrev main_v226 : Ref sig .tc := ⟨.hbm, 304, rfl⟩
abbrev main_v227 : Ref sig .tc := ⟨.hbm, 305, rfl⟩
abbrev main_v228 : Ref sig .tc := ⟨.hbm, 306, rfl⟩
abbrev main_v229 : Ref sig .tc := ⟨.hbm, 307, rfl⟩
abbrev main_v230 : Ref sig .tc := ⟨.hbm, 308, rfl⟩
abbrev main_v231 : Ref sig .tc := ⟨.hbm, 309, rfl⟩
abbrev main_v232 : Ref sig .tc := ⟨.hbm, 310, rfl⟩
abbrev main_v233 : Ref sig .tc := ⟨.hbm, 311, rfl⟩
abbrev main_cst_48 : Ref sig .tc := ⟨.hbm, 312, rfl⟩
abbrev main_v234 : Ref sig .tc := ⟨.hbm, 313, rfl⟩
abbrev main_v235 : Ref sig .tc := ⟨.hbm, 314, rfl⟩
abbrev main_v236 : Ref sig .tc := ⟨.hbm, 315, rfl⟩
abbrev main_v237 : Ref sig .tc := ⟨.hbm, 316, rfl⟩
abbrev main_cst_49 : Ref sig .tc := ⟨.hbm, 317, rfl⟩
abbrev main_v238 : Ref sig .tc := ⟨.hbm, 318, rfl⟩
abbrev main_v239 : Ref sig .tc := ⟨.hbm, 319, rfl⟩
abbrev main_cst_50 : Ref sig .tc := ⟨.hbm, 320, rfl⟩
abbrev main_v240 : Ref sig .tc := ⟨.hbm, 321, rfl⟩
abbrev main_v241 : Ref sig .tc := ⟨.hbm, 322, rfl⟩
abbrev main_v242 : Ref sig .tc := ⟨.hbm, 323, rfl⟩
abbrev main_v243 : Ref sig .tc := ⟨.hbm, 324, rfl⟩
abbrev main_v244 : Ref sig .tc := ⟨.hbm, 325, rfl⟩
abbrev main_cst_51 : Ref sig .tc := ⟨.hbm, 326, rfl⟩
abbrev main_v245 : Ref sig .tc := ⟨.hbm, 327, rfl⟩
abbrev main_v246 : Ref sig .tc := ⟨.hbm, 328, rfl⟩
abbrev main_cst_52 : Ref sig .tc := ⟨.hbm, 329, rfl⟩
abbrev main_v247 : Ref sig .tc := ⟨.hbm, 330, rfl⟩
abbrev main_v248 : Ref sig .tc := ⟨.hbm, 331, rfl⟩
abbrev main_v249 : Ref sig .tc := ⟨.hbm, 332, rfl⟩
abbrev main_v250 : Ref sig .tc := ⟨.hbm, 333, rfl⟩
abbrev main_cst_53 : Ref sig .tc := ⟨.hbm, 334, rfl⟩
abbrev main_v251 : Ref sig .tc := ⟨.hbm, 335, rfl⟩
abbrev main_v252 : Ref sig .tc := ⟨.hbm, 336, rfl⟩
abbrev main_v253 : Ref sig .tc := ⟨.hbm, 337, rfl⟩
abbrev main_v254 : Ref sig .tc := ⟨.hbm, 338, rfl⟩
abbrev main_v255 : Ref sig .tc := ⟨.hbm, 339, rfl⟩
abbrev main_v256 : Ref sig .tc := ⟨.hbm, 340, rfl⟩
abbrev main_v257 : Ref sig .tc := ⟨.hbm, 341, rfl⟩
abbrev main_v258 : Ref sig .tc := ⟨.hbm, 342, rfl⟩
abbrev main_v259 : Ref sig .tc := ⟨.hbm, 343, rfl⟩
abbrev main_v260 : Ref sig .tc := ⟨.hbm, 344, rfl⟩
abbrev main_v261 : Ref sig .tc := ⟨.hbm, 345, rfl⟩
abbrev main_v262 : Ref sig .tc := ⟨.hbm, 346, rfl⟩
abbrev main_v263 : Ref sig .tc := ⟨.hbm, 347, rfl⟩
abbrev main_v264 : Ref sig .tc := ⟨.hbm, 348, rfl⟩
abbrev main_v265 : Ref sig .tc := ⟨.hbm, 349, rfl⟩
abbrev main_cst_54 : Ref sig .tc := ⟨.hbm, 350, rfl⟩
abbrev main_v266 : Ref sig .tc := ⟨.hbm, 351, rfl⟩
abbrev main_v267 : Ref sig .tc := ⟨.hbm, 352, rfl⟩
abbrev main_cst_55 : Ref sig .tc := ⟨.hbm, 353, rfl⟩
abbrev main_v268 : Ref sig .tc := ⟨.hbm, 354, rfl⟩
abbrev main_v269 : Ref sig .tc := ⟨.hbm, 355, rfl⟩
abbrev main_v270 : Ref sig .tc := ⟨.hbm, 356, rfl⟩
abbrev main_cst_56 : Ref sig .tc := ⟨.hbm, 357, rfl⟩
abbrev main_v271 : Ref sig .tc := ⟨.hbm, 358, rfl⟩
abbrev main_v272 : Ref sig .tc := ⟨.hbm, 359, rfl⟩
abbrev main_v273 : Ref sig .tc := ⟨.hbm, 360, rfl⟩
abbrev main_v274 : Ref sig .tc := ⟨.hbm, 361, rfl⟩
abbrev main_v275 : Ref sig .tc := ⟨.hbm, 362, rfl⟩
abbrev main_v276 : Ref sig .tc := ⟨.hbm, 363, rfl⟩
abbrev main_v277 : Ref sig .tc := ⟨.hbm, 364, rfl⟩
abbrev main_v278 : Ref sig .tc := ⟨.hbm, 365, rfl⟩
abbrev main_v279 : Ref sig .tc := ⟨.hbm, 366, rfl⟩
abbrev main_v280 : Ref sig .tc := ⟨.hbm, 367, rfl⟩

abbrev nD : Nat := 1
abbrev τ : Topo := Topo.v7x

variable {F : FTy → Type} [FloatOps F]
-- ==== Proof.Kernel.Step.lean ====
module

public import proofs.«01_k».proof.Proof.Gen.Kernel.Skeleton
public import proofs.«01_k».proof.Proof.Gen.Kernel.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.Frame
public import Idealize.ShloMosaic.Lib.Writes
public import Idealize.ShloMosaic.Lib.WritesUnit
public import Idealize.ShloMosaic.Lib.WholeRead
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init
public import Idealize.ShloMosaic.Lib.VecWindow

@[expose] public section

set_option maxRecDepth 16384
set_option Elab.async false

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The prefetched table, in scalar memory. -/
abbrev tbM0_0 : Memref sig .tc .smem S20x2 .i32 := Memref.whole main_v16
/-- The projected questions, kept between the points. -/
abbrev scM0_0 : Memref sig .tc .vmem S512x128 .f32 := Memref.whole cc0_scratch0
/-- The running sums per graph. -/
abbrev scM0_1 : Memref sig .tc .vmem S512x128 .f32 := Memref.whole cc0_scratch1
/-- The running counts per graph. -/
abbrev scM0_2 : Memref sig .tc .vmem S512x1 .f32 := Memref.whole cc0_scratch2

/-- The staging buffers one grid point works on, each whole. -/
structure Args where
  a2 : Memref sig .tc .vmem S1x1x8000 .i32
  h2 : a2.IsWhole
  a3 : Memref sig .tc .vmem S1x1x8000 .f32
  h3 : a3.IsWhole
  a4 : Memref sig .tc .vmem S8000x128 .f32
  h4 : a4.IsWhole
  a5 : Memref sig .tc .vmem S512x128 .f32
  h5 : a5.IsWhole
  a6 : Memref sig .tc .vmem S1x128 .f32
  h6 : a6.IsWhole
  a7 : Memref sig .tc .vmem S1x128 .f32
  h7 : a7.IsWhole
  a8 : Memref sig .tc .vmem S128x128 .f32
  h8 : a8.IsWhole
  a9 : Memref sig .tc .vmem S1x128 .f32
  h9 : a9.IsWhole
  a10 : Memref sig .tc .vmem S128x128 .bf16
  h10 : a10.IsWhole
  a11 : Memref sig .tc .vmem S1x128 .f32
  h11 : a11.IsWhole
  a12 : Memref sig .tc .vmem S1x128 .f32
  h12 : a12.IsWhole
  a13 : Memref sig .tc .vmem S128x128 .bf16
  h13 : a13.IsWhole
  a14 : Memref sig .tc .vmem S1x128 .f32
  h14 : a14.IsWhole
  a15 : Memref sig .tc .vmem S1x128 .f32
  h15 : a15.IsWhole
  a16 : Memref sig .tc .vmem S1x128 .f32
  h16 : a16.IsWhole
  a17 : Memref sig .tc .vmem S1x256 .f32
  h17 : a17.IsWhole
  a18 : Memref sig .tc .vmem S1x256 .f32
  h18 : a18.IsWhole
  a19 : Memref sig .tc .vmem S256x128 .f32
  h19 : a19.IsWhole
  a20 : Memref sig .tc .vmem S1x128 .f32
  h20 : a20.IsWhole
  a21 : Memref sig .tc .vmem S128x1 .f32
  h21 : a21.IsWhole
  a22 : Memref sig .tc .vmem S1x1 .f32
  h22 : a22.IsWhole
  a23 : Memref sig .tc .vmem S1x1 .f32
  h23 : a23.IsWhole
  a24 : Memref sig .tc .vmem S1x1x8000 .f32
  h24 : a24.IsWhole
  a25 : Memref sig .tc .vmem S512x1 .f32
  h25 : a25.IsWhole
  a26 : Memref sig .tc .vmem S512x128 .f32
  h26 : a26.IsWhole

/-- The blocks of the twenty-two inputs at one grid point. -/
structure Ins where
  x2 : S1x1x8000.Idx → Elt Bits .i32
  x3 : S1x1x8000.Idx → Elt Bits .f32
  x4 : S8000x128.Idx → Elt Bits .f32
  x5 : S512x128.Idx → Elt Bits .f32
  x6 : S1x128.Idx → Elt Bits .f32
  x7 : S1x128.Idx → Elt Bits .f32
  x8 : S128x128.Idx → Elt Bits .f32
  x9 : S1x128.Idx → Elt Bits .f32
  x10 : S128x128.Idx → Elt Bits .bf16
  x11 : S1x128.Idx → Elt Bits .f32
  x12 : S1x128.Idx → Elt Bits .f32
  x13 : S128x128.Idx → Elt Bits .bf16
  x14 : S1x128.Idx → Elt Bits .f32
  x15 : S1x128.Idx → Elt Bits .f32
  x16 : S1x128.Idx → Elt Bits .f32
  x17 : S1x256.Idx → Elt Bits .f32
  x18 : S1x256.Idx → Elt Bits .f32
  x19 : S256x128.Idx → Elt Bits .f32
  x20 : S1x128.Idx → Elt Bits .f32
  x21 : S128x1.Idx → Elt Bits .f32
  x22 : S1x1.Idx → Elt Bits .f32
  x23 : S1x1.Idx → Elt Bits .f32

/-- The input staging buffers, each holding its block. -/
def held (c : Dev nD) (A : Args) (X : Ins) : sProp 𝕄 :=
  iprop((A.a2.view.loc (c : Thread nD τ) ↦[A.a2.view.set]{fullShare} A.a2.view.rep X.x2)
    ∗ (A.a3.view.loc (c : Thread nD τ) ↦[A.a3.view.set]{fullShare} A.a3.view.rep X.x3)
    ∗ (A.a4.view.loc (c : Thread nD τ) ↦[A.a4.view.set]{fullShare} A.a4.view.rep X.x4)
    ∗ (A.a5.view.loc (c : Thread nD τ) ↦[A.a5.view.set]{fullShare} A.a5.view.rep X.x5)
    ∗ (A.a6.view.loc (c : Thread nD τ) ↦[A.a6.view.set]{fullShare} A.a6.view.rep X.x6)
    ∗ (A.a7.view.loc (c : Thread nD τ) ↦[A.a7.view.set]{fullShare} A.a7.view.rep X.x7)
    ∗ (A.a8.view.loc (c : Thread nD τ) ↦[A.a8.view.set]{fullShare} A.a8.view.rep X.x8)
    ∗ (A.a9.view.loc (c : Thread nD τ) ↦[A.a9.view.set]{fullShare} A.a9.view.rep X.x9)
    ∗ (A.a10.view.loc (c : Thread nD τ) ↦[A.a10.view.set]{fullShare} A.a10.view.rep X.x10)
    ∗ (A.a11.view.loc (c : Thread nD τ) ↦[A.a11.view.set]{fullShare} A.a11.view.rep X.x11)
    ∗ (A.a12.view.loc (c : Thread nD τ) ↦[A.a12.view.set]{fullShare} A.a12.view.rep X.x12)
    ∗ (A.a13.view.loc (c : Thread nD τ) ↦[A.a13.view.set]{fullShare} A.a13.view.rep X.x13)
    ∗ (A.a14.view.loc (c : Thread nD τ) ↦[A.a14.view.set]{fullShare} A.a14.view.rep X.x14)
    ∗ (A.a15.view.loc (c : Thread nD τ) ↦[A.a15.view.set]{fullShare} A.a15.view.rep X.x15)
    ∗ (A.a16.view.loc (c : Thread nD τ) ↦[A.a16.view.set]{fullShare} A.a16.view.rep X.x16)
    ∗ (A.a17.view.loc (c : Thread nD τ) ↦[A.a17.view.set]{fullShare} A.a17.view.rep X.x17)
    ∗ (A.a18.view.loc (c : Thread nD τ) ↦[A.a18.view.set]{fullShare} A.a18.view.rep X.x18)
    ∗ (A.a19.view.loc (c : Thread nD τ) ↦[A.a19.view.set]{fullShare} A.a19.view.rep X.x19)
    ∗ (A.a20.view.loc (c : Thread nD τ) ↦[A.a20.view.set]{fullShare} A.a20.view.rep X.x20)
    ∗ (A.a21.view.loc (c : Thread nD τ) ↦[A.a21.view.set]{fullShare} A.a21.view.rep X.x21)
    ∗ (A.a22.view.loc (c : Thread nD τ) ↦[A.a22.view.set]{fullShare} A.a22.view.rep X.x22)
    ∗ (A.a23.view.loc (c : Thread nD τ) ↦[A.a23.view.set]{fullShare} A.a23.view.rep X.x23))

/-- The kernel at one grid point on these buffers. -/
abbrev bodyOn (i : grid0.Coords) (A : Args) :=
  cc0__edge_kernel (F := Bits) i tbM0_0 (Memref.isWhole_whole _) A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 scM0_0 (Memref.isWhole_whole _) scM0_1 (Memref.isWhole_whole _) scM0_2 (Memref.isWhole_whole _)

/-- The first word of the table's row at this point: the window's offset. -/
abbrev loW (T0 : S20x2.Idx → Elt Bits .i32) (i : grid0.Coords) : BitVec 32 :=
  View.readAt (Elt Bits) (tbM0_0).view (Rect.unit (s := S20x2) (k0_off1 i) S1x1.size (k0_off1_inb i)).toLoadRect T0 (Shape.Idx.first (numel1_S1x1.symm ▸ Nat.one_pos))

/-- The second word of the table's row at this point: whether the window is too narrow. -/
abbrev wideW (T0 : S20x2.Idx → Elt Bits .i32) (i : grid0.Coords) : BitVec 32 :=
  View.readAt (Elt Bits) (tbM0_0).view (Rect.unit (s := S20x2) (k0_off2 i) S1x1.size (k0_off2_inb i)).toLoadRect T0 (Shape.Idx.first (numel1_S1x1.symm ▸ Nat.one_pos))

/-- The point is the first one. -/
abbrev atFirst (i : grid0.Coords) : Prop := (Scalar.cmpi .ne (Scalar.extui (Scalar.cmpi .eq (BitVec.ofNat 32 (i 0).val) 0#32)) 0#32) = 1#1
/-- The window is too narrow for this block. -/
abbrev isWide (w : BitVec 32) : Prop := (Scalar.cmpi .ne (Scalar.extui (Scalar.cmpi .ne w 0#32)) 0#32) = 1#1

/-! ## What one grid point computes, on tensors -/

/-- What the scratch buffers hold between two grid points: the projected questions, the running sums, the running counts. -/
structure Scr where
  qf : S512x128.Idx → Elt Bits .f32
  acc : S512x128.Idx → Elt Bits .f32
  cnt : S512x1.Idx → Elt Bits .f32

/-- Sixty-four rows of a 128-wide array from row `o` (wrapping around, so that it is total). -/
def rows128 (o : ℕ) (x : S512x128.Idx → Elt Bits .f32) : S64x128.Idx → Elt Bits .f32 := fun j =>
  x (fun a => match a with
    | ⟨0, _⟩ => ⟨(o + (j 0).val) % 512, Nat.mod_lt _ (by decide)⟩
    | ⟨1, _⟩ => ⟨(j 1).val, (j 1).isLt⟩)

/-- Sixty-four rows of a one-wide array from row `o`. -/
def rows1 (o : ℕ) (x : S512x1.Idx → Elt Bits .f32) : S64x1.Idx → Elt Bits .f32 := fun j =>
  x (fun a => match a with
    | ⟨0, _⟩ => ⟨(o + (j 0).val) % 512, Nat.mod_lt _ (by decide)⟩
    | ⟨1, _⟩ => ⟨(j 1).val, (j 1).isLt⟩)

/-- What the first point puts into the scratch buffers. -/
def start (X : Ins) : Scr := ⟨k0_pay15 (F := Bits) (k0_pay2 (F := Bits) X.x5 X.x6 X.x7 X.x8 X.x9), k0_pay16 (F := Bits), k0_pay17 (F := Bits)⟩

/-- One point on the narrow path: a window of sixty-four graphs from `lo`. -/
def stepN (X : Ins) (lo : BitVec 32) (S : Scr) : Scr :=
  ⟨S.qf,
   VecWindow.put S.acc (k0_off3 lo) S64x128.size
     (k0_pay6 (F := Bits) lo (k0_pay18 (F := Bits) X.x2) (k0_pay21 (F := Bits) X.x3) (k0_pay3 (F := Bits) lo (k0_pay20 (F := Bits) X.x2) (rows128 (k0_off3 lo 0) S.qf) X.x4 X.x10 X.x11)
       (k0_pay4 (F := Bits) X.x12) X.x13 X.x14 (rows128 (k0_off3 lo 0) S.acc)),
   VecWindow.put S.cnt (k0_off4 lo) S64x1.size
     (k0_pay22 (F := Bits) X.x3 (k0_pay5 (F := Bits) lo (k0_pay18 (F := Bits) X.x2)) (rows1 (k0_off4 lo 0) S.cnt))⟩

/-- One point on the wide path: all 512 graphs. -/
def stepW (X : Ins) (S : Scr) : Scr :=
  ⟨S.qf,
   k0_pay9 (F := Bits) (k0_pay18 (F := Bits) X.x2) (k0_pay21 (F := Bits) X.x3) (k0_pay7 (F := Bits) (k0_pay20 (F := Bits) X.x2) S.qf X.x4 X.x10 X.x11 X.x12)
     (Scalar.ofBits .f32 0x3F000000#32) X.x13 X.x14 S.acc,
   k0_pay23 (F := Bits) (k0_pay8 (F := Bits) (k0_pay18 (F := Bits) X.x2)) S.cnt (k0_pay10 (F := Bits) (k0_pay19 (F := Bits) X.x3))⟩

/-- The logits a point writes. -/
def elogOf (X : Ins) : S1x1x8000.Idx → Elt Bits .f32 := k0_pay24 (F := Bits) X.x3 X.x23

/-- The current state the last point writes. -/
def curOf (X : Ins) (S : Scr) : S512x128.Idx → Elt Bits .f32 := k0_pay11 (F := Bits) X.x5 S.cnt S.acc X.x15 X.x16

/-- The stop logits the last point writes. -/
def stopOf (X : Ins) (S : Scr) : S512x1.Idx → Elt Bits .f32 :=
  k0_pay1 (F := Bits) (k0_pay14 (F := Bits) (k0_pay12 (F := Bits) X.x5 S.cnt S.acc X.x15 X.x16) (k0_pay13 (F := Bits) X.x17) X.x18 X.x19 X.x20 X.x21) X.x22

/-- A load of sixty-four rows of a buffer reads those rows. -/
theorem window_rows128 (x : S512x128.Idx → Elt Bits .f32) (lo : BitVec 32) (inb : ∀ a, k0_off3 lo a + S64x128.size a ≤ S512x128.size a) :
    VecWindow.window x (k0_off3 lo) S64x128.size inb = rows128 (k0_off3 lo 0) x := by
  funext j
  have h0 : k0_off3 lo 0 + 64 ≤ 512 := inb 0
  have hj : (j 0).val < 64 := (j 0).isLt
  unfold VecWindow.window rows128
  congr 1; funext a
  match a with
  | ⟨0, _⟩ =>
    apply Fin.ext
    show k0_off3 lo 0 + 1 * (j 0).val = (k0_off3 lo 0 + (j 0).val) % 512
    omega
  | ⟨1, _⟩ =>
    apply Fin.ext
    show 0 + 1 * (j 1).val = (j 1).val
    omega

/-- A load of sixty-four counts reads those counts. -/
theorem window_rows1 (x : S512x1.Idx → Elt Bits .f32) (lo : BitVec 32) (inb : ∀ a, k0_off4 lo a + S64x1.size a ≤ S512x1.size a) :
    VecWindow.window x (k0_off4 lo) S64x1.size inb = rows1 (k0_off4 lo 0) x := by
  funext j
  have h0 : k0_off4 lo 0 + 64 ≤ 512 := inb 0
  have hj : (j 0).val < 64 := (j 0).isLt
  unfold VecWindow.window rows1
  congr 1; funext a
  match a with
  | ⟨0, _⟩ =>
    apply Fin.ext
    show k0_off4 lo 0 + 1 * (j 0).val = (k0_off4 lo 0 + (j 0).val) % 512
    omega
  | ⟨1, _⟩ =>
    apply Fin.ext
    show 0 + 1 * (j 1).val = (j 1).val
    omega

/-- A load of sixty-four rows at the window's offset, of any contents. -/
theorem readAt_rows128 {sp : Space} (v : View sig .tc sp S512x128 .f32) (f : v.ty.Contents (Elt Bits)) (lo : BitVec 32) (inb : ∀ a, k0_off3 lo a + S64x128.size a ≤ S512x128.size a) :
    v.readAt (Elt Bits) (Rect.unit (s := S512x128) (k0_off3 lo) S64x128.size inb).toLoadRect f = rows128 (k0_off3 lo 0) (v.read (Elt Bits) f) := by
  rw [View.readAt_unit v f inb rfl inb, window_rows128]

/-- A load of sixty-four counts at the window's offset, of any contents. -/
theorem readAt_rows1 {sp : Space} (v : View sig .tc sp S512x1 .f32) (f : v.ty.Contents (Elt Bits)) (lo : BitVec 32) (inb : ∀ a, k0_off4 lo a + S64x1.size a ≤ S512x1.size a) :
    v.readAt (Elt Bits) (Rect.unit (s := S512x1) (k0_off4 lo) S64x1.size inb).toLoadRect f = rows1 (k0_off4 lo 0) (v.read (Elt Bits) f) := by
  rw [View.readAt_unit v f inb rfl inb, window_rows1]

/-- The six buffers a point may change, at given contents, and the table. -/
def outs (c : Dev nD) (A : Args) (T0 : S20x2.Idx → Elt Bits .i32) (y22 : S1x1x8000.Idx → Elt Bits .f32) (y23 : S512x1.Idx → Elt Bits .f32)
    (y24 : S512x128.Idx → Elt Bits .f32) (S : Scr) : sProp 𝕄 :=
  iprop((tbM0_0.view.loc (c : Thread nD τ) ↦{fullShare.right} T0)
    ∗ owns (c : Thread nD τ) A.a24 fullShare y22 ∗ owns (c : Thread nD τ) A.a25 fullShare y23 ∗ owns (c : Thread nD τ) A.a26 fullShare y24
    ∗ owns (c : Thread nD τ) scM0_0 fullShare S.qf ∗ owns (c : Thread nD τ) scM0_1 fullShare S.acc ∗ owns (c : Thread nD τ) scM0_2 fullShare S.cnt)

end Cert.Kernel.Hand

end
-- ==== Proof.Kernel.Kit.lean ====
module

public import proofs.«01_k».proof.Proof.Gen.Kernel.Skeleton
public import proofs.«01_k».proof.Proof.Gen.Kernel.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.Frame
public import Idealize.ShloMosaic.Lib.Writes
public import Idealize.ShloMosaic.Lib.WritesUnit
public import Idealize.ShloMosaic.Lib.WholeRead
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init
public import Idealize.ShloMosaic.Lib.StableHlo.RunRead
public import Idealize.ShloMosaic.Lib.Pointwise
public import proofs.«01_k».proof.Proof.Kernel.Step

@[expose] public section

set_option maxRecDepth 16384
set_option Elab.async false

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable (m : (ℓ : Loc nD τ sig) → Buf (Elt Bits) ℓ) (c : Dev nD)

/-! ## The buffers when the kernel starts -/

/-- The contents of the buffers after the operations before the kernel. -/
def W : Valuation τ sig (Elt Bits) :=
  StableHlo.after ([hostOps0, hostOps0_1, hostOps0_2, hostOps0_3, hostOps0_4] : List (List (HloOp τ sig (Elt Bits)))).flatten (fun b => m (c, b))

/-- The same, buffer by buffer. -/
abbrev V (c : Dev nD) (b : Ref sig .tc) : Buf (Elt Bits) ((c.tc : Thread nD τ).loc b) := W m c (Proc.devRef .tc b)

/-- No operation of a stretch allocates anything. -/
theorem fresh0 : (hostOps0 : List (HloOp τ sig (Elt Bits))).Forall fun op => op.fresh = ∅ := by
  simp only [List.Forall]; repeat' constructor
/-- No operation of a stretch allocates anything. -/
theorem fresh1 : (hostOps0_1 : List (HloOp τ sig (Elt Bits))).Forall fun op => op.fresh = ∅ := by
  simp only [List.Forall]; repeat' constructor
/-- No operation of a stretch allocates anything. -/
theorem fresh2 : (hostOps0_2 : List (HloOp τ sig (Elt Bits))).Forall fun op => op.fresh = ∅ := by
  simp only [List.Forall]; repeat' constructor
/-- No operation of a stretch allocates anything. -/
theorem fresh3 : (hostOps0_3 : List (HloOp τ sig (Elt Bits))).Forall fun op => op.fresh = ∅ := by
  simp only [List.Forall]; repeat' constructor
/-- No operation of a stretch allocates anything. -/
theorem fresh4 : (hostOps0_4 : List (HloOp τ sig (Elt Bits))).Forall fun op => op.fresh = ∅ := by
  simp only [List.Forall]; repeat' constructor

set_option maxHeartbeats 800000 in
/-- The program is its host operations, then the kernel. -/
theorem hmain : Pipeline.HMainP (Ix := Unit) (Name := ℕ) (U := UR sig nD τ) (Lvl := ℕ) (pcfgs (F := Bits)) (0 : Fin 1) (defs₀ (F := Bits)) Variants.none m (main (F := Bits)) (V m) :=
  Pipeline.hmainP_prefixes (pcfgs (F := Bits)) (0 : Fin 1) (defs₀ (F := Bits)) Variants.none m (main (F := Bits)) [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨fresh0, fresh1, fresh2, fresh3, fresh4⟩)
    (main_chain (F := Bits))

/-! ## The table of windows -/

/-- The table from its two columns. -/
def tabOf (a b : S20x1.Idx → Elt Bits .i32) : S20x2.Idx → Elt Bits .i32 :=
  concatenate S20x2 1 [⟨S20x1, a⟩, ⟨S20x1, b⟩] concatenates_S20x1_S20x1_S20x2_d1

/-- The least graph of every block. -/
def minOf (ids : S160000.Idx → Elt Bits .i32) : S20.Idx → Elt Bits .i32 :=
  Host.reduce IntOp.minsi (shapeCast S20x8000 ids shapeCasts_S160000_S20x8000) (constantI S_ 32 2147483647#32) reducesTo_S20x8000_S20_d1 h_S_

/-- The greatest graph of every block. -/
def maxOf (ids : S160000.Idx → Elt Bits .i32) : S20.Idx → Elt Bits .i32 :=
  Host.reduce IntOp.maxsi (shapeCast S20x8000 ids shapeCasts_S160000_S20x8000) (constantI S_ 32 2147483648#32) reducesTo_S20x8000_S20_d1 h_S_

/-- A word for every block. -/
def all20 (k : BitVec 32) : S20.Idx → Elt Bits .i32 := broadcastInDim S20 ![] bcast_S_S20 (constantI S_ 32 k)

/-- An eighth of every word, rounded down. -/
def eighth (x : S20.Idx → Elt Bits .i32) : S20.Idx → Elt Bits .i32 :=
  select (andi (cmpi .ne (signi x) (broadcastInDim S20 ![] bcast_S_S20 (signi (constantI S_ 32 8#32)))) (cmpi .ne (Host.remsi x (all20 8#32)) (all20 0#32)))
    (subi (Host.divsi x (all20 8#32)) (all20 1#32)) (Host.divsi x (all20 8#32))

/-- Where the window of every block starts. -/
def loOf (ids : S160000.Idx → Elt Bits .i32) : S20.Idx → Elt Bits .i32 :=
  minsi (all20 448#32) (maxsi (all20 0#32) (muli (eighth (minOf ids)) (all20 8#32)))

/-- Whether the window of a block is too narrow. -/
def wideOf (ids : S160000.Idx → Elt Bits .i32) : S20.Idx → Elt Bits .i32 :=
  extui 32 (cmpi .sge (subi (maxOf ids) (loOf ids)) (all20 64#32)) natLt_1_32

/-- Reading a buffer at its own type changes nothing. -/
theorem of_v4 (h1 h2 h3) (v : (⟨S20, .i32⟩ : BufTy).Contents (Elt Bits)) : (StableHlo.TRef.of main_v4 h1 h2 h3 : StableHlo.TRef sig ⟨S20, .i32⟩).ofBuf v = v := rfl
/-- Reading a buffer at its own type changes nothing. -/
theorem of_c_1 (h1 h2 h3) (v : (⟨S_, .i32⟩ : BufTy).Contents (Elt Bits)) : (StableHlo.TRef.of main_c_1 h1 h2 h3 : StableHlo.TRef sig ⟨S_, .i32⟩).ofBuf v = v := rfl
/-- Reading a buffer at its own type changes nothing. -/
theorem of_v8 (h1 h2 h3) (v : (⟨S20, .i32⟩ : BufTy).Contents (Elt Bits)) : (StableHlo.TRef.of main_v8 h1 h2 h3 : StableHlo.TRef sig ⟨S20, .i32⟩).ofBuf v = v := rfl
/-- Reading a buffer at its own type changes nothing. -/
theorem of_c_3 (h1 h2 h3) (v : (⟨S_, .i32⟩ : BufTy).Contents (Elt Bits)) : (StableHlo.TRef.of main_c_3 h1 h2 h3 : StableHlo.TRef sig ⟨S_, .i32⟩).ofBuf v = v := rfl
/-- Reading a buffer at its own type changes nothing. -/
theorem of_c_4 (h1 h2 h3) (v : (⟨S_, .i32⟩ : BufTy).Contents (Elt Bits)) : (StableHlo.TRef.of main_c_4 h1 h2 h3 : StableHlo.TRef sig ⟨S_, .i32⟩).ofBuf v = v := rfl
/-- Writing a buffer at its own type changes nothing. -/
theorem to_v6 (h1 h2 h3) (v : (⟨S20, .i32⟩ : BufTy).Contents (Elt Bits)) : (StableHlo.TRef.of main_v6 h1 h2 h3 : StableHlo.TRef sig ⟨S20, .i32⟩).toBuf v = v := rfl
/-- Writing a buffer at its own type changes nothing. -/
theorem to_v9 (h1 h2 h3) (v : (⟨S20, .i32⟩ : BufTy).Contents (Elt Bits)) : (StableHlo.TRef.of main_v9 h1 h2 h3 : StableHlo.TRef sig ⟨S20, .i32⟩).toBuf v = v := rfl

set_option maxHeartbeats 2000000 in
/-- The table in scalar memory is the two columns. -/
theorem W_v16 : W m c (Proc.devRef .tc main_v16)
    = tabOf (broadcastInDim S20x1 ![0] bcast_S20_S20x1_0 (loOf (m (c, Proc.devRef .tc main_arg2)))) (broadcastInDim S20x1 ![0] bcast_S20_S20x1_0 (wideOf (m (c, Proc.devRef .tc main_arg2)))) := by
  unfold W; after_reads_simp
  refine congrArg₂ tabOf ?_ ?_
  · after_reads_simp; simp only [StableHlo.TRef.ofBuf_toBuf, of_v4, of_c_1, of_v8, of_c_3, of_c_4, to_v6, to_v9, id]
    unfold loOf eighth minOf all20; rfl
  · after_reads_simp; simp only [StableHlo.TRef.ofBuf_toBuf, of_v4, of_c_1, of_v8, of_c_3, of_c_4, to_v6, to_v9, id]
    unfold wideOf loOf eighth minOf maxOf all20; rfl

/-- The table's contents. -/
abbrev T0 : S20x2.Idx → Elt Bits .i32 := V m 0 main_v16

/-- The first column of the table at a row. -/
theorem tab_lo (a b : S20.Idx → Elt Bits .i32) (r : S20.Idx) (j : S20x2.Idx) (h0 : (j 0).val = (r 0).val) (h1 : (j 1).val = 0) :
    tabOf (broadcastInDim S20x1 ![0] bcast_S20_S20x1_0 a) (broadcastInDim S20x1 ![0] bcast_S20_S20x1_0 b) j = a r := by
  unfold tabOf
  rw [concatenate_pair_apply]
  split
  swap
  · rename_i h; exact absurd (show (j 1).val < 1 by omega) h
  unfold broadcastInDim
  congr 1; funext x
  match x with
  | ⟨0, _⟩ => apply Fin.ext; simpa [Shape.Idx.norm_def] using h0

/-- The second column of the table at a row. -/
theorem tab_wide (a b : S20.Idx → Elt Bits .i32) (r : S20.Idx) (j : S20x2.Idx) (h0 : (j 0).val = (r 0).val) (h1 : (j 1).val = 1) :
    tabOf (broadcastInDim S20x1 ![0] bcast_S20_S20x1_0 a) (broadcastInDim S20x1 ![0] bcast_S20_S20x1_0 b) j = b r := by
  unfold tabOf
  rw [concatenate_pair_apply]
  split
  · rename_i h; exact absurd h (show ¬ (j 1).val < 1 by omega)
  unfold broadcastInDim
  congr 1; funext x
  match x with
  | ⟨0, _⟩ => apply Fin.ext; simpa [Shape.Idx.norm_def] using h0

/-- The block of a point. -/
def blk (i : grid0.Coords) : S20.Idx := fun | ⟨0, _⟩ => ⟨(i 0).val, (i 0).isLt⟩

/-- The window's offset at a point. -/
theorem loW_eq (i : grid0.Coords) : loW (T0 m) i = loOf (m (0, Proc.devRef .tc main_arg2)) (blk i) := by
  have hi : (i 0).val < 20 := (i 0).isLt
  show W m 0 (Proc.devRef .tc main_v16) _ = _
  rw [W_v16]
  refine tab_lo _ _ (blk i) _ ?_ ?_
  · show (BitVec.ofNat 32 (i 0).val).toNat + 1 * 0 = (i 0).val
    rw [BitVec.toNat_ofNat]; omega
  · rfl

/-- Whether the window is too narrow at a point. -/
theorem wideW_eq (i : grid0.Coords) : wideW (T0 m) i = wideOf (m (0, Proc.devRef .tc main_arg2)) (blk i) := by
  have hi : (i 0).val < 20 := (i 0).isLt
  show W m 0 (Proc.devRef .tc main_v16) _ = _
  rw [W_v16]
  refine tab_wide _ _ (blk i) _ ?_ ?_
  · show (BitVec.ofNat 32 (i 0).val).toNat + 1 * 0 = (i 0).val
    rw [BitVec.toNat_ofNat]; omega
  · rfl

/-- A word clipped between 0 and 448. -/
theorem clip_le (x : BitVec 32) : (IntOp.minsi (448#32) (IntOp.maxsi (0#32) x)).toNat ≤ 448 := by
  unfold IntOp.minsi IntOp.maxsi
  by_cases h : x.slt 0#32 <;> simp only [h, if_true, if_false, Bool.false_eq_true]
  · decide
  · split
    · decide
    · rename_i h2
      simp only [BitVec.slt, decide_eq_true_eq, BitVec.toInt_eq_toNat_cond] at h h2
      have := x.isLt
      have e : (448#32 : BitVec 32).toNat = 448 := rfl
      have e0 : (0#32 : BitVec 32).toNat = 0 := rfl
      rw [e] at h2; rw [e0] at h
      split at h <;> simp at h h2 <;> omega

/-- Every window lies inside the 512 graphs. -/
theorem lo_le (ids : S160000.Idx → Elt Bits .i32) (r : S20.Idx) : (loOf ids r).toNat ≤ 448 := clip_le _

/-- A window that starts at 448 or before lies inside the 512 graphs. -/
theorem chk_of (lo wd : BitVec 32) (h : lo.toNat ≤ 448) : k0_chk1 lo wd := by
  constructor
  · intro _ a
    match a with
    | ⟨0, _⟩ => show lo.toNat + 64 ≤ 512; omega
    | ⟨1, _⟩ => show 0 + 128 ≤ 128; omega
  · intro _ a
    match a with
    | ⟨0, _⟩ => show lo.toNat + 64 ≤ 512; omega
    | ⟨1, _⟩ => show 0 + 1 ≤ 1; omega

/-- The kernel's side condition on the window holds at every point. -/
theorem chk (i : grid0.Coords) : k0_chk1 (loW (T0 m) i) (wideW (T0 m) i) :=
  chk_of _ _ (by rw [loW_eq]; exact lo_le _ _)

end Cert.Kernel.Hand

end
-- ==== Proof.Kernel.Frame.lean ====
module

public import proofs.«01_k».proof.Proof.Gen.Kernel.Skeleton
public import proofs.«01_k».proof.Proof.Gen.Kernel.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.Frame
public import Idealize.ShloMosaic.Lib.Writes
public import Idealize.ShloMosaic.Lib.WritesUnit
public import Idealize.ShloMosaic.Lib.WholeRead
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init
public import proofs.«01_k».proof.Proof.Kernel.Oblig
public import proofs.«01_k».proof.Proof.Kernel.Args

@[expose] public section

set_option maxRecDepth 16384
set_option Elab.async false

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable (m : (ℓ : Loc nD τ sig) → Buf (Elt Bits) ℓ) (g : Dev nD → PrngReg)

/-- The pipelines at the table. -/
abbrev pcs := Pipeline.pin (pcfgs (F := Bits)) fun _ => adm m

/-- Every window is held whole. -/
theorem share_eq (c : Dev nD) (w : Fin (cfgA m).W) : (dats m 0 c).share w = fullShare := by unfold Dat.share; split <;> rfl

/-- The one table as the pipeline hands it over. -/
theorem prefHeld_eq (c : Dev nD) (q : Fin 1 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_v16) ↦{q 0} v 0)) := by
  unfold Pipeline.prefHeld
  rw [show (Finset.univ : Finset (Fin 1)) = {(0 : Fin 1)} from by decide, bigSep_singleton]
  rfl

/-- A buffer held at a value is its whole view held at the value's reading. -/
theorem owns_in {sp : Space} {s : Shape} {e : EltTy} (c : Dev nD) (M : Memref sig .tc sp s e) (hM : M.IsWhole) (f : Buf (Elt Bits) (M.view.loc (c : Thread nD τ))) :
    iprop(M.view.loc (c : Thread nD τ) ↦{fullShare} f) ⊢ (owns (c : Thread nD τ) M fullShare (M.view.read (Elt Bits) f) : sProp 𝕄) := by
  unfold owns; rw [hM.set_eq_univ]; iintro H; iexists f; isplitr; · ipureintro; rfl
  iexact H

/-- A view held at something is its buffer held at something. -/
theorem owns_out {sp : Space} {s : Shape} {e : EltTy} (c : Dev nD) (M : Memref sig .tc sp s e) (hM : M.IsWhole) (X : s.Idx → Elt Bits e) :
    (owns (c : Thread nD τ) M fullShare X : sProp 𝕄) ⊢ iprop(∃ f : Buf (Elt Bits) (M.view.loc (c : Thread nD τ)), M.view.loc (c : Thread nD τ) ↦{fullShare} f) := by
  unfold owns; rw [hM.set_eq_univ]; iintro ⟨%f, -, H⟩; iexists f; iexact H

/-- The scratch buffers at anything are a state of the scratch buffers. -/
theorem scr_in (c : Dev nD) (p : Scr → Prop) (hp : ∀ S, p S) :
    iprop((∃ f : Buf (Elt Bits) ((c : Thread nD τ).loc cc0_scratch0), ((c : Thread nD τ).loc cc0_scratch0) ↦{fullShare} f) ∗ (∃ f : Buf (Elt Bits) ((c : Thread nD τ).loc cc0_scratch1), ((c : Thread nD τ).loc cc0_scratch1) ↦{fullShare} f) ∗ (∃ f : Buf (Elt Bits) ((c : Thread nD τ).loc cc0_scratch2), ((c : Thread nD τ).loc cc0_scratch2) ↦{fullShare} f))
      ⊢ (iprop(∃ S : Scr, ⌜p S⌝ ∗ owns (c : Thread nD τ) scM0_0 fullShare S.qf ∗ owns (c : Thread nD τ) scM0_1 fullShare S.acc ∗ owns (c : Thread nD τ) scM0_2 fullShare S.cnt) : sProp 𝕄) := by
  iintro ⟨⟨%f0, HS0⟩, ⟨%f1, HS1⟩, ⟨%f2, HS2⟩⟩
  iexists (⟨scM0_0.view.read (Elt Bits) f0, scM0_1.view.read (Elt Bits) f1, scM0_2.view.read (Elt Bits) f2⟩ : Scr)
  isplitr; · ipureintro; exact hp _
  isplitl [HS0]; · iapply (owns_in c scM0_0 (Memref.isWhole_whole _) f0); iexact HS0
  isplitl [HS1]; · iapply (owns_in c scM0_1 (Memref.isWhole_whole _) f1); iexact HS1
  iapply (owns_in c scM0_2 (Memref.isWhole_whole _) f2); iexact HS2

/-- A state of the scratch buffers is the buffers at something. -/
theorem scr_out (c : Dev nD) (p : Scr → Prop) :
    (iprop(∃ S : Scr, ⌜p S⌝ ∗ owns (c : Thread nD τ) scM0_0 fullShare S.qf ∗ owns (c : Thread nD τ) scM0_1 fullShare S.acc ∗ owns (c : Thread nD τ) scM0_2 fullShare S.cnt) : sProp 𝕄)
      ⊢ iprop((∃ f : Buf (Elt Bits) ((c : Thread nD τ).loc cc0_scratch0), ((c : Thread nD τ).loc cc0_scratch0) ↦{fullShare} f) ∗ (∃ f : Buf (Elt Bits) ((c : Thread nD τ).loc cc0_scratch1), ((c : Thread nD τ).loc cc0_scratch1) ↦{fullShare} f) ∗ (∃ f : Buf (Elt Bits) ((c : Thread nD τ).loc cc0_scratch2), ((c : Thread nD τ).loc cc0_scratch2) ↦{fullShare} f)) := by
  iintro ⟨%S, -, H0, H1, H2⟩
  isplitl [H0]; · iapply (owns_out c scM0_0 (Memref.isWhole_whole _) S.qf); iexact H0
  isplitl [H1]; · iapply (owns_out c scM0_1 (Memref.isWhole_whole _) S.acc); iexact H1
  iapply (owns_out c scM0_2 (Memref.isWhole_whole _) S.cnt); iexact H2

/-- What the kernel starts from: the scratch buffers at anything, and the table. -/
theorem phi_in (c : Dev nD) :
    iprop(Pipeline.ΦA (U := UR sig nD τ) spec0 c ∗ Pipeline.ΦT (U := UR sig nD τ) pre0 (pf m) c) ⊢ (dats m 0 c).Φ 0 := by
  unfold Pipeline.ΦA Pipeline.ΦT
  rw [prefHeld_eq, scopedRest0_eq, show (dats m 0 c).Φ 0 = Phi m c 0 from rfl]
  unfold Phi
  iintro ⟨⟨HS, Hg⟩, HT0⟩
  isplitl [HS]
  · iapply (scr_in c (fun S => (0 : Fin ((cfgA m).N + 1)).val ≠ 0 → S = traj m c ((0 : Fin ((cfgA m).N + 1)).val - 1)) (fun S h => absurd rfl h)); iexact HS
  isplitl [HT0]; · iexact HT0
  iexact Hg

/-- What it gives back: the scratch buffers at anything. -/
theorem phi_out (c : Dev nD) : (dats m 0 c).Φ (Fin.last (cfgA m).N) ⊢ Pipeline.ΦA (U := UR sig nD τ) spec0 c := by
  unfold Pipeline.ΦA
  rw [scopedRest0_eq, show (dats m 0 c).Φ (Fin.last (cfgA m).N) = Phi m c (Fin.last _) from rfl]
  unfold Phi
  iintro ⟨HS, -, Hg⟩
  isplitl [HS]
  · iapply (scr_out c _); iexact HS
  iexact Hg

set_option backward.isDefEq.respectTransparency.types false in
set_option maxHeartbeats 4000000 in
/-- THE RUN: every execution ends, with every array at what the data say, every other buffer as the kernel found it, and the counters at zero. -/
theorem run_main : θ_run (defs (F := Bits)) (onTc (τ := τ) (main (F := Bits))) ⟨m, fun _ => 0, g⟩
    (fun r => Pipeline.FramePost (pcs m) (dats m) 0 (V m) r ∧ r.2.sem = fun _ => 0) :=
  Pipeline.θ_run_frameP_track (pcfgs (F := Bits)) (fun _ => adm m) (dats m) 0 (launch0 (F := Bits)) (defs₀ (F := Bits)) Variants.none m g (main (F := Bits))
    (fun c => (body_obligation m c).loose) (share_eq m) (fun _ _ => rfl) (V m) (hmain m) (fun _ _ => rfl)
    (fun c k => by
      obtain rfl : c = 0 := Subsingleton.elim _ _
      obtain rfl : k = 0 := Subsingleton.elim _ _
      rfl)
    (phi_in m) (phi_out m) (fun r => Pipeline.FramePost (pcs m) (dats m) 0 (V m) r ∧ r.2.sem = fun _ => 0) (fun _ h => h)

/-- Every argument of the program, as it was. -/
def Kept (r : MemSt nD τ sig (Elt Bits)) (c : Dev nD) : Prop :=
  r.mem ((c.tc : Thread nD τ).loc main_arg0) = m ((c.tc : Thread nD τ).loc main_arg0)
  ∧ r.mem ((c.tc : Thread nD τ).loc main_arg1) = m ((c.tc : Thread nD τ).loc main_arg1)
  ∧ r.mem ((c.tc : Thread nD τ).loc main_arg2) = m ((c.tc : Thread nD τ).loc main_arg2)
  ∧ r.mem ((c.tc : Thread nD τ).loc main_arg3) = m ((c.tc : Thread nD τ).loc main_arg3)
  ∧ r.mem ((c.tc : Thread nD τ).loc main_arg4) = m ((c.tc : Thread nD τ).loc main_arg4)
  ∧ r.mem ((c.tc : Thread nD τ).loc main_arg5) = m ((c.tc : Thread nD τ).loc main_arg5)
  ∧ r.mem ((c.tc : Thread nD τ).loc main_arg6) = m ((c.tc : Thread nD τ).loc main_arg6)
  ∧ r.mem ((c.tc : Thread nD τ).loc main_arg7) = m ((c.tc : Thread nD τ).loc main_arg7)
  ∧ r.mem ((c.tc : Thread nD τ).loc main_arg8) = m ((c.tc : Thread nD τ).loc main_arg8)
  ∧ r.mem ((c.tc : Thread nD τ).loc main_arg9) = m ((c.tc : Thread nD τ).loc main_arg9)
  ∧ r.mem ((c.tc : Thread nD τ).loc main_arg10) = m ((c.tc : Thread nD τ).loc main_arg10)
  ∧ r.mem ((c.tc : Thread nD τ).loc main_arg11) = m ((c.tc : Thread nD τ).loc main_arg11)
  ∧ r.mem ((c.tc : Thread nD τ).loc main_arg12) = m ((c.tc : Thread nD τ).loc main_arg12)
  ∧ r.mem ((c.tc : Thread nD τ).loc main_arg13) = m ((c.tc : Thread nD τ).loc main_arg13)
  ∧ r.mem ((c.tc : Thread nD τ).loc main_arg14) = m ((c.tc : Thread nD τ).loc main_arg14)
  ∧ r.mem ((c.tc : Thread nD τ).loc main_arg15) = m ((c.tc : Thread nD τ).loc main_arg15)
  ∧ r.mem ((c.tc : Thread nD τ).loc main_arg16) = m ((c.tc : Thread nD τ).loc main_arg16)
  ∧ r.mem ((c.tc : Thread nD τ).loc main_arg17) = m ((c.tc : Thread nD τ).loc main_arg17)
  ∧ r.mem ((c.tc : Thread nD τ).loc main_arg18) = m ((c.tc : Thread nD τ).loc main_arg18)
  ∧ r.mem ((c.tc : Thread nD τ).loc main_arg19) = m ((c.tc : Thread nD τ).loc main_arg19)
  ∧ r.mem ((c.tc : Thread nD τ).loc main_arg20) = m ((c.tc : Thread nD τ).loc main_arg20)
  ∧ r.mem ((c.tc : Thread nD τ).loc main_arg21) = m ((c.tc : Thread nD τ).loc main_arg21)
  ∧ r.mem ((c.tc : Thread nD τ).loc main_arg22) = m ((c.tc : Thread nD τ).loc main_arg22)
  ∧ r.mem ((c.tc : Thread nD τ).loc main_arg23) = m ((c.tc : Thread nD τ).loc main_arg23)
  ∧ r.mem ((c.tc : Thread nD τ).loc main_arg24) = m ((c.tc : Thread nD τ).loc main_arg24)
  ∧ r.mem ((c.tc : Thread nD τ).loc main_arg25) = m ((c.tc : Thread nD τ).loc main_arg25)
  ∧ r.mem ((c.tc : Thread nD τ).loc main_arg26) = m ((c.tc : Thread nD τ).loc main_arg26)
  ∧ r.mem ((c.tc : Thread nD τ).loc main_arg27) = m ((c.tc : Thread nD τ).loc main_arg27)

set_option maxHeartbeats 4000000 in
/-- THE FRAME: every execution ends with the arguments as they were and the counters at zero. -/
theorem kept : θ_run (defs (F := Bits)) (onTc (τ := τ) (main (F := Bits))) ⟨m, fun _ => 0, g⟩
    (fun r => (∀ c : Dev nD, Kept m r.2 c) ∧ r.2.sem = fun _ => 0) :=
  (θ_run defs _ _).mono (fun r h => ⟨fun c => ⟨((h.1 c).1 (2 : Fin 25)).trans (((dats m 0 c).arrAt_in (2 : Fin 25) rfl _).trans (V_arg0 m c)),
    ((h.1 c).1 (3 : Fin 25)).trans (((dats m 0 c).arrAt_in (3 : Fin 25) rfl _).trans (V_arg1 m c)),
    ((h.1 c).2 main_arg2 (Pipeline.mem_restRefs_of _ rfl (show ∀ w : Fin 25, (spec0 w).arr.view.ref ≠ main_arg2 by decide))).trans (V_arg2 m c),
    ((h.1 c).2 main_arg3 (Pipeline.mem_restRefs_of _ rfl (show ∀ w : Fin 25, (spec0 w).arr.view.ref ≠ main_arg3 by decide))).trans (V_arg3 m c),
    ((h.1 c).2 main_arg4 (Pipeline.mem_restRefs_of _ rfl (show ∀ w : Fin 25, (spec0 w).arr.view.ref ≠ main_arg4 by decide))).trans (V_arg4 m c),
    ((h.1 c).2 main_arg5 (Pipeline.mem_restRefs_of _ rfl (show ∀ w : Fin 25, (spec0 w).arr.view.ref ≠ main_arg5 by decide))).trans (V_arg5 m c),
    ((h.1 c).1 (6 : Fin 25)).trans (((dats m 0 c).arrAt_in (6 : Fin 25) rfl _).trans (V_arg6 m c)),
    ((h.1 c).2 main_arg7 (Pipeline.mem_restRefs_of _ rfl (show ∀ w : Fin 25, (spec0 w).arr.view.ref ≠ main_arg7 by decide))).trans (V_arg7 m c),
    ((h.1 c).2 main_arg8 (Pipeline.mem_restRefs_of _ rfl (show ∀ w : Fin 25, (spec0 w).arr.view.ref ≠ main_arg8 by decide))).trans (V_arg8 m c),
    ((h.1 c).2 main_arg9 (Pipeline.mem_restRefs_of _ rfl (show ∀ w : Fin 25, (spec0 w).arr.view.ref ≠ main_arg9 by decide))).trans (V_arg9 m c),
    ((h.1 c).2 main_arg10 (Pipeline.mem_restRefs_of _ rfl (show ∀ w : Fin 25, (spec0 w).arr.view.ref ≠ main_arg10 by decide))).trans (V_arg10 m c),
    ((h.1 c).2 main_arg11 (Pipeline.mem_restRefs_of _ rfl (show ∀ w : Fin 25, (spec0 w).arr.view.ref ≠ main_arg11 by decide))).trans (V_arg11 m c),
    ((h.1 c).2 main_arg12 (Pipeline.mem_restRefs_of _ rfl (show ∀ w : Fin 25, (spec0 w).arr.view.ref ≠ main_arg12 by decide))).trans (V_arg12 m c),
    ((h.1 c).2 main_arg13 (Pipeline.mem_restRefs_of _ rfl (show ∀ w : Fin 25, (spec0 w).arr.view.ref ≠ main_arg13 by decide))).trans (V_arg13 m c),
    ((h.1 c).2 main_arg14 (Pipeline.mem_restRefs_of _ rfl (show ∀ w : Fin 25, (spec0 w).arr.view.ref ≠ main_arg14 by decide))).trans (V_arg14 m c),
    ((h.1 c).2 main_arg15 (Pipeline.mem_restRefs_of _ rfl (show ∀ w : Fin 25, (spec0 w).arr.view.ref ≠ main_arg15 by decide))).trans (V_arg15 m c),
    ((h.1 c).2 main_arg16 (Pipeline.mem_restRefs_of _ rfl (show ∀ w : Fin 25, (spec0 w).arr.view.ref ≠ main_arg16 by decide))).trans (V_arg16 m c),
    ((h.1 c).2 main_arg17 (Pipeline.mem_restRefs_of _ rfl (show ∀ w : Fin 25, (spec0 w).arr.view.ref ≠ main_arg17 by decide))).trans (V_arg17 m c),
    ((h.1 c).2 main_arg18 (Pipeline.mem_restRefs_of _ rfl (show ∀ w : Fin 25, (spec0 w).arr.view.ref ≠ main_arg18 by decide))).trans (V_arg18 m c),
    ((h.1 c).2 main_arg19 (Pipeline.mem_restRefs_of _ rfl (show ∀ w : Fin 25, (spec0 w).arr.view.ref ≠ main_arg19 by decide))).trans (V_arg19 m c),
    ((h.1 c).2 main_arg20 (Pipeline.mem_restRefs_of _ rfl (show ∀ w : Fin 25, (spec0 w).arr.view.ref ≠ main_arg20 by decide))).trans (V_arg20 m c),
    ((h.1 c).2 main_arg21 (Pipeline.mem_restRefs_of _ rfl (show ∀ w : Fin 25, (spec0 w).arr.view.ref ≠ main_arg21 by decide))).trans (V_arg21 m c),
    ((h.1 c).2 main_arg22 (Pipeline.mem_restRefs_of _ rfl (show ∀ w : Fin 25, (spec0 w).arr.view.ref ≠ main_arg22 by decide))).trans (V_arg22 m c),
    ((h.1 c).2 main_arg23 (Pipeline.mem_restRefs_of _ rfl (show ∀ w : Fin 25, (spec0 w).arr.view.ref ≠ main_arg23 by decide))).trans (V_arg23 m c),
    ((h.1 c).1 (17 : Fin 25)).trans (((dats m 0 c).arrAt_in (17 : Fin 25) rfl _).trans (V_arg24 m c)),
    ((h.1 c).2 main_arg25 (Pipeline.mem_restRefs_of _ rfl (show ∀ w : Fin 25, (spec0 w).arr.view.ref ≠ main_arg25 by decide))).trans (V_arg25 m c),
    ((h.1 c).1 (19 : Fin 25)).trans (((dats m 0 c).arrAt_in (19 : Fin 25) rfl _).trans (V_arg26 m c)),
    ((h.1 c).2 main_arg27 (Pipeline.mem_restRefs_of _ rfl (show ∀ w : Fin 25, (spec0 w).arr.view.ref ≠ main_arg27 by decide))).trans (V_arg27 m c)⟩, h.2⟩) (run_main m g)

end Cert.Kernel.Hand

end
-- ==== Proof.KernelIdeal.Step.lean ====
module

public import proofs.«01_k».proof.Proof.Gen.KernelIdeal.Skeleton
public import proofs.«01_k».proof.Proof.Gen.KernelIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.Frame
public import Idealize.ShloMosaic.Lib.Writes
public import Idealize.ShloMosaic.Lib.WritesUnit
public import Idealize.ShloMosaic.Lib.WholeRead
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init
public import Idealize.ShloMosaic.Lib.VecWindow

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The prefetched table, in scalar memory. -/
abbrev tbM0_0 : Memref sig .tc .smem S20x2 .i32 := Memref.whole main_v16
/-- The projected questions, kept between the points. -/
abbrev scM0_0 : Memref sig .tc .vmem S512x128 .f32 := Memref.whole cc0_scratch0
/-- The running sums per graph. -/
abbrev scM0_1 : Memref sig .tc .vmem S512x128 .f32 := Memref.whole cc0_scratch1
/-- The running counts per graph. -/
abbrev scM0_2 : Memref sig .tc .vmem S512x1 .f32 := Memref.whole cc0_scratch2

/-- The staging buffers one grid point works on, each whole. -/
structure Args where
  a2 : Memref sig .tc .vmem S1x1x8000 .i32
  h2 : a2.IsWhole
  a3 : Memref sig .tc .vmem S1x1x8000 .f32
  h3 : a3.IsWhole
  a4 : Memref sig .tc .vmem S8000x128 .f32
  h4 : a4.IsWhole
  a5 : Memref sig .tc .vmem S512x128 .f32
  h5 : a5.IsWhole
  a6 : Memref sig .tc .vmem S1x128 .f32
  h6 : a6.IsWhole
  a7 : Memref sig .tc .vmem S1x128 .f32
  h7 : a7.IsWhole
  a8 : Memref sig .tc .vmem S128x128 .f32
  h8 : a8.IsWhole
  a9 : Memref sig .tc .vmem S1x128 .f32
  h9 : a9.IsWhole
  a10 : Memref sig .tc .vmem S128x128 .bf16
  h10 : a10.IsWhole
  a11 : Memref sig .tc .vmem S1x128 .f32
  h11 : a11.IsWhole
  a12 : Memref sig .tc .vmem S1x128 .f32
  h12 : a12.IsWhole
  a13 : Memref sig .tc .vmem S128x128 .bf16
  h13 : a13.IsWhole
  a14 : Memref sig .tc .vmem S1x128 .f32
  h14 : a14.IsWhole
  a15 : Memref sig .tc .vmem S1x128 .f32
  h15 : a15.IsWhole
  a16 : Memref sig .tc .vmem S1x128 .f32
  h16 : a16.IsWhole
  a17 : Memref sig .tc .vmem S1x256 .f32
  h17 : a17.IsWhole
  a18 : Memref sig .tc .vmem S1x256 .f32
  h18 : a18.IsWhole
  a19 : Memref sig .tc .vmem S256x128 .f32
  h19 : a19.IsWhole
  a20 : Memref sig .tc .vmem S1x128 .f32
  h20 : a20.IsWhole
  a21 : Memref sig .tc .vmem S128x1 .f32
  h21 : a21.IsWhole
  a22 : Memref sig .tc .vmem S1x1 .f32
  h22 : a22.IsWhole
  a23 : Memref sig .tc .vmem S1x1 .f32
  h23 : a23.IsWhole
  a24 : Memref sig .tc .vmem S1x1x8000 .f32
  h24 : a24.IsWhole
  a25 : Memref sig .tc .vmem S512x1 .f32
  h25 : a25.IsWhole
  a26 : Memref sig .tc .vmem S512x128 .f32
  h26 : a26.IsWhole

/-- The blocks of the twenty-two inputs at one grid point. -/
structure Ins where
  x2 : S1x1x8000.Idx → Elt Ideal .i32
  x3 : S1x1x8000.Idx → Elt Ideal .f32
  x4 : S8000x128.Idx → Elt Ideal .f32
  x5 : S512x128.Idx → Elt Ideal .f32
  x6 : S1x128.Idx → Elt Ideal .f32
  x7 : S1x128.Idx → Elt Ideal .f32
  x8 : S128x128.Idx → Elt Ideal .f32
  x9 : S1x128.Idx → Elt Ideal .f32
  x10 : S128x128.Idx → Elt Ideal .bf16
  x11 : S1x128.Idx → Elt Ideal .f32
  x12 : S1x128.Idx → Elt Ideal .f32
  x13 : S128x128.Idx → Elt Ideal .bf16
  x14 : S1x128.Idx → Elt Ideal .f32
  x15 : S1x128.Idx → Elt Ideal .f32
  x16 : S1x128.Idx → Elt Ideal .f32
  x17 : S1x256.Idx → Elt Ideal .f32
  x18 : S1x256.Idx → Elt Ideal .f32
  x19 : S256x128.Idx → Elt Ideal .f32
  x20 : S1x128.Idx → Elt Ideal .f32
  x21 : S128x1.Idx → Elt Ideal .f32
  x22 : S1x1.Idx → Elt Ideal .f32
  x23 : S1x1.Idx → Elt Ideal .f32

/-- The input staging buffers, each holding its block. -/
def held (c : Dev nD) (A : Args) (X : Ins) : sProp 𝕄 :=
  iprop((A.a2.view.loc (c : Thread nD τ) ↦[A.a2.view.set]{fullShare} A.a2.view.rep X.x2)
    ∗ (A.a3.view.loc (c : Thread nD τ) ↦[A.a3.view.set]{fullShare} A.a3.view.rep X.x3)
    ∗ (A.a4.view.loc (c : Thread nD τ) ↦[A.a4.view.set]{fullShare} A.a4.view.rep X.x4)
    ∗ (A.a5.view.loc (c : Thread nD τ) ↦[A.a5.view.set]{fullShare} A.a5.view.rep X.x5)
    ∗ (A.a6.view.loc (c : Thread nD τ) ↦[A.a6.view.set]{fullShare} A.a6.view.rep X.x6)
    ∗ (A.a7.view.loc (c : Thread nD τ) ↦[A.a7.view.set]{fullShare} A.a7.view.rep X.x7)
    ∗ (A.a8.view.loc (c : Thread nD τ) ↦[A.a8.view.set]{fullShare} A.a8.view.rep X.x8)
    ∗ (A.a9.view.loc (c : Thread nD τ) ↦[A.a9.view.set]{fullShare} A.a9.view.rep X.x9)
    ∗ (A.a10.view.loc (c : Thread nD τ) ↦[A.a10.view.set]{fullShare} A.a10.view.rep X.x10)
    ∗ (A.a11.view.loc (c : Thread nD τ) ↦[A.a11.view.set]{fullShare} A.a11.view.rep X.x11)
    ∗ (A.a12.view.loc (c : Thread nD τ) ↦[A.a12.view.set]{fullShare} A.a12.view.rep X.x12)
    ∗ (A.a13.view.loc (c : Thread nD τ) ↦[A.a13.view.set]{fullShare} A.a13.view.rep X.x13)
    ∗ (A.a14.view.loc (c : Thread nD τ) ↦[A.a14.view.set]{fullShare} A.a14.view.rep X.x14)
    ∗ (A.a15.view.loc (c : Thread nD τ) ↦[A.a15.view.set]{fullShare} A.a15.view.rep X.x15)
    ∗ (A.a16.view.loc (c : Thread nD τ) ↦[A.a16.view.set]{fullShare} A.a16.view.rep X.x16)
    ∗ (A.a17.view.loc (c : Thread nD τ) ↦[A.a17.view.set]{fullShare} A.a17.view.rep X.x17)
    ∗ (A.a18.view.loc (c : Thread nD τ) ↦[A.a18.view.set]{fullShare} A.a18.view.rep X.x18)
    ∗ (A.a19.view.loc (c : Thread nD τ) ↦[A.a19.view.set]{fullShare} A.a19.view.rep X.x19)
    ∗ (A.a20.view.loc (c : Thread nD τ) ↦[A.a20.view.set]{fullShare} A.a20.view.rep X.x20)
    ∗ (A.a21.view.loc (c : Thread nD τ) ↦[A.a21.view.set]{fullShare} A.a21.view.rep X.x21)
    ∗ (A.a22.view.loc (c : Thread nD τ) ↦[A.a22.view.set]{fullShare} A.a22.view.rep X.x22)
    ∗ (A.a23.view.loc (c : Thread nD τ) ↦[A.a23.view.set]{fullShare} A.a23.view.rep X.x23))

/-- The kernel at one grid point on these buffers. -/
abbrev bodyOn (i : grid0.Coords) (A : Args) :=
  cc0__edge_kernel (F := Ideal) i tbM0_0 (Memref.isWhole_whole _) A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 scM0_0 (Memref.isWhole_whole _) scM0_1 (Memref.isWhole_whole _) scM0_2 (Memref.isWhole_whole _)

/-- The first word of the table's row at this point: the window's offset. -/
abbrev loW (T0 : S20x2.Idx → Elt Ideal .i32) (i : grid0.Coords) : BitVec 32 :=
  View.readAt (Elt Ideal) (tbM0_0).view (Rect.unit (s := S20x2) (k0_off1 i) S1x1.size (k0_off1_inb i)).toLoadRect T0 (Shape.Idx.first (numel1_S1x1.symm ▸ Nat.one_pos))

/-- The second word of the table's row at this point: whether the window is too narrow. -/
abbrev wideW (T0 : S20x2.Idx → Elt Ideal .i32) (i : grid0.Coords) : BitVec 32 :=
  View.readAt (Elt Ideal) (tbM0_0).view (Rect.unit (s := S20x2) (k0_off2 i) S1x1.size (k0_off2_inb i)).toLoadRect T0 (Shape.Idx.first (numel1_S1x1.symm ▸ Nat.one_pos))

/-- The point is the first one. -/
abbrev atFirst (i : grid0.Coords) : Prop := (Scalar.cmpi .ne (Scalar.extui (Scalar.cmpi .eq (BitVec.ofNat 32 (i 0).val) 0#32)) 0#32) = 1#1
/-- The window is too narrow for this block. -/
abbrev isWide (w : BitVec 32) : Prop := (Scalar.cmpi .ne (Scalar.extui (Scalar.cmpi .ne w 0#32)) 0#32) = 1#1

/-! ## What one grid point computes, on tensors -/

/-- What the scratch buffers hold between two grid points: the projected questions, the running sums, the running counts. -/
structure Scr where
  qf : S512x128.Idx → Elt Ideal .f32
  acc : S512x128.Idx → Elt Ideal .f32
  cnt : S512x1.Idx → Elt Ideal .f32

/-- Sixty-four rows of a 128-wide array from row `o` (wrapping around, so that it is total). -/
def rows128 (o : ℕ) (x : S512x128.Idx → Elt Ideal .f32) : S64x128.Idx → Elt Ideal .f32 := fun j =>
  x (fun a => match a with
    | ⟨0, _⟩ => ⟨(o + (j 0).val) % 512, Nat.mod_lt _ (by decide)⟩
    | ⟨1, _⟩ => ⟨(j 1).val, (j 1).isLt⟩)

/-- Sixty-four rows of a one-wide array from row `o`. -/
def rows1 (o : ℕ) (x : S512x1.Idx → Elt Ideal .f32) : S64x1.Idx → Elt Ideal .f32 := fun j =>
  x (fun a => match a with
    | ⟨0, _⟩ => ⟨(o + (j 0).val) % 512, Nat.mod_lt _ (by decide)⟩
    | ⟨1, _⟩ => ⟨(j 1).val, (j 1).isLt⟩)

/-- What the first point puts into the scratch buffers. -/
def start (X : Ins) : Scr := ⟨k0_pay15 (F := Ideal) (k0_pay2 (F := Ideal) X.x5 X.x6 X.x7 X.x8 X.x9), k0_pay16 (F := Ideal), k0_pay17 (F := Ideal)⟩

/-- One point on the narrow path: a window of sixty-four graphs from `lo`. -/
def stepN (X : Ins) (lo : BitVec 32) (S : Scr) : Scr :=
  ⟨S.qf,
   VecWindow.put S.acc (k0_off3 lo) S64x128.size
     (k0_pay6 (F := Ideal) lo (k0_pay18 (F := Ideal) X.x2) (k0_pay21 (F := Ideal) X.x3) (k0_pay3 (F := Ideal) lo (k0_pay20 (F := Ideal) X.x2) (rows128 (k0_off3 lo 0) S.qf) X.x4 X.x10 X.x11)
       (k0_pay4 (F := Ideal) X.x12) X.x13 X.x14 (rows128 (k0_off3 lo 0) S.acc)),
   VecWindow.put S.cnt (k0_off4 lo) S64x1.size
     (k0_pay22 (F := Ideal) X.x3 (k0_pay5 (F := Ideal) lo (k0_pay18 (F := Ideal) X.x2)) (rows1 (k0_off4 lo 0) S.cnt))⟩

/-- One point on the wide path: all 512 graphs. -/
def stepW (X : Ins) (S : Scr) : Scr :=
  ⟨S.qf,
   k0_pay9 (F := Ideal) (k0_pay18 (F := Ideal) X.x2) (k0_pay21 (F := Ideal) X.x3) (k0_pay7 (F := Ideal) (k0_pay20 (F := Ideal) X.x2) S.qf X.x4 X.x10 X.x11 X.x12)
     (Scalar.ofBits .f32 0x3F000000#32) X.x13 X.x14 S.acc,
   k0_pay23 (F := Ideal) (k0_pay8 (F := Ideal) (k0_pay18 (F := Ideal) X.x2)) S.cnt (k0_pay10 (F := Ideal) (k0_pay19 (F := Ideal) X.x3))⟩

/-- The logits a point writes. -/
def elogOf (X : Ins) : S1x1x8000.Idx → Elt Ideal .f32 := k0_pay24 (F := Ideal) X.x3 X.x23

/-- The current state the last point writes. -/
def curOf (X : Ins) (S : Scr) : S512x128.Idx → Elt Ideal .f32 := k0_pay11 (F := Ideal) X.x5 S.cnt S.acc X.x15 X.x16

/-- The stop logits the last point writes. -/
def stopOf (X : Ins) (S : Scr) : S512x1.Idx → Elt Ideal .f32 :=
  k0_pay1 (F := Ideal) (k0_pay14 (F := Ideal) (k0_pay12 (F := Ideal) X.x5 S.cnt S.acc X.x15 X.x16) (k0_pay13 (F := Ideal) X.x17) X.x18 X.x19 X.x20 X.x21) X.x22

/-- A load of sixty-four rows of a buffer reads those rows. -/
theorem window_rows128 (x : S512x128.Idx → Elt Ideal .f32) (lo : BitVec 32) (inb : ∀ a, k0_off3 lo a + S64x128.size a ≤ S512x128.size a) :
    VecWindow.window x (k0_off3 lo) S64x128.size inb = rows128 (k0_off3 lo 0) x := by
  funext j
  have h0 : k0_off3 lo 0 + 64 ≤ 512 := inb 0
  have hj : (j 0).val < 64 := (j 0).isLt
  unfold VecWindow.window rows128
  congr 1; funext a
  match a with
  | ⟨0, _⟩ =>
    apply Fin.ext
    show k0_off3 lo 0 + 1 * (j 0).val = (k0_off3 lo 0 + (j 0).val) % 512
    omega
  | ⟨1, _⟩ =>
    apply Fin.ext
    show 0 + 1 * (j 1).val = (j 1).val
    omega

/-- A load of sixty-four counts reads those counts. -/
theorem window_rows1 (x : S512x1.Idx → Elt Ideal .f32) (lo : BitVec 32) (inb : ∀ a, k0_off4 lo a + S64x1.size a ≤ S512x1.size a) :
    VecWindow.window x (k0_off4 lo) S64x1.size inb = rows1 (k0_off4 lo 0) x := by
  funext j
  have h0 : k0_off4 lo 0 + 64 ≤ 512 := inb 0
  have hj : (j 0).val < 64 := (j 0).isLt
  unfold VecWindow.window rows1
  congr 1; funext a
  match a with
  | ⟨0, _⟩ =>
    apply Fin.ext
    show k0_off4 lo 0 + 1 * (j 0).val = (k0_off4 lo 0 + (j 0).val) % 512
    omega
  | ⟨1, _⟩ =>
    apply Fin.ext
    show 0 + 1 * (j 1).val = (j 1).val
    omega

/-- A load of sixty-four rows at the window's offset, of any contents. -/
theorem readAt_rows128 {sp : Space} (v : View sig .tc sp S512x128 .f32) (f : v.ty.Contents (Elt Ideal)) (lo : BitVec 32) (inb : ∀ a, k0_off3 lo a + S64x128.size a ≤ S512x128.size a) :
    v.readAt (Elt Ideal) (Rect.unit (s := S512x128) (k0_off3 lo) S64x128.size inb).toLoadRect f = rows128 (k0_off3 lo 0) (v.read (Elt Ideal) f) := by
  rw [View.readAt_unit v f inb rfl inb, window_rows128]

/-- A load of sixty-four counts at the window's offset, of any contents. -/
theorem readAt_rows1 {sp : Space} (v : View sig .tc sp S512x1 .f32) (f : v.ty.Contents (Elt Ideal)) (lo : BitVec 32) (inb : ∀ a, k0_off4 lo a + S64x1.size a ≤ S512x1.size a) :
    v.readAt (Elt Ideal) (Rect.unit (s := S512x1) (k0_off4 lo) S64x1.size inb).toLoadRect f = rows1 (k0_off4 lo 0) (v.read (Elt Ideal) f) := by
  rw [View.readAt_unit v f inb rfl inb, window_rows1]

/-- The six buffers a point may change, at given contents, and the table. -/
def outs (c : Dev nD) (A : Args) (T0 : S20x2.Idx → Elt Ideal .i32) (y22 : S1x1x8000.Idx → Elt Ideal .f32) (y23 : S512x1.Idx → Elt Ideal .f32)
    (y24 : S512x128.Idx → Elt Ideal .f32) (S : Scr) : sProp 𝕄 :=
  iprop((tbM0_0.view.loc (c : Thread nD τ) ↦{fullShare.right} T0)
    ∗ owns (c : Thread nD τ) A.a24 fullShare y22 ∗ owns (c : Thread nD τ) A.a25 fullShare y23 ∗ owns (c : Thread nD τ) A.a26 fullShare y24
    ∗ owns (c : Thread nD τ) scM0_0 fullShare S.qf ∗ owns (c : Thread nD τ) scM0_1 fullShare S.acc ∗ owns (c : Thread nD τ) scM0_2 fullShare S.cnt)

end Cert.KernelIdeal.Hand

end
-- ==== Proof.KernelIdeal.RunMid.lean ====
module

public import proofs.«01_k».proof.Proof.Gen.KernelIdeal.Skeleton
public import proofs.«01_k».proof.Proof.Gen.KernelIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.Frame
public import Idealize.ShloMosaic.Lib.Writes
public import Idealize.ShloMosaic.Lib.WritesUnit
public import Idealize.ShloMosaic.Lib.WholeRead
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init
public import proofs.«01_k».proof.Proof.KernelIdeal.Step

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

set_option backward.proofsInPublic true in
set_option maxHeartbeats 8000000 in
/-- A middle point on the narrow path leaves what `stepN` says. -/
theorem midNarrow (c : Dev nD) (i : grid0.Coords) (A : Args) (X : Ins) (T0 : S20x2.Idx → Elt Ideal .i32)
    (k0_h1 : ¬ atFirst i) (k0_hw1 : k0_chk1 (loW T0 i) (wideW T0 i)) (k0_h2 : k0_cond2 (wideW T0 i) = 1#1) (hc3 : ¬ isWide (wideW T0 i)) (k0_h4 : ¬ k0_cond4 i = 1#1)
    (y22 : S1x1x8000.Idx → Elt Ideal .f32) (y23 : S512x1.Idx → Elt Ideal .f32) (y24 : S512x128.Idx → Elt Ideal .f32) (S : Scr) (K : PUnit → sProp 𝕄) :
    iprop(held c A X ∗ outs c A T0 y22 y23 y24 S ∗ (iprop(held c A X ∗ outs c A T0 (elogOf X) y23 y24 (stepN X (loW T0 i) S)) -∗ K ⟨⟩))
      ⊢ wp frame (wpE (defs₀ (F := Ideal)) Variants.none c none) Set.univ (bodyOn i A) K := by
  unfold held bodyOn outs owns
  rw [cc0__edge_kernel_eq_skeleton]; unfold cc0__edge_kernel_skel
  iintro ⟨⟨H0, H1, H2, H3, H4, H5, H6, H7, H8, H9, H10, H11, H12, H13, H14, H15, H16, H17, H18, H19, H20, H21⟩, ⟨HT0, ⟨%f22, %hf22, HO22⟩, ⟨%f23, %hf23, HO23⟩, ⟨%f24, %hf24, HO24⟩, ⟨%s0, %hs0, HS0⟩, ⟨%s1, %hs1, HS1⟩, ⟨%s2, %hs2, HS2⟩⟩, Hk⟩
  have hS0 : scM0_0.IsWhole := Memref.isWhole_whole _
  have hS1 : scM0_1.IsWhole := Memref.isWhole_whole _
  have hS2 : scM0_2.IsWhole := Memref.isWhole_whole _
  have hT0 : tbM0_0.IsWhole := Memref.isWhole_whole _
  obtain rfl := A.h24.eq_unread hf22; obtain rfl := A.h25.eq_unread hf23; obtain rfl := A.h26.eq_unread hf24
  obtain rfl := hS0.eq_unread hs0; obtain rfl := hS1.eq_unread hs1; obtain rfl := hS2.eq_unread hs2
  sl_exec! (disch := first | (guard_target = ¬(Scalar.cmpi .ne _ _ = _); exact k0_h1) | (guard_target = k0_chk1 _ _; exact k0_hw1) | (guard_target = k0_cond2 _ = _; exact k0_h2) | (guard_target = ¬(Scalar.cmpi .ne _ _ = _); exact hc3) | (guard_target = ¬(k0_cond4 _ = _); exact k0_h4))
  sl_step
  iapply Hk
  isplitl [H0 H1 H2 H3 H4 H5 H6 H7 H8 H9 H10 H11 H12 H13 H14 H15 H16 H17 H18 H19 H20 H21]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  isplitl [HT0]; · iexact HT0
  isplitl [HO22]
  · iexists _; isplitr; swap; · iexact HO22
    ipureintro
    (repeat (first | unfold midNarrow.sl.r | unfold midNarrow.sl.r_1 | unfold midNarrow.sl.r_2 | unfold midNarrow.sl.r_3 | unfold midNarrow.sl.r_4 | unfold midNarrow.sl.r_5 | unfold midNarrow.sl.r_6 | unfold midNarrow.sl.r_7 | unfold midNarrow.sl.r_8 | unfold midNarrow.sl.r_9 | unfold midNarrow.sl.r_10 | unfold midNarrow.sl.r_11 | unfold midNarrow.sl.HS0_1 | unfold midNarrow.sl.HS0_2 | unfold midNarrow.sl.HS0_3 | unfold midNarrow.sl.HS0_4 | unfold midNarrow.sl.HS1_1 | unfold midNarrow.sl.HS1_2 | unfold midNarrow.sl.HS1_3 | unfold midNarrow.sl.HS1_4 | unfold midNarrow.sl.HS2_1 | unfold midNarrow.sl.HS2_2 | unfold midNarrow.sl.HS2_3 | unfold midNarrow.sl.HS2_4 | unfold midNarrow.sl.v7 | unfold midNarrow.sl.v9 | unfold midNarrow.sl.v19 | unfold midNarrow.sl.v33 | unfold midNarrow.sl.v34 | unfold midNarrow.sl.v35 | unfold midNarrow.sl.v39 | unfold midNarrow.sl.v41 | unfold midNarrow.sl.v42 | unfold midNarrow.sl.v43 | unfold midNarrow.sl.v45 | unfold midNarrow.sl.v59 | unfold midNarrow.sl.v62 | unfold midNarrow.sl.v65 | unfold midNarrow.sl.v67 | unfold midNarrow.sl.v68 | unfold midNarrow.sl.v69 | unfold midNarrow.sl.v71 | unfold midNarrow.sl.v74 | unfold midNarrow.sl.v84 | unfold midNarrow.sl.v87 | unfold midNarrow.sl.v90 | unfold midNarrow.sl.v108 | unfold midNarrow.sl.v111 | unfold midNarrow.sl.v114 | unfold midNarrow.sl.v115 | unfold midNarrow.sl.v118 | unfold midNarrow.sl.v122)); (repeat (first | rw [View.readAt_rep_full] | rw [View.readAt_writes_full] | rw [View.readCov_full] | rw [View.read_writes_full] | rw [readAt_rows128] | rw [readAt_rows1] | rw [View.readAt_full] | rw [View.read_writes_cons_put _ _ _ _ _ rfl] | rw [View.writes_nil] | rw [Memref.IsWhole.read_unread])); rfl
  isplitl [HO23]
  · iexists _; isplitr; swap; · iexact HO23
    ipureintro
    exact A.h25.read_unread _
  isplitl [HO24]
  · iexists _; isplitr; swap; · iexact HO24
    ipureintro
    exact A.h26.read_unread _
  isplitl [HS0]
  · iexists _; isplitr; swap; · iexact HS0
    ipureintro
    exact hS0.read_unread _
  isplitl [HS1]
  · iexists _; isplitr; swap; · iexact HS1
    ipureintro
    (repeat (first | unfold midNarrow.sl.r | unfold midNarrow.sl.r_1 | unfold midNarrow.sl.r_2 | unfold midNarrow.sl.r_3 | unfold midNarrow.sl.r_4 | unfold midNarrow.sl.r_5 | unfold midNarrow.sl.r_6 | unfold midNarrow.sl.r_7 | unfold midNarrow.sl.r_8 | unfold midNarrow.sl.r_9 | unfold midNarrow.sl.r_10 | unfold midNarrow.sl.r_11 | unfold midNarrow.sl.HS0_1 | unfold midNarrow.sl.HS0_2 | unfold midNarrow.sl.HS0_3 | unfold midNarrow.sl.HS0_4 | unfold midNarrow.sl.HS1_1 | unfold midNarrow.sl.HS1_2 | unfold midNarrow.sl.HS1_3 | unfold midNarrow.sl.HS1_4 | unfold midNarrow.sl.HS2_1 | unfold midNarrow.sl.HS2_2 | unfold midNarrow.sl.HS2_3 | unfold midNarrow.sl.HS2_4 | unfold midNarrow.sl.v7 | unfold midNarrow.sl.v9 | unfold midNarrow.sl.v19 | unfold midNarrow.sl.v33 | unfold midNarrow.sl.v34 | unfold midNarrow.sl.v35 | unfold midNarrow.sl.v39 | unfold midNarrow.sl.v41 | unfold midNarrow.sl.v42 | unfold midNarrow.sl.v43 | unfold midNarrow.sl.v45 | unfold midNarrow.sl.v59 | unfold midNarrow.sl.v62 | unfold midNarrow.sl.v65 | unfold midNarrow.sl.v67 | unfold midNarrow.sl.v68 | unfold midNarrow.sl.v69 | unfold midNarrow.sl.v71 | unfold midNarrow.sl.v74 | unfold midNarrow.sl.v84 | unfold midNarrow.sl.v87 | unfold midNarrow.sl.v90 | unfold midNarrow.sl.v108 | unfold midNarrow.sl.v111 | unfold midNarrow.sl.v114 | unfold midNarrow.sl.v115 | unfold midNarrow.sl.v118 | unfold midNarrow.sl.v122)); (repeat (first | rw [View.readAt_rep_full] | rw [View.readAt_writes_full] | rw [View.readCov_full] | rw [View.read_writes_full] | rw [readAt_rows128] | rw [readAt_rows1] | rw [View.readAt_full] | rw [View.read_writes_cons_put _ _ _ _ _ rfl] | rw [View.writes_nil] | rw [Memref.IsWhole.read_unread])); rfl
  skip
  · iexists _; isplitr; swap; · iexact HS2
    ipureintro
    (repeat (first | unfold midNarrow.sl.r | unfold midNarrow.sl.r_1 | unfold midNarrow.sl.r_2 | unfold midNarrow.sl.r_3 | unfold midNarrow.sl.r_4 | unfold midNarrow.sl.r_5 | unfold midNarrow.sl.r_6 | unfold midNarrow.sl.r_7 | unfold midNarrow.sl.r_8 | unfold midNarrow.sl.r_9 | unfold midNarrow.sl.r_10 | unfold midNarrow.sl.r_11 | unfold midNarrow.sl.HS0_1 | unfold midNarrow.sl.HS0_2 | unfold midNarrow.sl.HS0_3 | unfold midNarrow.sl.HS0_4 | unfold midNarrow.sl.HS1_1 | unfold midNarrow.sl.HS1_2 | unfold midNarrow.sl.HS1_3 | unfold midNarrow.sl.HS1_4 | unfold midNarrow.sl.HS2_1 | unfold midNarrow.sl.HS2_2 | unfold midNarrow.sl.HS2_3 | unfold midNarrow.sl.HS2_4 | unfold midNarrow.sl.v7 | unfold midNarrow.sl.v9 | unfold midNarrow.sl.v19 | unfold midNarrow.sl.v33 | unfold midNarrow.sl.v34 | unfold midNarrow.sl.v35 | unfold midNarrow.sl.v39 | unfold midNarrow.sl.v41 | unfold midNarrow.sl.v42 | unfold midNarrow.sl.v43 | unfold midNarrow.sl.v45 | unfold midNarrow.sl.v59 | unfold midNarrow.sl.v62 | unfold midNarrow.sl.v65 | unfold midNarrow.sl.v67 | unfold midNarrow.sl.v68 | unfold midNarrow.sl.v69 | unfold midNarrow.sl.v71 | unfold midNarrow.sl.v74 | unfold midNarrow.sl.v84 | unfold midNarrow.sl.v87 | unfold midNarrow.sl.v90 | unfold midNarrow.sl.v108 | unfold midNarrow.sl.v111 | unfold midNarrow.sl.v114 | unfold midNarrow.sl.v115 | unfold midNarrow.sl.v118 | unfold midNarrow.sl.v122)); (repeat (first | rw [View.readAt_rep_full] | rw [View.readAt_writes_full] | rw [View.readCov_full] | rw [View.read_writes_full] | rw [readAt_rows128] | rw [readAt_rows1] | rw [View.readAt_full] | rw [View.read_writes_cons_put _ _ _ _ _ rfl] | rw [View.writes_nil] | rw [Memref.IsWhole.read_unread])); rfl

set_option backward.proofsInPublic true in
set_option maxHeartbeats 8000000 in
/-- A middle point on the wide path leaves what `stepW` says. -/
theorem midWide (c : Dev nD) (i : grid0.Coords) (A : Args) (X : Ins) (T0 : S20x2.Idx → Elt Ideal .i32)
    (k0_h1 : ¬ atFirst i) (k0_hw1 : k0_chk1 (loW T0 i) (wideW T0 i)) (k0_h2 : ¬ k0_cond2 (wideW T0 i) = 1#1) (hc3 : isWide (wideW T0 i)) (k0_h4 : ¬ k0_cond4 i = 1#1)
    (y22 : S1x1x8000.Idx → Elt Ideal .f32) (y23 : S512x1.Idx → Elt Ideal .f32) (y24 : S512x128.Idx → Elt Ideal .f32) (S : Scr) (K : PUnit → sProp 𝕄) :
    iprop(held c A X ∗ outs c A T0 y22 y23 y24 S ∗ (iprop(held c A X ∗ outs c A T0 (elogOf X) y23 y24 (stepW X S)) -∗ K ⟨⟩))
      ⊢ wp frame (wpE (defs₀ (F := Ideal)) Variants.none c none) Set.univ (bodyOn i A) K := by
  unfold held bodyOn outs owns
  rw [cc0__edge_kernel_eq_skeleton]; unfold cc0__edge_kernel_skel
  iintro ⟨⟨H0, H1, H2, H3, H4, H5, H6, H7, H8, H9, H10, H11, H12, H13, H14, H15, H16, H17, H18, H19, H20, H21⟩, ⟨HT0, ⟨%f22, %hf22, HO22⟩, ⟨%f23, %hf23, HO23⟩, ⟨%f24, %hf24, HO24⟩, ⟨%s0, %hs0, HS0⟩, ⟨%s1, %hs1, HS1⟩, ⟨%s2, %hs2, HS2⟩⟩, Hk⟩
  have hS0 : scM0_0.IsWhole := Memref.isWhole_whole _
  have hS1 : scM0_1.IsWhole := Memref.isWhole_whole _
  have hS2 : scM0_2.IsWhole := Memref.isWhole_whole _
  have hT0 : tbM0_0.IsWhole := Memref.isWhole_whole _
  obtain rfl := A.h24.eq_unread hf22; obtain rfl := A.h25.eq_unread hf23; obtain rfl := A.h26.eq_unread hf24
  obtain rfl := hS0.eq_unread hs0; obtain rfl := hS1.eq_unread hs1; obtain rfl := hS2.eq_unread hs2
  sl_exec! (disch := first | (guard_target = ¬(Scalar.cmpi .ne _ _ = _); exact k0_h1) | (guard_target = k0_chk1 _ _; exact k0_hw1) | (guard_target = ¬(k0_cond2 _ = _); exact k0_h2) | (guard_target = Scalar.cmpi .ne _ _ = _; exact hc3) | (guard_target = ¬(k0_cond4 _ = _); exact k0_h4))
  sl_step
  iapply Hk
  isplitl [H0 H1 H2 H3 H4 H5 H6 H7 H8 H9 H10 H11 H12 H13 H14 H15 H16 H17 H18 H19 H20 H21]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  isplitl [HT0]; · iexact HT0
  isplitl [HO22]
  · iexists _; isplitr; swap; · iexact HO22
    ipureintro
    (repeat (first | unfold midWide.sl.r | unfold midWide.sl.r_1 | unfold midWide.sl.r_2 | unfold midWide.sl.r_3 | unfold midWide.sl.r_4 | unfold midWide.sl.r_5 | unfold midWide.sl.r_6 | unfold midWide.sl.r_7 | unfold midWide.sl.r_8 | unfold midWide.sl.r_9 | unfold midWide.sl.r_10 | unfold midWide.sl.r_11 | unfold midWide.sl.HS0_1 | unfold midWide.sl.HS0_2 | unfold midWide.sl.HS0_3 | unfold midWide.sl.HS0_4 | unfold midWide.sl.HS1_1 | unfold midWide.sl.HS1_2 | unfold midWide.sl.HS1_3 | unfold midWide.sl.HS1_4 | unfold midWide.sl.HS2_1 | unfold midWide.sl.HS2_2 | unfold midWide.sl.HS2_3 | unfold midWide.sl.HS2_4 | unfold midWide.sl.v7 | unfold midWide.sl.v9 | unfold midWide.sl.v19 | unfold midWide.sl.v33 | unfold midWide.sl.v34 | unfold midWide.sl.v35 | unfold midWide.sl.v39 | unfold midWide.sl.v41 | unfold midWide.sl.v42 | unfold midWide.sl.v43 | unfold midWide.sl.v45 | unfold midWide.sl.v59 | unfold midWide.sl.v62 | unfold midWide.sl.v65 | unfold midWide.sl.v67 | unfold midWide.sl.v68 | unfold midWide.sl.v69 | unfold midWide.sl.v71 | unfold midWide.sl.v74 | unfold midWide.sl.v84 | unfold midWide.sl.v87 | unfold midWide.sl.v90 | unfold midWide.sl.v108 | unfold midWide.sl.v111 | unfold midWide.sl.v114 | unfold midWide.sl.v115 | unfold midWide.sl.v118 | unfold midWide.sl.v122)); (repeat (first | rw [View.readAt_rep_full] | rw [View.readAt_writes_full] | rw [View.readCov_full] | rw [View.read_writes_full] | rw [readAt_rows128] | rw [readAt_rows1] | rw [View.readAt_full] | rw [View.read_writes_cons_put _ _ _ _ _ rfl] | rw [View.writes_nil] | rw [Memref.IsWhole.read_unread])); rfl
  isplitl [HO23]
  · iexists _; isplitr; swap; · iexact HO23
    ipureintro
    exact A.h25.read_unread _
  isplitl [HO24]
  · iexists _; isplitr; swap; · iexact HO24
    ipureintro
    exact A.h26.read_unread _
  isplitl [HS0]
  · iexists _; isplitr; swap; · iexact HS0
    ipureintro
    exact hS0.read_unread _
  isplitl [HS1]
  · iexists _; isplitr; swap; · iexact HS1
    ipureintro
    (repeat (first | unfold midWide.sl.r | unfold midWide.sl.r_1 | unfold midWide.sl.r_2 | unfold midWide.sl.r_3 | unfold midWide.sl.r_4 | unfold midWide.sl.r_5 | unfold midWide.sl.r_6 | unfold midWide.sl.r_7 | unfold midWide.sl.r_8 | unfold midWide.sl.r_9 | unfold midWide.sl.r_10 | unfold midWide.sl.r_11 | unfold midWide.sl.HS0_1 | unfold midWide.sl.HS0_2 | unfold midWide.sl.HS0_3 | unfold midWide.sl.HS0_4 | unfold midWide.sl.HS1_1 | unfold midWide.sl.HS1_2 | unfold midWide.sl.HS1_3 | unfold midWide.sl.HS1_4 | unfold midWide.sl.HS2_1 | unfold midWide.sl.HS2_2 | unfold midWide.sl.HS2_3 | unfold midWide.sl.HS2_4 | unfold midWide.sl.v7 | unfold midWide.sl.v9 | unfold midWide.sl.v19 | unfold midWide.sl.v33 | unfold midWide.sl.v34 | unfold midWide.sl.v35 | unfold midWide.sl.v39 | unfold midWide.sl.v41 | unfold midWide.sl.v42 | unfold midWide.sl.v43 | unfold midWide.sl.v45 | unfold midWide.sl.v59 | unfold midWide.sl.v62 | unfold midWide.sl.v65 | unfold midWide.sl.v67 | unfold midWide.sl.v68 | unfold midWide.sl.v69 | unfold midWide.sl.v71 | unfold midWide.sl.v74 | unfold midWide.sl.v84 | unfold midWide.sl.v87 | unfold midWide.sl.v90 | unfold midWide.sl.v108 | unfold midWide.sl.v111 | unfold midWide.sl.v114 | unfold midWide.sl.v115 | unfold midWide.sl.v118 | unfold midWide.sl.v122)); (repeat (first | rw [View.readAt_rep_full] | rw [View.readAt_writes_full] | rw [View.readCov_full] | rw [View.read_writes_full] | rw [readAt_rows128] | rw [readAt_rows1] | rw [View.readAt_full] | rw [View.read_writes_cons_put _ _ _ _ _ rfl] | rw [View.writes_nil] | rw [Memref.IsWhole.read_unread])); rfl
  skip
  · iexists _; isplitr; swap; · iexact HS2
    ipureintro
    (repeat (first | unfold midWide.sl.r | unfold midWide.sl.r_1 | unfold midWide.sl.r_2 | unfold midWide.sl.r_3 | unfold midWide.sl.r_4 | unfold midWide.sl.r_5 | unfold midWide.sl.r_6 | unfold midWide.sl.r_7 | unfold midWide.sl.r_8 | unfold midWide.sl.r_9 | unfold midWide.sl.r_10 | unfold midWide.sl.r_11 | unfold midWide.sl.HS0_1 | unfold midWide.sl.HS0_2 | unfold midWide.sl.HS0_3 | unfold midWide.sl.HS0_4 | unfold midWide.sl.HS1_1 | unfold midWide.sl.HS1_2 | unfold midWide.sl.HS1_3 | unfold midWide.sl.HS1_4 | unfold midWide.sl.HS2_1 | unfold midWide.sl.HS2_2 | unfold midWide.sl.HS2_3 | unfold midWide.sl.HS2_4 | unfold midWide.sl.v7 | unfold midWide.sl.v9 | unfold midWide.sl.v19 | unfold midWide.sl.v33 | unfold midWide.sl.v34 | unfold midWide.sl.v35 | unfold midWide.sl.v39 | unfold midWide.sl.v41 | unfold midWide.sl.v42 | unfold midWide.sl.v43 | unfold midWide.sl.v45 | unfold midWide.sl.v59 | unfold midWide.sl.v62 | unfold midWide.sl.v65 | unfold midWide.sl.v67 | unfold midWide.sl.v68 | unfold midWide.sl.v69 | unfold midWide.sl.v71 | unfold midWide.sl.v74 | unfold midWide.sl.v84 | unfold midWide.sl.v87 | unfold midWide.sl.v90 | unfold midWide.sl.v108 | unfold midWide.sl.v111 | unfold midWide.sl.v114 | unfold midWide.sl.v115 | unfold midWide.sl.v118 | unfold midWide.sl.v122)); (repeat (first | rw [View.readAt_rep_full] | rw [View.readAt_writes_full] | rw [View.readCov_full] | rw [View.read_writes_full] | rw [readAt_rows128] | rw [readAt_rows1] | rw [View.readAt_full] | rw [View.read_writes_cons_put _ _ _ _ _ rfl] | rw [View.writes_nil] | rw [Memref.IsWhole.read_unread])); rfl

end Cert.KernelIdeal.Hand

end
-- ==== Proof.KernelIdeal.RunFirst.lean ====
module

public import proofs.«01_k».proof.Proof.Gen.KernelIdeal.Skeleton
public import proofs.«01_k».proof.Proof.Gen.KernelIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.Frame
public import Idealize.ShloMosaic.Lib.Writes
public import Idealize.ShloMosaic.Lib.WritesUnit
public import Idealize.ShloMosaic.Lib.WholeRead
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init
public import proofs.«01_k».proof.Proof.KernelIdeal.Step

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

set_option backward.proofsInPublic true in
set_option maxHeartbeats 8000000 in
/-- The first point on the narrow path: the scratch set up, then `stepN`. -/
theorem firstNarrow (c : Dev nD) (i : grid0.Coords) (A : Args) (X : Ins) (T0 : S20x2.Idx → Elt Ideal .i32)
    (k0_h1 : atFirst i) (k0_hw1 : k0_chk1 (loW T0 i) (wideW T0 i)) (k0_h2 : k0_cond2 (wideW T0 i) = 1#1) (hc3 : ¬ isWide (wideW T0 i)) (k0_h4 : ¬ k0_cond4 i = 1#1)
    (y22 : S1x1x8000.Idx → Elt Ideal .f32) (y23 : S512x1.Idx → Elt Ideal .f32) (y24 : S512x128.Idx → Elt Ideal .f32) (S : Scr) (K : PUnit → sProp 𝕄) :
    iprop(held c A X ∗ outs c A T0 y22 y23 y24 S ∗ (iprop(held c A X ∗ outs c A T0 (elogOf X) y23 y24 (stepN X (loW T0 i) (start X))) -∗ K ⟨⟩))
      ⊢ wp frame (wpE (defs₀ (F := Ideal)) Variants.none c none) Set.univ (bodyOn i A) K := by
  unfold held bodyOn outs owns
  rw [cc0__edge_kernel_eq_skeleton]; unfold cc0__edge_kernel_skel
  iintro ⟨⟨H0, H1, H2, H3, H4, H5, H6, H7, H8, H9, H10, H11, H12, H13, H14, H15, H16, H17, H18, H19, H20, H21⟩, ⟨HT0, ⟨%f22, %hf22, HO22⟩, ⟨%f23, %hf23, HO23⟩, ⟨%f24, %hf24, HO24⟩, ⟨%s0, %hs0, HS0⟩, ⟨%s1, %hs1, HS1⟩, ⟨%s2, %hs2, HS2⟩⟩, Hk⟩
  have hS0 : scM0_0.IsWhole := Memref.isWhole_whole _
  have hS1 : scM0_1.IsWhole := Memref.isWhole_whole _
  have hS2 : scM0_2.IsWhole := Memref.isWhole_whole _
  have hT0 : tbM0_0.IsWhole := Memref.isWhole_whole _
  obtain rfl := A.h24.eq_unread hf22; obtain rfl := A.h25.eq_unread hf23; obtain rfl := A.h26.eq_unread hf24
  obtain rfl := hS0.eq_unread hs0; obtain rfl := hS1.eq_unread hs1; obtain rfl := hS2.eq_unread hs2
  sl_exec! (disch := first | (guard_target = Scalar.cmpi .ne _ _ = _; exact k0_h1) | (guard_target = k0_chk1 _ _; exact k0_hw1) | (guard_target = k0_cond2 _ = _; exact k0_h2) | (guard_target = ¬(Scalar.cmpi .ne _ _ = _); exact hc3) | (guard_target = ¬(k0_cond4 _ = _); exact k0_h4))
  sl_step
  iapply Hk
  isplitl [H0 H1 H2 H3 H4 H5 H6 H7 H8 H9 H10 H11 H12 H13 H14 H15 H16 H17 H18 H19 H20 H21]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  isplitl [HT0]; · iexact HT0
  isplitl [HO22]
  · iexists _; isplitr; swap; · iexact HO22
    ipureintro
    (repeat (first | unfold firstNarrow.sl.r | unfold firstNarrow.sl.r_1 | unfold firstNarrow.sl.r_2 | unfold firstNarrow.sl.r_3 | unfold firstNarrow.sl.r_4 | unfold firstNarrow.sl.r_5 | unfold firstNarrow.sl.r_6 | unfold firstNarrow.sl.r_7 | unfold firstNarrow.sl.r_8 | unfold firstNarrow.sl.r_9 | unfold firstNarrow.sl.r_10 | unfold firstNarrow.sl.r_11 | unfold firstNarrow.sl.HS0_1 | unfold firstNarrow.sl.HS0_2 | unfold firstNarrow.sl.HS0_3 | unfold firstNarrow.sl.HS0_4 | unfold firstNarrow.sl.HS1_1 | unfold firstNarrow.sl.HS1_2 | unfold firstNarrow.sl.HS1_3 | unfold firstNarrow.sl.HS1_4 | unfold firstNarrow.sl.HS2_1 | unfold firstNarrow.sl.HS2_2 | unfold firstNarrow.sl.HS2_3 | unfold firstNarrow.sl.HS2_4 | unfold firstNarrow.sl.v7 | unfold firstNarrow.sl.v9 | unfold firstNarrow.sl.v19 | unfold firstNarrow.sl.v33 | unfold firstNarrow.sl.v34 | unfold firstNarrow.sl.v35 | unfold firstNarrow.sl.v39 | unfold firstNarrow.sl.v41 | unfold firstNarrow.sl.v42 | unfold firstNarrow.sl.v43 | unfold firstNarrow.sl.v45 | unfold firstNarrow.sl.v59 | unfold firstNarrow.sl.v62 | unfold firstNarrow.sl.v65 | unfold firstNarrow.sl.v67 | unfold firstNarrow.sl.v68 | unfold firstNarrow.sl.v69 | unfold firstNarrow.sl.v71 | unfold firstNarrow.sl.v74 | unfold firstNarrow.sl.v84 | unfold firstNarrow.sl.v87 | unfold firstNarrow.sl.v90 | unfold firstNarrow.sl.v108 | unfold firstNarrow.sl.v111 | unfold firstNarrow.sl.v114 | unfold firstNarrow.sl.v115 | unfold firstNarrow.sl.v118 | unfold firstNarrow.sl.v122)); (repeat (first | rw [View.readAt_rep_full] | rw [View.readAt_writes_full] | rw [View.readCov_full] | rw [View.read_writes_full] | rw [readAt_rows128] | rw [readAt_rows1] | rw [View.readAt_full] | rw [View.read_writes_cons_put _ _ _ _ _ rfl] | rw [View.writes_nil] | rw [Memref.IsWhole.read_unread])); rfl
  isplitl [HO23]
  · iexists _; isplitr; swap; · iexact HO23
    ipureintro
    exact A.h25.read_unread _
  isplitl [HO24]
  · iexists _; isplitr; swap; · iexact HO24
    ipureintro
    exact A.h26.read_unread _
  isplitl [HS0]
  · iexists _; isplitr; swap; · iexact HS0
    ipureintro
    (repeat (first | unfold firstNarrow.sl.r | unfold firstNarrow.sl.r_1 | unfold firstNarrow.sl.r_2 | unfold firstNarrow.sl.r_3 | unfold firstNarrow.sl.r_4 | unfold firstNarrow.sl.r_5 | unfold firstNarrow.sl.r_6 | unfold firstNarrow.sl.r_7 | unfold firstNarrow.sl.r_8 | unfold firstNarrow.sl.r_9 | unfold firstNarrow.sl.r_10 | unfold firstNarrow.sl.r_11 | unfold firstNarrow.sl.HS0_1 | unfold firstNarrow.sl.HS0_2 | unfold firstNarrow.sl.HS0_3 | unfold firstNarrow.sl.HS0_4 | unfold firstNarrow.sl.HS1_1 | unfold firstNarrow.sl.HS1_2 | unfold firstNarrow.sl.HS1_3 | unfold firstNarrow.sl.HS1_4 | unfold firstNarrow.sl.HS2_1 | unfold firstNarrow.sl.HS2_2 | unfold firstNarrow.sl.HS2_3 | unfold firstNarrow.sl.HS2_4 | unfold firstNarrow.sl.v7 | unfold firstNarrow.sl.v9 | unfold firstNarrow.sl.v19 | unfold firstNarrow.sl.v33 | unfold firstNarrow.sl.v34 | unfold firstNarrow.sl.v35 | unfold firstNarrow.sl.v39 | unfold firstNarrow.sl.v41 | unfold firstNarrow.sl.v42 | unfold firstNarrow.sl.v43 | unfold firstNarrow.sl.v45 | unfold firstNarrow.sl.v59 | unfold firstNarrow.sl.v62 | unfold firstNarrow.sl.v65 | unfold firstNarrow.sl.v67 | unfold firstNarrow.sl.v68 | unfold firstNarrow.sl.v69 | unfold firstNarrow.sl.v71 | unfold firstNarrow.sl.v74 | unfold firstNarrow.sl.v84 | unfold firstNarrow.sl.v87 | unfold firstNarrow.sl.v90 | unfold firstNarrow.sl.v108 | unfold firstNarrow.sl.v111 | unfold firstNarrow.sl.v114 | unfold firstNarrow.sl.v115 | unfold firstNarrow.sl.v118 | unfold firstNarrow.sl.v122)); (repeat (first | rw [View.readAt_rep_full] | rw [View.readAt_writes_full] | rw [View.readCov_full] | rw [View.read_writes_full] | rw [readAt_rows128] | rw [readAt_rows1] | rw [View.readAt_full] | rw [View.read_writes_cons_put _ _ _ _ _ rfl] | rw [View.writes_nil] | rw [Memref.IsWhole.read_unread])); rfl
  isplitl [HS1]
  · iexists _; isplitr; swap; · iexact HS1
    ipureintro
    (repeat (first | unfold firstNarrow.sl.r | unfold firstNarrow.sl.r_1 | unfold firstNarrow.sl.r_2 | unfold firstNarrow.sl.r_3 | unfold firstNarrow.sl.r_4 | unfold firstNarrow.sl.r_5 | unfold firstNarrow.sl.r_6 | unfold firstNarrow.sl.r_7 | unfold firstNarrow.sl.r_8 | unfold firstNarrow.sl.r_9 | unfold firstNarrow.sl.r_10 | unfold firstNarrow.sl.r_11 | unfold firstNarrow.sl.HS0_1 | unfold firstNarrow.sl.HS0_2 | unfold firstNarrow.sl.HS0_3 | unfold firstNarrow.sl.HS0_4 | unfold firstNarrow.sl.HS1_1 | unfold firstNarrow.sl.HS1_2 | unfold firstNarrow.sl.HS1_3 | unfold firstNarrow.sl.HS1_4 | unfold firstNarrow.sl.HS2_1 | unfold firstNarrow.sl.HS2_2 | unfold firstNarrow.sl.HS2_3 | unfold firstNarrow.sl.HS2_4 | unfold firstNarrow.sl.v7 | unfold firstNarrow.sl.v9 | unfold firstNarrow.sl.v19 | unfold firstNarrow.sl.v33 | unfold firstNarrow.sl.v34 | unfold firstNarrow.sl.v35 | unfold firstNarrow.sl.v39 | unfold firstNarrow.sl.v41 | unfold firstNarrow.sl.v42 | unfold firstNarrow.sl.v43 | unfold firstNarrow.sl.v45 | unfold firstNarrow.sl.v59 | unfold firstNarrow.sl.v62 | unfold firstNarrow.sl.v65 | unfold firstNarrow.sl.v67 | unfold firstNarrow.sl.v68 | unfold firstNarrow.sl.v69 | unfold firstNarrow.sl.v71 | unfold firstNarrow.sl.v74 | unfold firstNarrow.sl.v84 | unfold firstNarrow.sl.v87 | unfold firstNarrow.sl.v90 | unfold firstNarrow.sl.v108 | unfold firstNarrow.sl.v111 | unfold firstNarrow.sl.v114 | unfold firstNarrow.sl.v115 | unfold firstNarrow.sl.v118 | unfold firstNarrow.sl.v122)); (repeat (first | rw [View.readAt_rep_full] | rw [View.readAt_writes_full] | rw [View.readCov_full] | rw [View.read_writes_full] | rw [readAt_rows128] | rw [readAt_rows1] | rw [View.readAt_full] | rw [View.read_writes_cons_put _ _ _ _ _ rfl] | rw [View.writes_nil] | rw [Memref.IsWhole.read_unread])); rfl
  skip
  · iexists _; isplitr; swap; · iexact HS2
    ipureintro
    (repeat (first | unfold firstNarrow.sl.r | unfold firstNarrow.sl.r_1 | unfold firstNarrow.sl.r_2 | unfold firstNarrow.sl.r_3 | unfold firstNarrow.sl.r_4 | unfold firstNarrow.sl.r_5 | unfold firstNarrow.sl.r_6 | unfold firstNarrow.sl.r_7 | unfold firstNarrow.sl.r_8 | unfold firstNarrow.sl.r_9 | unfold firstNarrow.sl.r_10 | unfold firstNarrow.sl.r_11 | unfold firstNarrow.sl.HS0_1 | unfold firstNarrow.sl.HS0_2 | unfold firstNarrow.sl.HS0_3 | unfold firstNarrow.sl.HS0_4 | unfold firstNarrow.sl.HS1_1 | unfold firstNarrow.sl.HS1_2 | unfold firstNarrow.sl.HS1_3 | unfold firstNarrow.sl.HS1_4 | unfold firstNarrow.sl.HS2_1 | unfold firstNarrow.sl.HS2_2 | unfold firstNarrow.sl.HS2_3 | unfold firstNarrow.sl.HS2_4 | unfold firstNarrow.sl.v7 | unfold firstNarrow.sl.v9 | unfold firstNarrow.sl.v19 | unfold firstNarrow.sl.v33 | unfold firstNarrow.sl.v34 | unfold firstNarrow.sl.v35 | unfold firstNarrow.sl.v39 | unfold firstNarrow.sl.v41 | unfold firstNarrow.sl.v42 | unfold firstNarrow.sl.v43 | unfold firstNarrow.sl.v45 | unfold firstNarrow.sl.v59 | unfold firstNarrow.sl.v62 | unfold firstNarrow.sl.v65 | unfold firstNarrow.sl.v67 | unfold firstNarrow.sl.v68 | unfold firstNarrow.sl.v69 | unfold firstNarrow.sl.v71 | unfold firstNarrow.sl.v74 | unfold firstNarrow.sl.v84 | unfold firstNarrow.sl.v87 | unfold firstNarrow.sl.v90 | unfold firstNarrow.sl.v108 | unfold firstNarrow.sl.v111 | unfold firstNarrow.sl.v114 | unfold firstNarrow.sl.v115 | unfold firstNarrow.sl.v118 | unfold firstNarrow.sl.v122)); (repeat (first | rw [View.readAt_rep_full] | rw [View.readAt_writes_full] | rw [View.readCov_full] | rw [View.read_writes_full] | rw [readAt_rows128] | rw [readAt_rows1] | rw [View.readAt_full] | rw [View.read_writes_cons_put _ _ _ _ _ rfl] | rw [View.writes_nil] | rw [Memref.IsWhole.read_unread])); rfl

set_option backward.proofsInPublic true in
set_option maxHeartbeats 8000000 in
/-- The first point on the wide path: the scratch set up, then `stepW`. -/
theorem firstWide (c : Dev nD) (i : grid0.Coords) (A : Args) (X : Ins) (T0 : S20x2.Idx → Elt Ideal .i32)
    (k0_h1 : atFirst i) (k0_hw1 : k0_chk1 (loW T0 i) (wideW T0 i)) (k0_h2 : ¬ k0_cond2 (wideW T0 i) = 1#1) (hc3 : isWide (wideW T0 i)) (k0_h4 : ¬ k0_cond4 i = 1#1)
    (y22 : S1x1x8000.Idx → Elt Ideal .f32) (y23 : S512x1.Idx → Elt Ideal .f32) (y24 : S512x128.Idx → Elt Ideal .f32) (S : Scr) (K : PUnit → sProp 𝕄) :
    iprop(held c A X ∗ outs c A T0 y22 y23 y24 S ∗ (iprop(held c A X ∗ outs c A T0 (elogOf X) y23 y24 (stepW X (start X))) -∗ K ⟨⟩))
      ⊢ wp frame (wpE (defs₀ (F := Ideal)) Variants.none c none) Set.univ (bodyOn i A) K := by
  unfold held bodyOn outs owns
  rw [cc0__edge_kernel_eq_skeleton]; unfold cc0__edge_kernel_skel
  iintro ⟨⟨H0, H1, H2, H3, H4, H5, H6, H7, H8, H9, H10, H11, H12, H13, H14, H15, H16, H17, H18, H19, H20, H21⟩, ⟨HT0, ⟨%f22, %hf22, HO22⟩, ⟨%f23, %hf23, HO23⟩, ⟨%f24, %hf24, HO24⟩, ⟨%s0, %hs0, HS0⟩, ⟨%s1, %hs1, HS1⟩, ⟨%s2, %hs2, HS2⟩⟩, Hk⟩
  have hS0 : scM0_0.IsWhole := Memref.isWhole_whole _
  have hS1 : scM0_1.IsWhole := Memref.isWhole_whole _
  have hS2 : scM0_2.IsWhole := Memref.isWhole_whole _
  have hT0 : tbM0_0.IsWhole := Memref.isWhole_whole _
  obtain rfl := A.h24.eq_unread hf22; obtain rfl := A.h25.eq_unread hf23; obtain rfl := A.h26.eq_unread hf24
  obtain rfl := hS0.eq_unread hs0; obtain rfl := hS1.eq_unread hs1; obtain rfl := hS2.eq_unread hs2
  sl_exec! (disch := first | (guard_target = Scalar.cmpi .ne _ _ = _; exact k0_h1) | (guard_target = k0_chk1 _ _; exact k0_hw1) | (guard_target = ¬(k0_cond2 _ = _); exact k0_h2) | (guard_target = Scalar.cmpi .ne _ _ = _; exact hc3) | (guard_target = ¬(k0_cond4 _ = _); exact k0_h4))
  sl_step
  iapply Hk
  isplitl [H0 H1 H2 H3 H4 H5 H6 H7 H8 H9 H10 H11 H12 H13 H14 H15 H16 H17 H18 H19 H20 H21]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  isplitl [HT0]; · iexact HT0
  isplitl [HO22]
  · iexists _; isplitr; swap; · iexact HO22
    ipureintro
    (repeat (first | unfold firstWide.sl.r | unfold firstWide.sl.r_1 | unfold firstWide.sl.r_2 | unfold firstWide.sl.r_3 | unfold firstWide.sl.r_4 | unfold firstWide.sl.r_5 | unfold firstWide.sl.r_6 | unfold firstWide.sl.r_7 | unfold firstWide.sl.r_8 | unfold firstWide.sl.r_9 | unfold firstWide.sl.r_10 | unfold firstWide.sl.r_11 | unfold firstWide.sl.HS0_1 | unfold firstWide.sl.HS0_2 | unfold firstWide.sl.HS0_3 | unfold firstWide.sl.HS0_4 | unfold firstWide.sl.HS1_1 | unfold firstWide.sl.HS1_2 | unfold firstWide.sl.HS1_3 | unfold firstWide.sl.HS1_4 | unfold firstWide.sl.HS2_1 | unfold firstWide.sl.HS2_2 | unfold firstWide.sl.HS2_3 | unfold firstWide.sl.HS2_4 | unfold firstWide.sl.v7 | unfold firstWide.sl.v9 | unfold firstWide.sl.v19 | unfold firstWide.sl.v33 | unfold firstWide.sl.v34 | unfold firstWide.sl.v35 | unfold firstWide.sl.v39 | unfold firstWide.sl.v41 | unfold firstWide.sl.v42 | unfold firstWide.sl.v43 | unfold firstWide.sl.v45 | unfold firstWide.sl.v59 | unfold firstWide.sl.v62 | unfold firstWide.sl.v65 | unfold firstWide.sl.v67 | unfold firstWide.sl.v68 | unfold firstWide.sl.v69 | unfold firstWide.sl.v71 | unfold firstWide.sl.v74 | unfold firstWide.sl.v84 | unfold firstWide.sl.v87 | unfold firstWide.sl.v90 | unfold firstWide.sl.v108 | unfold firstWide.sl.v111 | unfold firstWide.sl.v114 | unfold firstWide.sl.v115 | unfold firstWide.sl.v118 | unfold firstWide.sl.v122)); (repeat (first | rw [View.readAt_rep_full] | rw [View.readAt_writes_full] | rw [View.readCov_full] | rw [View.read_writes_full] | rw [readAt_rows128] | rw [readAt_rows1] | rw [View.readAt_full] | rw [View.read_writes_cons_put _ _ _ _ _ rfl] | rw [View.writes_nil] | rw [Memref.IsWhole.read_unread])); rfl
  isplitl [HO23]
  · iexists _; isplitr; swap; · iexact HO23
    ipureintro
    exact A.h25.read_unread _
  isplitl [HO24]
  · iexists _; isplitr; swap; · iexact HO24
    ipureintro
    exact A.h26.read_unread _
  isplitl [HS0]
  · iexists _; isplitr; swap; · iexact HS0
    ipureintro
    (repeat (first | unfold firstWide.sl.r | unfold firstWide.sl.r_1 | unfold firstWide.sl.r_2 | unfold firstWide.sl.r_3 | unfold firstWide.sl.r_4 | unfold firstWide.sl.r_5 | unfold firstWide.sl.r_6 | unfold firstWide.sl.r_7 | unfold firstWide.sl.r_8 | unfold firstWide.sl.r_9 | unfold firstWide.sl.r_10 | unfold firstWide.sl.r_11 | unfold firstWide.sl.HS0_1 | unfold firstWide.sl.HS0_2 | unfold firstWide.sl.HS0_3 | unfold firstWide.sl.HS0_4 | unfold firstWide.sl.HS1_1 | unfold firstWide.sl.HS1_2 | unfold firstWide.sl.HS1_3 | unfold firstWide.sl.HS1_4 | unfold firstWide.sl.HS2_1 | unfold firstWide.sl.HS2_2 | unfold firstWide.sl.HS2_3 | unfold firstWide.sl.HS2_4 | unfold firstWide.sl.v7 | unfold firstWide.sl.v9 | unfold firstWide.sl.v19 | unfold firstWide.sl.v33 | unfold firstWide.sl.v34 | unfold firstWide.sl.v35 | unfold firstWide.sl.v39 | unfold firstWide.sl.v41 | unfold firstWide.sl.v42 | unfold firstWide.sl.v43 | unfold firstWide.sl.v45 | unfold firstWide.sl.v59 | unfold firstWide.sl.v62 | unfold firstWide.sl.v65 | unfold firstWide.sl.v67 | unfold firstWide.sl.v68 | unfold firstWide.sl.v69 | unfold firstWide.sl.v71 | unfold firstWide.sl.v74 | unfold firstWide.sl.v84 | unfold firstWide.sl.v87 | unfold firstWide.sl.v90 | unfold firstWide.sl.v108 | unfold firstWide.sl.v111 | unfold firstWide.sl.v114 | unfold firstWide.sl.v115 | unfold firstWide.sl.v118 | unfold firstWide.sl.v122)); (repeat (first | rw [View.readAt_rep_full] | rw [View.readAt_writes_full] | rw [View.readCov_full] | rw [View.read_writes_full] | rw [readAt_rows128] | rw [readAt_rows1] | rw [View.readAt_full] | rw [View.read_writes_cons_put _ _ _ _ _ rfl] | rw [View.writes_nil] | rw [Memref.IsWhole.read_unread])); rfl
  isplitl [HS1]
  · iexists _; isplitr; swap; · iexact HS1
    ipureintro
    (repeat (first | unfold firstWide.sl.r | unfold firstWide.sl.r_1 | unfold firstWide.sl.r_2 | unfold firstWide.sl.r_3 | unfold firstWide.sl.r_4 | unfold firstWide.sl.r_5 | unfold firstWide.sl.r_6 | unfold firstWide.sl.r_7 | unfold firstWide.sl.r_8 | unfold firstWide.sl.r_9 | unfold firstWide.sl.r_10 | unfold firstWide.sl.r_11 | unfold firstWide.sl.HS0_1 | unfold firstWide.sl.HS0_2 | unfold firstWide.sl.HS0_3 | unfold firstWide.sl.HS0_4 | unfold firstWide.sl.HS1_1 | unfold firstWide.sl.HS1_2 | unfold firstWide.sl.HS1_3 | unfold firstWide.sl.HS1_4 | unfold firstWide.sl.HS2_1 | unfold firstWide.sl.HS2_2 | unfold firstWide.sl.HS2_3 | unfold firstWide.sl.HS2_4 | unfold firstWide.sl.v7 | unfold firstWide.sl.v9 | unfold firstWide.sl.v19 | unfold firstWide.sl.v33 | unfold firstWide.sl.v34 | unfold firstWide.sl.v35 | unfold firstWide.sl.v39 | unfold firstWide.sl.v41 | unfold firstWide.sl.v42 | unfold firstWide.sl.v43 | unfold firstWide.sl.v45 | unfold firstWide.sl.v59 | unfold firstWide.sl.v62 | unfold firstWide.sl.v65 | unfold firstWide.sl.v67 | unfold firstWide.sl.v68 | unfold firstWide.sl.v69 | unfold firstWide.sl.v71 | unfold firstWide.sl.v74 | unfold firstWide.sl.v84 | unfold firstWide.sl.v87 | unfold firstWide.sl.v90 | unfold firstWide.sl.v108 | unfold firstWide.sl.v111 | unfold firstWide.sl.v114 | unfold firstWide.sl.v115 | unfold firstWide.sl.v118 | unfold firstWide.sl.v122)); (repeat (first | rw [View.readAt_rep_full] | rw [View.readAt_writes_full] | rw [View.readCov_full] | rw [View.read_writes_full] | rw [readAt_rows128] | rw [readAt_rows1] | rw [View.readAt_full] | rw [View.read_writes_cons_put _ _ _ _ _ rfl] | rw [View.writes_nil] | rw [Memref.IsWhole.read_unread])); rfl
  skip
  · iexists _; isplitr; swap; · iexact HS2
    ipureintro
    (repeat (first | unfold firstWide.sl.r | unfold firstWide.sl.r_1 | unfold firstWide.sl.r_2 | unfold firstWide.sl.r_3 | unfold firstWide.sl.r_4 | unfold firstWide.sl.r_5 | unfold firstWide.sl.r_6 | unfold firstWide.sl.r_7 | unfold firstWide.sl.r_8 | unfold firstWide.sl.r_9 | unfold firstWide.sl.r_10 | unfold firstWide.sl.r_11 | unfold firstWide.sl.HS0_1 | unfold firstWide.sl.HS0_2 | unfold firstWide.sl.HS0_3 | unfold firstWide.sl.HS0_4 | unfold firstWide.sl.HS1_1 | unfold firstWide.sl.HS1_2 | unfold firstWide.sl.HS1_3 | unfold firstWide.sl.HS1_4 | unfold firstWide.sl.HS2_1 | unfold firstWide.sl.HS2_2 | unfold firstWide.sl.HS2_3 | unfold firstWide.sl.HS2_4 | unfold firstWide.sl.v7 | unfold firstWide.sl.v9 | unfold firstWide.sl.v19 | unfold firstWide.sl.v33 | unfold firstWide.sl.v34 | unfold firstWide.sl.v35 | unfold firstWide.sl.v39 | unfold firstWide.sl.v41 | unfold firstWide.sl.v42 | unfold firstWide.sl.v43 | unfold firstWide.sl.v45 | unfold firstWide.sl.v59 | unfold firstWide.sl.v62 | unfold firstWide.sl.v65 | unfold firstWide.sl.v67 | unfold firstWide.sl.v68 | unfold firstWide.sl.v69 | unfold firstWide.sl.v71 | unfold firstWide.sl.v74 | unfold firstWide.sl.v84 | unfold firstWide.sl.v87 | unfold firstWide.sl.v90 | unfold firstWide.sl.v108 | unfold firstWide.sl.v111 | unfold firstWide.sl.v114 | unfold firstWide.sl.v115 | unfold firstWide.sl.v118 | unfold firstWide.sl.v122)); (repeat (first | rw [View.readAt_rep_full] | rw [View.readAt_writes_full] | rw [View.readCov_full] | rw [View.read_writes_full] | rw [readAt_rows128] | rw [readAt_rows1] | rw [View.readAt_full] | rw [View.read_writes_cons_put _ _ _ _ _ rfl] | rw [View.writes_nil] | rw [Memref.IsWhole.read_unread])); rfl

end Cert.KernelIdeal.Hand

end
-- ==== Proof.KernelIdeal.RunLast.lean ====
module

public import proofs.«01_k».proof.Proof.Gen.KernelIdeal.Skeleton
public import proofs.«01_k».proof.Proof.Gen.KernelIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.Frame
public import Idealize.ShloMosaic.Lib.Writes
public import Idealize.ShloMosaic.Lib.WritesUnit
public import Idealize.ShloMosaic.Lib.WholeRead
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init
public import proofs.«01_k».proof.Proof.KernelIdeal.Step

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

set_option backward.proofsInPublic true in
set_option maxHeartbeats 8000000 in
/-- The last point on the narrow path: `stepN`, then the two results. -/
theorem lastNarrow (c : Dev nD) (i : grid0.Coords) (A : Args) (X : Ins) (T0 : S20x2.Idx → Elt Ideal .i32)
    (k0_h1 : ¬ atFirst i) (k0_hw1 : k0_chk1 (loW T0 i) (wideW T0 i)) (k0_h2 : k0_cond2 (wideW T0 i) = 1#1) (hc3 : ¬ isWide (wideW T0 i)) (k0_h4 : k0_cond4 i = 1#1)
    (y22 : S1x1x8000.Idx → Elt Ideal .f32) (y23 : S512x1.Idx → Elt Ideal .f32) (y24 : S512x128.Idx → Elt Ideal .f32) (S : Scr) (K : PUnit → sProp 𝕄) :
    iprop(held c A X ∗ outs c A T0 y22 y23 y24 S ∗ (iprop(held c A X ∗ outs c A T0 (elogOf X) (stopOf X (stepN X (loW T0 i) S)) (curOf X (stepN X (loW T0 i) S)) (stepN X (loW T0 i) S)) -∗ K ⟨⟩))
      ⊢ wp frame (wpE (defs₀ (F := Ideal)) Variants.none c none) Set.univ (bodyOn i A) K := by
  unfold held bodyOn outs owns
  rw [cc0__edge_kernel_eq_skeleton]; unfold cc0__edge_kernel_skel
  iintro ⟨⟨H0, H1, H2, H3, H4, H5, H6, H7, H8, H9, H10, H11, H12, H13, H14, H15, H16, H17, H18, H19, H20, H21⟩, ⟨HT0, ⟨%f22, %hf22, HO22⟩, ⟨%f23, %hf23, HO23⟩, ⟨%f24, %hf24, HO24⟩, ⟨%s0, %hs0, HS0⟩, ⟨%s1, %hs1, HS1⟩, ⟨%s2, %hs2, HS2⟩⟩, Hk⟩
  have hS0 : scM0_0.IsWhole := Memref.isWhole_whole _
  have hS1 : scM0_1.IsWhole := Memref.isWhole_whole _
  have hS2 : scM0_2.IsWhole := Memref.isWhole_whole _
  have hT0 : tbM0_0.IsWhole := Memref.isWhole_whole _
  obtain rfl := A.h24.eq_unread hf22; obtain rfl := A.h25.eq_unread hf23; obtain rfl := A.h26.eq_unread hf24
  obtain rfl := hS0.eq_unread hs0; obtain rfl := hS1.eq_unread hs1; obtain rfl := hS2.eq_unread hs2
  sl_exec! (disch := first | (guard_target = ¬(Scalar.cmpi .ne _ _ = _); exact k0_h1) | (guard_target = k0_chk1 _ _; exact k0_hw1) | (guard_target = k0_cond2 _ = _; exact k0_h2) | (guard_target = ¬(Scalar.cmpi .ne _ _ = _); exact hc3) | (guard_target = k0_cond4 _ = _; exact k0_h4))
  sl_step
  iapply Hk
  isplitl [H0 H1 H2 H3 H4 H5 H6 H7 H8 H9 H10 H11 H12 H13 H14 H15 H16 H17 H18 H19 H20 H21]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  isplitl [HT0]; · iexact HT0
  isplitl [HO22]
  · iexists _; isplitr; swap; · iexact HO22
    ipureintro
    (repeat (first | unfold lastNarrow.sl.r | unfold lastNarrow.sl.r_1 | unfold lastNarrow.sl.r_2 | unfold lastNarrow.sl.r_3 | unfold lastNarrow.sl.r_4 | unfold lastNarrow.sl.r_5 | unfold lastNarrow.sl.r_6 | unfold lastNarrow.sl.r_7 | unfold lastNarrow.sl.r_8 | unfold lastNarrow.sl.r_9 | unfold lastNarrow.sl.r_10 | unfold lastNarrow.sl.r_11 | unfold lastNarrow.sl.HS0_1 | unfold lastNarrow.sl.HS0_2 | unfold lastNarrow.sl.HS0_3 | unfold lastNarrow.sl.HS0_4 | unfold lastNarrow.sl.HS1_1 | unfold lastNarrow.sl.HS1_2 | unfold lastNarrow.sl.HS1_3 | unfold lastNarrow.sl.HS1_4 | unfold lastNarrow.sl.HS2_1 | unfold lastNarrow.sl.HS2_2 | unfold lastNarrow.sl.HS2_3 | unfold lastNarrow.sl.HS2_4 | unfold lastNarrow.sl.v7 | unfold lastNarrow.sl.v9 | unfold lastNarrow.sl.v19 | unfold lastNarrow.sl.v33 | unfold lastNarrow.sl.v34 | unfold lastNarrow.sl.v35 | unfold lastNarrow.sl.v39 | unfold lastNarrow.sl.v41 | unfold lastNarrow.sl.v42 | unfold lastNarrow.sl.v43 | unfold lastNarrow.sl.v45 | unfold lastNarrow.sl.v59 | unfold lastNarrow.sl.v62 | unfold lastNarrow.sl.v65 | unfold lastNarrow.sl.v67 | unfold lastNarrow.sl.v68 | unfold lastNarrow.sl.v69 | unfold lastNarrow.sl.v71 | unfold lastNarrow.sl.v74 | unfold lastNarrow.sl.v84 | unfold lastNarrow.sl.v87 | unfold lastNarrow.sl.v90 | unfold lastNarrow.sl.v108 | unfold lastNarrow.sl.v111 | unfold lastNarrow.sl.v114 | unfold lastNarrow.sl.v115 | unfold lastNarrow.sl.v118 | unfold lastNarrow.sl.v122)); (repeat (first | rw [View.readAt_rep_full] | rw [View.readAt_writes_full] | rw [View.readCov_full] | rw [View.read_writes_full] | rw [readAt_rows128] | rw [readAt_rows1] | rw [View.readAt_full] | rw [View.read_writes_cons_put _ _ _ _ _ rfl] | rw [View.writes_nil] | rw [Memref.IsWhole.read_unread])); rfl
  isplitl [HO23]
  · iexists _; isplitr; swap; · iexact HO23
    ipureintro
    (repeat (first | unfold lastNarrow.sl.r | unfold lastNarrow.sl.r_1 | unfold lastNarrow.sl.r_2 | unfold lastNarrow.sl.r_3 | unfold lastNarrow.sl.r_4 | unfold lastNarrow.sl.r_5 | unfold lastNarrow.sl.r_6 | unfold lastNarrow.sl.r_7 | unfold lastNarrow.sl.r_8 | unfold lastNarrow.sl.r_9 | unfold lastNarrow.sl.r_10 | unfold lastNarrow.sl.r_11 | unfold lastNarrow.sl.HS0_1 | unfold lastNarrow.sl.HS0_2 | unfold lastNarrow.sl.HS0_3 | unfold lastNarrow.sl.HS0_4 | unfold lastNarrow.sl.HS1_1 | unfold lastNarrow.sl.HS1_2 | unfold lastNarrow.sl.HS1_3 | unfold lastNarrow.sl.HS1_4 | unfold lastNarrow.sl.HS2_1 | unfold lastNarrow.sl.HS2_2 | unfold lastNarrow.sl.HS2_3 | unfold lastNarrow.sl.HS2_4 | unfold lastNarrow.sl.v7 | unfold lastNarrow.sl.v9 | unfold lastNarrow.sl.v19 | unfold lastNarrow.sl.v33 | unfold lastNarrow.sl.v34 | unfold lastNarrow.sl.v35 | unfold lastNarrow.sl.v39 | unfold lastNarrow.sl.v41 | unfold lastNarrow.sl.v42 | unfold lastNarrow.sl.v43 | unfold lastNarrow.sl.v45 | unfold lastNarrow.sl.v59 | unfold lastNarrow.sl.v62 | unfold lastNarrow.sl.v65 | unfold lastNarrow.sl.v67 | unfold lastNarrow.sl.v68 | unfold lastNarrow.sl.v69 | unfold lastNarrow.sl.v71 | unfold lastNarrow.sl.v74 | unfold lastNarrow.sl.v84 | unfold lastNarrow.sl.v87 | unfold lastNarrow.sl.v90 | unfold lastNarrow.sl.v108 | unfold lastNarrow.sl.v111 | unfold lastNarrow.sl.v114 | unfold lastNarrow.sl.v115 | unfold lastNarrow.sl.v118 | unfold lastNarrow.sl.v122)); (repeat (first | rw [View.readAt_rep_full] | rw [View.readAt_writes_full] | rw [View.readCov_full] | rw [View.read_writes_full] | rw [readAt_rows128] | rw [readAt_rows1] | rw [View.readAt_full] | rw [View.read_writes_cons_put _ _ _ _ _ rfl] | rw [View.writes_nil] | rw [Memref.IsWhole.read_unread])); rfl
  isplitl [HO24]
  · iexists _; isplitr; swap; · iexact HO24
    ipureintro
    (repeat (first | unfold lastNarrow.sl.r | unfold lastNarrow.sl.r_1 | unfold lastNarrow.sl.r_2 | unfold lastNarrow.sl.r_3 | unfold lastNarrow.sl.r_4 | unfold lastNarrow.sl.r_5 | unfold lastNarrow.sl.r_6 | unfold lastNarrow.sl.r_7 | unfold lastNarrow.sl.r_8 | unfold lastNarrow.sl.r_9 | unfold lastNarrow.sl.r_10 | unfold lastNarrow.sl.r_11 | unfold lastNarrow.sl.HS0_1 | unfold lastNarrow.sl.HS0_2 | unfold lastNarrow.sl.HS0_3 | unfold lastNarrow.sl.HS0_4 | unfold lastNarrow.sl.HS1_1 | unfold lastNarrow.sl.HS1_2 | unfold lastNarrow.sl.HS1_3 | unfold lastNarrow.sl.HS1_4 | unfold lastNarrow.sl.HS2_1 | unfold lastNarrow.sl.HS2_2 | unfold lastNarrow.sl.HS2_3 | unfold lastNarrow.sl.HS2_4 | unfold lastNarrow.sl.v7 | unfold lastNarrow.sl.v9 | unfold lastNarrow.sl.v19 | unfold lastNarrow.sl.v33 | unfold lastNarrow.sl.v34 | unfold lastNarrow.sl.v35 | unfold lastNarrow.sl.v39 | unfold lastNarrow.sl.v41 | unfold lastNarrow.sl.v42 | unfold lastNarrow.sl.v43 | unfold lastNarrow.sl.v45 | unfold lastNarrow.sl.v59 | unfold lastNarrow.sl.v62 | unfold lastNarrow.sl.v65 | unfold lastNarrow.sl.v67 | unfold lastNarrow.sl.v68 | unfold lastNarrow.sl.v69 | unfold lastNarrow.sl.v71 | unfold lastNarrow.sl.v74 | unfold lastNarrow.sl.v84 | unfold lastNarrow.sl.v87 | unfold lastNarrow.sl.v90 | unfold lastNarrow.sl.v108 | unfold lastNarrow.sl.v111 | unfold lastNarrow.sl.v114 | unfold lastNarrow.sl.v115 | unfold lastNarrow.sl.v118 | unfold lastNarrow.sl.v122)); (repeat (first | rw [View.readAt_rep_full] | rw [View.readAt_writes_full] | rw [View.readCov_full] | rw [View.read_writes_full] | rw [readAt_rows128] | rw [readAt_rows1] | rw [View.readAt_full] | rw [View.read_writes_cons_put _ _ _ _ _ rfl] | rw [View.writes_nil] | rw [Memref.IsWhole.read_unread])); rfl
  isplitl [HS0]
  · iexists _; isplitr; swap; · iexact HS0
    ipureintro
    exact hS0.read_unread _
  isplitl [HS1]
  · iexists _; isplitr; swap; · iexact HS1
    ipureintro
    (repeat (first | unfold lastNarrow.sl.r | unfold lastNarrow.sl.r_1 | unfold lastNarrow.sl.r_2 | unfold lastNarrow.sl.r_3 | unfold lastNarrow.sl.r_4 | unfold lastNarrow.sl.r_5 | unfold lastNarrow.sl.r_6 | unfold lastNarrow.sl.r_7 | unfold lastNarrow.sl.r_8 | unfold lastNarrow.sl.r_9 | unfold lastNarrow.sl.r_10 | unfold lastNarrow.sl.r_11 | unfold lastNarrow.sl.HS0_1 | unfold lastNarrow.sl.HS0_2 | unfold lastNarrow.sl.HS0_3 | unfold lastNarrow.sl.HS0_4 | unfold lastNarrow.sl.HS1_1 | unfold lastNarrow.sl.HS1_2 | unfold lastNarrow.sl.HS1_3 | unfold lastNarrow.sl.HS1_4 | unfold lastNarrow.sl.HS2_1 | unfold lastNarrow.sl.HS2_2 | unfold lastNarrow.sl.HS2_3 | unfold lastNarrow.sl.HS2_4 | unfold lastNarrow.sl.v7 | unfold lastNarrow.sl.v9 | unfold lastNarrow.sl.v19 | unfold lastNarrow.sl.v33 | unfold lastNarrow.sl.v34 | unfold lastNarrow.sl.v35 | unfold lastNarrow.sl.v39 | unfold lastNarrow.sl.v41 | unfold lastNarrow.sl.v42 | unfold lastNarrow.sl.v43 | unfold lastNarrow.sl.v45 | unfold lastNarrow.sl.v59 | unfold lastNarrow.sl.v62 | unfold lastNarrow.sl.v65 | unfold lastNarrow.sl.v67 | unfold lastNarrow.sl.v68 | unfold lastNarrow.sl.v69 | unfold lastNarrow.sl.v71 | unfold lastNarrow.sl.v74 | unfold lastNarrow.sl.v84 | unfold lastNarrow.sl.v87 | unfold lastNarrow.sl.v90 | unfold lastNarrow.sl.v108 | unfold lastNarrow.sl.v111 | unfold lastNarrow.sl.v114 | unfold lastNarrow.sl.v115 | unfold lastNarrow.sl.v118 | unfold lastNarrow.sl.v122)); (repeat (first | rw [View.readAt_rep_full] | rw [View.readAt_writes_full] | rw [View.readCov_full] | rw [View.read_writes_full] | rw [readAt_rows128] | rw [readAt_rows1] | rw [View.readAt_full] | rw [View.read_writes_cons_put _ _ _ _ _ rfl] | rw [View.writes_nil] | rw [Memref.IsWhole.read_unread])); rfl
  skip
  · iexists _; isplitr; swap; · iexact HS2
    ipureintro
    (repeat (first | unfold lastNarrow.sl.r | unfold lastNarrow.sl.r_1 | unfold lastNarrow.sl.r_2 | unfold lastNarrow.sl.r_3 | unfold lastNarrow.sl.r_4 | unfold lastNarrow.sl.r_5 | unfold lastNarrow.sl.r_6 | unfold lastNarrow.sl.r_7 | unfold lastNarrow.sl.r_8 | unfold lastNarrow.sl.r_9 | unfold lastNarrow.sl.r_10 | unfold lastNarrow.sl.r_11 | unfold lastNarrow.sl.HS0_1 | unfold lastNarrow.sl.HS0_2 | unfold lastNarrow.sl.HS0_3 | unfold lastNarrow.sl.HS0_4 | unfold lastNarrow.sl.HS1_1 | unfold lastNarrow.sl.HS1_2 | unfold lastNarrow.sl.HS1_3 | unfold lastNarrow.sl.HS1_4 | unfold lastNarrow.sl.HS2_1 | unfold lastNarrow.sl.HS2_2 | unfold lastNarrow.sl.HS2_3 | unfold lastNarrow.sl.HS2_4 | unfold lastNarrow.sl.v7 | unfold lastNarrow.sl.v9 | unfold lastNarrow.sl.v19 | unfold lastNarrow.sl.v33 | unfold lastNarrow.sl.v34 | unfold lastNarrow.sl.v35 | unfold lastNarrow.sl.v39 | unfold lastNarrow.sl.v41 | unfold lastNarrow.sl.v42 | unfold lastNarrow.sl.v43 | unfold lastNarrow.sl.v45 | unfold lastNarrow.sl.v59 | unfold lastNarrow.sl.v62 | unfold lastNarrow.sl.v65 | unfold lastNarrow.sl.v67 | unfold lastNarrow.sl.v68 | unfold lastNarrow.sl.v69 | unfold lastNarrow.sl.v71 | unfold lastNarrow.sl.v74 | unfold lastNarrow.sl.v84 | unfold lastNarrow.sl.v87 | unfold lastNarrow.sl.v90 | unfold lastNarrow.sl.v108 | unfold lastNarrow.sl.v111 | unfold lastNarrow.sl.v114 | unfold lastNarrow.sl.v115 | unfold lastNarrow.sl.v118 | unfold lastNarrow.sl.v122)); (repeat (first | rw [View.readAt_rep_full] | rw [View.readAt_writes_full] | rw [View.readCov_full] | rw [View.read_writes_full] | rw [readAt_rows128] | rw [readAt_rows1] | rw [View.readAt_full] | rw [View.read_writes_cons_put _ _ _ _ _ rfl] | rw [View.writes_nil] | rw [Memref.IsWhole.read_unread])); rfl

set_option backward.proofsInPublic true in
set_option maxHeartbeats 8000000 in
/-- The last point on the wide path: `stepW`, then the two results. -/
theorem lastWide (c : Dev nD) (i : grid0.Coords) (A : Args) (X : Ins) (T0 : S20x2.Idx → Elt Ideal .i32)
    (k0_h1 : ¬ atFirst i) (k0_hw1 : k0_chk1 (loW T0 i) (wideW T0 i)) (k0_h2 : ¬ k0_cond2 (wideW T0 i) = 1#1) (hc3 : isWide (wideW T0 i)) (k0_h4 : k0_cond4 i = 1#1)
    (y22 : S1x1x8000.Idx → Elt Ideal .f32) (y23 : S512x1.Idx → Elt Ideal .f32) (y24 : S512x128.Idx → Elt Ideal .f32) (S : Scr) (K : PUnit → sProp 𝕄) :
    iprop(held c A X ∗ outs c A T0 y22 y23 y24 S ∗ (iprop(held c A X ∗ outs c A T0 (elogOf X) (stopOf X (stepW X S)) (curOf X (stepW X S)) (stepW X S)) -∗ K ⟨⟩))
      ⊢ wp frame (wpE (defs₀ (F := Ideal)) Variants.none c none) Set.univ (bodyOn i A) K := by
  unfold held bodyOn outs owns
  rw [cc0__edge_kernel_eq_skeleton]; unfold cc0__edge_kernel_skel
  iintro ⟨⟨H0, H1, H2, H3, H4, H5, H6, H7, H8, H9, H10, H11, H12, H13, H14, H15, H16, H17, H18, H19, H20, H21⟩, ⟨HT0, ⟨%f22, %hf22, HO22⟩, ⟨%f23, %hf23, HO23⟩, ⟨%f24, %hf24, HO24⟩, ⟨%s0, %hs0, HS0⟩, ⟨%s1, %hs1, HS1⟩, ⟨%s2, %hs2, HS2⟩⟩, Hk⟩
  have hS0 : scM0_0.IsWhole := Memref.isWhole_whole _
  have hS1 : scM0_1.IsWhole := Memref.isWhole_whole _
  have hS2 : scM0_2.IsWhole := Memref.isWhole_whole _
  have hT0 : tbM0_0.IsWhole := Memref.isWhole_whole _
  obtain rfl := A.h24.eq_unread hf22; obtain rfl := A.h25.eq_unread hf23; obtain rfl := A.h26.eq_unread hf24
  obtain rfl := hS0.eq_unread hs0; obtain rfl := hS1.eq_unread hs1; obtain rfl := hS2.eq_unread hs2
  sl_exec! (disch := first | (guard_target = ¬(Scalar.cmpi .ne _ _ = _); exact k0_h1) | (guard_target = k0_chk1 _ _; exact k0_hw1) | (guard_target = ¬(k0_cond2 _ = _); exact k0_h2) | (guard_target = Scalar.cmpi .ne _ _ = _; exact hc3) | (guard_target = k0_cond4 _ = _; exact k0_h4))
  sl_step
  iapply Hk
  isplitl [H0 H1 H2 H3 H4 H5 H6 H7 H8 H9 H10 H11 H12 H13 H14 H15 H16 H17 H18 H19 H20 H21]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  isplitl [HT0]; · iexact HT0
  isplitl [HO22]
  · iexists _; isplitr; swap; · iexact HO22
    ipureintro
    (repeat (first | unfold lastWide.sl.r | unfold lastWide.sl.r_1 | unfold lastWide.sl.r_2 | unfold lastWide.sl.r_3 | unfold lastWide.sl.r_4 | unfold lastWide.sl.r_5 | unfold lastWide.sl.r_6 | unfold lastWide.sl.r_7 | unfold lastWide.sl.r_8 | unfold lastWide.sl.r_9 | unfold lastWide.sl.r_10 | unfold lastWide.sl.r_11 | unfold lastWide.sl.HS0_1 | unfold lastWide.sl.HS0_2 | unfold lastWide.sl.HS0_3 | unfold lastWide.sl.HS0_4 | unfold lastWide.sl.HS1_1 | unfold lastWide.sl.HS1_2 | unfold lastWide.sl.HS1_3 | unfold lastWide.sl.HS1_4 | unfold lastWide.sl.HS2_1 | unfold lastWide.sl.HS2_2 | unfold lastWide.sl.HS2_3 | unfold lastWide.sl.HS2_4 | unfold lastWide.sl.v7 | unfold lastWide.sl.v9 | unfold lastWide.sl.v19 | unfold lastWide.sl.v33 | unfold lastWide.sl.v34 | unfold lastWide.sl.v35 | unfold lastWide.sl.v39 | unfold lastWide.sl.v41 | unfold lastWide.sl.v42 | unfold lastWide.sl.v43 | unfold lastWide.sl.v45 | unfold lastWide.sl.v59 | unfold lastWide.sl.v62 | unfold lastWide.sl.v65 | unfold lastWide.sl.v67 | unfold lastWide.sl.v68 | unfold lastWide.sl.v69 | unfold lastWide.sl.v71 | unfold lastWide.sl.v74 | unfold lastWide.sl.v84 | unfold lastWide.sl.v87 | unfold lastWide.sl.v90 | unfold lastWide.sl.v108 | unfold lastWide.sl.v111 | unfold lastWide.sl.v114 | unfold lastWide.sl.v115 | unfold lastWide.sl.v118 | unfold lastWide.sl.v122)); (repeat (first | rw [View.readAt_rep_full] | rw [View.readAt_writes_full] | rw [View.readCov_full] | rw [View.read_writes_full] | rw [readAt_rows128] | rw [readAt_rows1] | rw [View.readAt_full] | rw [View.read_writes_cons_put _ _ _ _ _ rfl] | rw [View.writes_nil] | rw [Memref.IsWhole.read_unread])); rfl
  isplitl [HO23]
  · iexists _; isplitr; swap; · iexact HO23
    ipureintro
    (repeat (first | unfold lastWide.sl.r | unfold lastWide.sl.r_1 | unfold lastWide.sl.r_2 | unfold lastWide.sl.r_3 | unfold lastWide.sl.r_4 | unfold lastWide.sl.r_5 | unfold lastWide.sl.r_6 | unfold lastWide.sl.r_7 | unfold lastWide.sl.r_8 | unfold lastWide.sl.r_9 | unfold lastWide.sl.r_10 | unfold lastWide.sl.r_11 | unfold lastWide.sl.HS0_1 | unfold lastWide.sl.HS0_2 | unfold lastWide.sl.HS0_3 | unfold lastWide.sl.HS0_4 | unfold lastWide.sl.HS1_1 | unfold lastWide.sl.HS1_2 | unfold lastWide.sl.HS1_3 | unfold lastWide.sl.HS1_4 | unfold lastWide.sl.HS2_1 | unfold lastWide.sl.HS2_2 | unfold lastWide.sl.HS2_3 | unfold lastWide.sl.HS2_4 | unfold lastWide.sl.v7 | unfold lastWide.sl.v9 | unfold lastWide.sl.v19 | unfold lastWide.sl.v33 | unfold lastWide.sl.v34 | unfold lastWide.sl.v35 | unfold lastWide.sl.v39 | unfold lastWide.sl.v41 | unfold lastWide.sl.v42 | unfold lastWide.sl.v43 | unfold lastWide.sl.v45 | unfold lastWide.sl.v59 | unfold lastWide.sl.v62 | unfold lastWide.sl.v65 | unfold lastWide.sl.v67 | unfold lastWide.sl.v68 | unfold lastWide.sl.v69 | unfold lastWide.sl.v71 | unfold lastWide.sl.v74 | unfold lastWide.sl.v84 | unfold lastWide.sl.v87 | unfold lastWide.sl.v90 | unfold lastWide.sl.v108 | unfold lastWide.sl.v111 | unfold lastWide.sl.v114 | unfold lastWide.sl.v115 | unfold lastWide.sl.v118 | unfold lastWide.sl.v122)); (repeat (first | rw [View.readAt_rep_full] | rw [View.readAt_writes_full] | rw [View.readCov_full] | rw [View.read_writes_full] | rw [readAt_rows128] | rw [readAt_rows1] | rw [View.readAt_full] | rw [View.read_writes_cons_put _ _ _ _ _ rfl] | rw [View.writes_nil] | rw [Memref.IsWhole.read_unread])); rfl
  isplitl [HO24]
  · iexists _; isplitr; swap; · iexact HO24
    ipureintro
    (repeat (first | unfold lastWide.sl.r | unfold lastWide.sl.r_1 | unfold lastWide.sl.r_2 | unfold lastWide.sl.r_3 | unfold lastWide.sl.r_4 | unfold lastWide.sl.r_5 | unfold lastWide.sl.r_6 | unfold lastWide.sl.r_7 | unfold lastWide.sl.r_8 | unfold lastWide.sl.r_9 | unfold lastWide.sl.r_10 | unfold lastWide.sl.r_11 | unfold lastWide.sl.HS0_1 | unfold lastWide.sl.HS0_2 | unfold lastWide.sl.HS0_3 | unfold lastWide.sl.HS0_4 | unfold lastWide.sl.HS1_1 | unfold lastWide.sl.HS1_2 | unfold lastWide.sl.HS1_3 | unfold lastWide.sl.HS1_4 | unfold lastWide.sl.HS2_1 | unfold lastWide.sl.HS2_2 | unfold lastWide.sl.HS2_3 | unfold lastWide.sl.HS2_4 | unfold lastWide.sl.v7 | unfold lastWide.sl.v9 | unfold lastWide.sl.v19 | unfold lastWide.sl.v33 | unfold lastWide.sl.v34 | unfold lastWide.sl.v35 | unfold lastWide.sl.v39 | unfold lastWide.sl.v41 | unfold lastWide.sl.v42 | unfold lastWide.sl.v43 | unfold lastWide.sl.v45 | unfold lastWide.sl.v59 | unfold lastWide.sl.v62 | unfold lastWide.sl.v65 | unfold lastWide.sl.v67 | unfold lastWide.sl.v68 | unfold lastWide.sl.v69 | unfold lastWide.sl.v71 | unfold lastWide.sl.v74 | unfold lastWide.sl.v84 | unfold lastWide.sl.v87 | unfold lastWide.sl.v90 | unfold lastWide.sl.v108 | unfold lastWide.sl.v111 | unfold lastWide.sl.v114 | unfold lastWide.sl.v115 | unfold lastWide.sl.v118 | unfold lastWide.sl.v122)); (repeat (first | rw [View.readAt_rep_full] | rw [View.readAt_writes_full] | rw [View.readCov_full] | rw [View.read_writes_full] | rw [readAt_rows128] | rw [readAt_rows1] | rw [View.readAt_full] | rw [View.read_writes_cons_put _ _ _ _ _ rfl] | rw [View.writes_nil] | rw [Memref.IsWhole.read_unread])); rfl
  isplitl [HS0]
  · iexists _; isplitr; swap; · iexact HS0
    ipureintro
    exact hS0.read_unread _
  isplitl [HS1]
  · iexists _; isplitr; swap; · iexact HS1
    ipureintro
    (repeat (first | unfold lastWide.sl.r | unfold lastWide.sl.r_1 | unfold lastWide.sl.r_2 | unfold lastWide.sl.r_3 | unfold lastWide.sl.r_4 | unfold lastWide.sl.r_5 | unfold lastWide.sl.r_6 | unfold lastWide.sl.r_7 | unfold lastWide.sl.r_8 | unfold lastWide.sl.r_9 | unfold lastWide.sl.r_10 | unfold lastWide.sl.r_11 | unfold lastWide.sl.HS0_1 | unfold lastWide.sl.HS0_2 | unfold lastWide.sl.HS0_3 | unfold lastWide.sl.HS0_4 | unfold lastWide.sl.HS1_1 | unfold lastWide.sl.HS1_2 | unfold lastWide.sl.HS1_3 | unfold lastWide.sl.HS1_4 | unfold lastWide.sl.HS2_1 | unfold lastWide.sl.HS2_2 | unfold lastWide.sl.HS2_3 | unfold lastWide.sl.HS2_4 | unfold lastWide.sl.v7 | unfold lastWide.sl.v9 | unfold lastWide.sl.v19 | unfold lastWide.sl.v33 | unfold lastWide.sl.v34 | unfold lastWide.sl.v35 | unfold lastWide.sl.v39 | unfold lastWide.sl.v41 | unfold lastWide.sl.v42 | unfold lastWide.sl.v43 | unfold lastWide.sl.v45 | unfold lastWide.sl.v59 | unfold lastWide.sl.v62 | unfold lastWide.sl.v65 | unfold lastWide.sl.v67 | unfold lastWide.sl.v68 | unfold lastWide.sl.v69 | unfold lastWide.sl.v71 | unfold lastWide.sl.v74 | unfold lastWide.sl.v84 | unfold lastWide.sl.v87 | unfold lastWide.sl.v90 | unfold lastWide.sl.v108 | unfold lastWide.sl.v111 | unfold lastWide.sl.v114 | unfold lastWide.sl.v115 | unfold lastWide.sl.v118 | unfold lastWide.sl.v122)); (repeat (first | rw [View.readAt_rep_full] | rw [View.readAt_writes_full] | rw [View.readCov_full] | rw [View.read_writes_full] | rw [readAt_rows128] | rw [readAt_rows1] | rw [View.readAt_full] | rw [View.read_writes_cons_put _ _ _ _ _ rfl] | rw [View.writes_nil] | rw [Memref.IsWhole.read_unread])); rfl
  skip
  · iexists _; isplitr; swap; · iexact HS2
    ipureintro
    (repeat (first | unfold lastWide.sl.r | unfold lastWide.sl.r_1 | unfold lastWide.sl.r_2 | unfold lastWide.sl.r_3 | unfold lastWide.sl.r_4 | unfold lastWide.sl.r_5 | unfold lastWide.sl.r_6 | unfold lastWide.sl.r_7 | unfold lastWide.sl.r_8 | unfold lastWide.sl.r_9 | unfold lastWide.sl.r_10 | unfold lastWide.sl.r_11 | unfold lastWide.sl.HS0_1 | unfold lastWide.sl.HS0_2 | unfold lastWide.sl.HS0_3 | unfold lastWide.sl.HS0_4 | unfold lastWide.sl.HS1_1 | unfold lastWide.sl.HS1_2 | unfold lastWide.sl.HS1_3 | unfold lastWide.sl.HS1_4 | unfold lastWide.sl.HS2_1 | unfold lastWide.sl.HS2_2 | unfold lastWide.sl.HS2_3 | unfold lastWide.sl.HS2_4 | unfold lastWide.sl.v7 | unfold lastWide.sl.v9 | unfold lastWide.sl.v19 | unfold lastWide.sl.v33 | unfold lastWide.sl.v34 | unfold lastWide.sl.v35 | unfold lastWide.sl.v39 | unfold lastWide.sl.v41 | unfold lastWide.sl.v42 | unfold lastWide.sl.v43 | unfold lastWide.sl.v45 | unfold lastWide.sl.v59 | unfold lastWide.sl.v62 | unfold lastWide.sl.v65 | unfold lastWide.sl.v67 | unfold lastWide.sl.v68 | unfold lastWide.sl.v69 | unfold lastWide.sl.v71 | unfold lastWide.sl.v74 | unfold lastWide.sl.v84 | unfold lastWide.sl.v87 | unfold lastWide.sl.v90 | unfold lastWide.sl.v108 | unfold lastWide.sl.v111 | unfold lastWide.sl.v114 | unfold lastWide.sl.v115 | unfold lastWide.sl.v118 | unfold lastWide.sl.v122)); (repeat (first | rw [View.readAt_rep_full] | rw [View.readAt_writes_full] | rw [View.readCov_full] | rw [View.read_writes_full] | rw [readAt_rows128] | rw [readAt_rows1] | rw [View.readAt_full] | rw [View.read_writes_cons_put _ _ _ _ _ rfl] | rw [View.writes_nil] | rw [Memref.IsWhole.read_unread])); rfl

end Cert.KernelIdeal.Hand

end
-- ==== Proof.KernelIdeal.Point.lean ====
module

public import proofs.«01_k».proof.Proof.Gen.KernelIdeal.Skeleton
public import proofs.«01_k».proof.Proof.Gen.KernelIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.Frame
public import Idealize.ShloMosaic.Lib.Writes
public import Idealize.ShloMosaic.Lib.WritesUnit
public import Idealize.ShloMosaic.Lib.WholeRead
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init
public import proofs.«01_k».proof.Proof.KernelIdeal.Step
public import proofs.«01_k».proof.Proof.KernelIdeal.RunMid
public import proofs.«01_k».proof.Proof.KernelIdeal.RunFirst
public import proofs.«01_k».proof.Proof.KernelIdeal.RunLast

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The scratch buffers after a point, from before it. -/
def stepAt (X : Ins) (lo wd : BitVec 32) (S : Scr) : Scr := if isWide wd then stepW X S else stepN X lo S

/-- A window word is zero or it is not. -/
theorem wide_cases (w : BitVec 32) : (k0_cond2 w = 1#1 ∧ ¬ isWide w) ∨ (¬ k0_cond2 w = 1#1 ∧ isWide w) := by
  by_cases h : w = 0#32
  · left; subst h; exact ⟨by decide, by decide⟩
  · right
    have e : (w == 0#32) = false := by simpa using h
    have e' : (w != 0#32) = true := by simpa using h
    constructor
    · unfold k0_cond2; simp only [Scalar.cmpi, Scalar.extui, IntOp.cmpi, e]; decide
    · unfold isWide; simp only [Scalar.cmpi, Scalar.extui, IntOp.cmpi, e']; decide

/-- The first point is not the last. -/
theorem first_not_last (i : grid0.Coords) (h : atFirst i) : ¬ k0_cond4 i = 1#1 := by
  revert h; unfold atFirst k0_cond4
  generalize i 0 = n
  revert n; decide

/-- One grid point, whatever its path: the logits are written, the scratch buffers step, and the last point writes the two other results. -/
theorem point (c : Dev nD) (i : grid0.Coords) (A : Args) (X : Ins) (T0 : S20x2.Idx → Elt Ideal .i32)
    (k0_hw1 : k0_chk1 (loW T0 i) (wideW T0 i))
    (y22 : S1x1x8000.Idx → Elt Ideal .f32) (y23 : S512x1.Idx → Elt Ideal .f32) (y24 : S512x128.Idx → Elt Ideal .f32) (S S1 : Scr)
    (hS1 : S1 = stepAt X (loW T0 i) (wideW T0 i) (if atFirst i then start X else S)) (K : PUnit → sProp 𝕄) :
    iprop(held c A X ∗ outs c A T0 y22 y23 y24 S ∗ (iprop(held c A X ∗ outs c A T0 (elogOf X) (if k0_cond4 i = 1#1 then stopOf X S1 else y23) (if k0_cond4 i = 1#1 then curOf X S1 else y24) S1) -∗ K ⟨⟩))
      ⊢ wp frame (wpE (defs₀ (F := Ideal)) Variants.none c none) Set.univ (bodyOn i A) K := by
  subst hS1
  unfold stepAt
  by_cases h1 : atFirst i
  · have h4 := first_not_last i h1
    rcases wide_cases (wideW T0 i) with ⟨h2, h3⟩ | ⟨h2, h3⟩
    · rw [if_neg h3, if_pos h1, if_neg h4, if_neg h4]
      exact firstNarrow c i A X T0 h1 k0_hw1 h2 h3 h4 y22 y23 y24 S K
    · rw [if_pos h3, if_pos h1, if_neg h4, if_neg h4]
      exact firstWide c i A X T0 h1 k0_hw1 h2 h3 h4 y22 y23 y24 S K
  · by_cases h4 : k0_cond4 i = 1#1
    · rcases wide_cases (wideW T0 i) with ⟨h2, h3⟩ | ⟨h2, h3⟩
      · rw [if_neg h3, if_neg h1, if_pos h4, if_pos h4]
        exact lastNarrow c i A X T0 h1 k0_hw1 h2 h3 h4 y22 y23 y24 S K
      · rw [if_pos h3, if_neg h1, if_pos h4, if_pos h4]
        exact lastWide c i A X T0 h1 k0_hw1 h2 h3 h4 y22 y23 y24 S K
    · rcases wide_cases (wideW T0 i) with ⟨h2, h3⟩ | ⟨h2, h3⟩
      · rw [if_neg h3, if_neg h1, if_neg h4, if_neg h4]
        exact midNarrow c i A X T0 h1 k0_hw1 h2 h3 h4 y22 y23 y24 S K
      · rw [if_pos h3, if_neg h1, if_neg h4, if_neg h4]
        exact midWide c i A X T0 h1 k0_hw1 h2 h3 h4 y22 y23 y24 S K

end Cert.KernelIdeal.Hand

end
-- ==== Proof.KernelIdeal.Kit.lean ====
module

public import proofs.«01_k».proof.Proof.Gen.KernelIdeal.Skeleton
public import proofs.«01_k».proof.Proof.Gen.KernelIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.Frame
public import Idealize.ShloMosaic.Lib.Writes
public import Idealize.ShloMosaic.Lib.WritesUnit
public import Idealize.ShloMosaic.Lib.WholeRead
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init
public import Idealize.ShloMosaic.Lib.StableHlo.RunRead
public import Idealize.ShloMosaic.Lib.Pointwise
public import proofs.«01_k».proof.Proof.KernelIdeal.Step

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (c : Dev nD)

/-! ## The buffers when the kernel starts -/

/-- The contents of the buffers after the operations before the kernel. -/
def W : Valuation τ sig (Elt Ideal) :=
  StableHlo.after ([hostOps0, hostOps0_1, hostOps0_2, hostOps0_3, hostOps0_4] : List (List (HloOp τ sig (Elt Ideal)))).flatten (fun b => m (c, b))

/-- The same, buffer by buffer. -/
abbrev V (c : Dev nD) (b : Ref sig .tc) : Buf (Elt Ideal) ((c.tc : Thread nD τ).loc b) := W m c (Proc.devRef .tc b)

/-- No operation of a stretch allocates anything. -/
theorem fresh0 : (hostOps0 : List (HloOp τ sig (Elt Ideal))).Forall fun op => op.fresh = ∅ := by
  simp only [List.Forall]; repeat' constructor
/-- No operation of a stretch allocates anything. -/
theorem fresh1 : (hostOps0_1 : List (HloOp τ sig (Elt Ideal))).Forall fun op => op.fresh = ∅ := by
  simp only [List.Forall]; repeat' constructor
/-- No operation of a stretch allocates anything. -/
theorem fresh2 : (hostOps0_2 : List (HloOp τ sig (Elt Ideal))).Forall fun op => op.fresh = ∅ := by
  simp only [List.Forall]; repeat' constructor
/-- No operation of a stretch allocates anything. -/
theorem fresh3 : (hostOps0_3 : List (HloOp τ sig (Elt Ideal))).Forall fun op => op.fresh = ∅ := by
  simp only [List.Forall]; repeat' constructor
/-- No operation of a stretch allocates anything. -/
theorem fresh4 : (hostOps0_4 : List (HloOp τ sig (Elt Ideal))).Forall fun op => op.fresh = ∅ := by
  simp only [List.Forall]; repeat' constructor

set_option maxHeartbeats 800000 in
/-- The program is its host operations, then the kernel. -/
theorem hmain : Pipeline.HMainP (Ix := Unit) (Name := ℕ) (U := UR sig nD τ) (Lvl := ℕ) (pcfgs (F := Ideal)) (0 : Fin 1) (defs₀ (F := Ideal)) Variants.none m (main (F := Ideal)) (V m) :=
  Pipeline.hmainP_prefixes (pcfgs (F := Ideal)) (0 : Fin 1) (defs₀ (F := Ideal)) Variants.none m (main (F := Ideal)) [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨fresh0, fresh1, fresh2, fresh3, fresh4⟩)
    (main_chain (F := Ideal))

/-! ## The table of windows -/

/-- The table from its two columns. -/
def tabOf (a b : S20x1.Idx → Elt Ideal .i32) : S20x2.Idx → Elt Ideal .i32 :=
  concatenate S20x2 1 [⟨S20x1, a⟩, ⟨S20x1, b⟩] concatenates_S20x1_S20x1_S20x2_d1

/-- The least graph of every block. -/
def minOf (ids : S160000.Idx → Elt Ideal .i32) : S20.Idx → Elt Ideal .i32 :=
  Host.reduce IntOp.minsi (shapeCast S20x8000 ids shapeCasts_S160000_S20x8000) (constantI S_ 32 2147483647#32) reducesTo_S20x8000_S20_d1 h_S_

/-- The greatest graph of every block. -/
def maxOf (ids : S160000.Idx → Elt Ideal .i32) : S20.Idx → Elt Ideal .i32 :=
  Host.reduce IntOp.maxsi (shapeCast S20x8000 ids shapeCasts_S160000_S20x8000) (constantI S_ 32 2147483648#32) reducesTo_S20x8000_S20_d1 h_S_

/-- A word for every block. -/
def all20 (k : BitVec 32) : S20.Idx → Elt Ideal .i32 := broadcastInDim S20 ![] bcast_S_S20 (constantI S_ 32 k)

/-- An eighth of every word, rounded down. -/
def eighth (x : S20.Idx → Elt Ideal .i32) : S20.Idx → Elt Ideal .i32 :=
  select (andi (cmpi .ne (signi x) (broadcastInDim S20 ![] bcast_S_S20 (signi (constantI S_ 32 8#32)))) (cmpi .ne (Host.remsi x (all20 8#32)) (all20 0#32)))
    (subi (Host.divsi x (all20 8#32)) (all20 1#32)) (Host.divsi x (all20 8#32))

/-- Where the window of every block starts. -/
def loOf (ids : S160000.Idx → Elt Ideal .i32) : S20.Idx → Elt Ideal .i32 :=
  minsi (all20 448#32) (maxsi (all20 0#32) (muli (eighth (minOf ids)) (all20 8#32)))

/-- Whether the window of a block is too narrow. -/
def wideOf (ids : S160000.Idx → Elt Ideal .i32) : S20.Idx → Elt Ideal .i32 :=
  extui 32 (cmpi .sge (subi (maxOf ids) (loOf ids)) (all20 64#32)) natLt_1_32

/-- Reading a buffer at its own type changes nothing. -/
theorem of_v4 (h1 h2 h3) (v : (⟨S20, .i32⟩ : BufTy).Contents (Elt Ideal)) : (StableHlo.TRef.of main_v4 h1 h2 h3 : StableHlo.TRef sig ⟨S20, .i32⟩).ofBuf v = v := rfl
/-- Reading a buffer at its own type changes nothing. -/
theorem of_c_1 (h1 h2 h3) (v : (⟨S_, .i32⟩ : BufTy).Contents (Elt Ideal)) : (StableHlo.TRef.of main_c_1 h1 h2 h3 : StableHlo.TRef sig ⟨S_, .i32⟩).ofBuf v = v := rfl
/-- Reading a buffer at its own type changes nothing. -/
theorem of_v8 (h1 h2 h3) (v : (⟨S20, .i32⟩ : BufTy).Contents (Elt Ideal)) : (StableHlo.TRef.of main_v8 h1 h2 h3 : StableHlo.TRef sig ⟨S20, .i32⟩).ofBuf v = v := rfl
/-- Reading a buffer at its own type changes nothing. -/
theorem of_c_3 (h1 h2 h3) (v : (⟨S_, .i32⟩ : BufTy).Contents (Elt Ideal)) : (StableHlo.TRef.of main_c_3 h1 h2 h3 : StableHlo.TRef sig ⟨S_, .i32⟩).ofBuf v = v := rfl
/-- Reading a buffer at its own type changes nothing. -/
theorem of_c_4 (h1 h2 h3) (v : (⟨S_, .i32⟩ : BufTy).Contents (Elt Ideal)) : (StableHlo.TRef.of main_c_4 h1 h2 h3 : StableHlo.TRef sig ⟨S_, .i32⟩).ofBuf v = v := rfl
/-- Writing a buffer at its own type changes nothing. -/
theorem to_v6 (h1 h2 h3) (v : (⟨S20, .i32⟩ : BufTy).Contents (Elt Ideal)) : (StableHlo.TRef.of main_v6 h1 h2 h3 : StableHlo.TRef sig ⟨S20, .i32⟩).toBuf v = v := rfl
/-- Writing a buffer at its own type changes nothing. -/
theorem to_v9 (h1 h2 h3) (v : (⟨S20, .i32⟩ : BufTy).Contents (Elt Ideal)) : (StableHlo.TRef.of main_v9 h1 h2 h3 : StableHlo.TRef sig ⟨S20, .i32⟩).toBuf v = v := rfl

set_option maxHeartbeats 2000000 in
/-- The table in scalar memory is the two columns. -/
theorem W_v16 : W m c (Proc.devRef .tc main_v16)
    = tabOf (broadcastInDim S20x1 ![0] bcast_S20_S20x1_0 (loOf (m (c, Proc.devRef .tc main_arg2)))) (broadcastInDim S20x1 ![0] bcast_S20_S20x1_0 (wideOf (m (c, Proc.devRef .tc main_arg2)))) := by
  unfold W; after_reads_simp
  refine congrArg₂ tabOf ?_ ?_
  · after_reads_simp; simp only [StableHlo.TRef.ofBuf_toBuf, of_v4, of_c_1, of_v8, of_c_3, of_c_4, to_v6, to_v9, id]
    unfold loOf eighth minOf all20; rfl
  · after_reads_simp; simp only [StableHlo.TRef.ofBuf_toBuf, of_v4, of_c_1, of_v8, of_c_3, of_c_4, to_v6, to_v9, id]
    unfold wideOf loOf eighth minOf maxOf all20; rfl

/-- The table's contents. -/
abbrev T0 : S20x2.Idx → Elt Ideal .i32 := V m 0 main_v16

/-- The first column of the table at a row. -/
theorem tab_lo (a b : S20.Idx → Elt Ideal .i32) (r : S20.Idx) (j : S20x2.Idx) (h0 : (j 0).val = (r 0).val) (h1 : (j 1).val = 0) :
    tabOf (broadcastInDim S20x1 ![0] bcast_S20_S20x1_0 a) (broadcastInDim S20x1 ![0] bcast_S20_S20x1_0 b) j = a r := by
  unfold tabOf
  rw [concatenate_pair_apply]
  split
  swap
  · rename_i h; exact absurd (show (j 1).val < 1 by omega) h
  unfold broadcastInDim
  congr 1; funext x
  match x with
  | ⟨0, _⟩ => apply Fin.ext; simpa [Shape.Idx.norm_def] using h0

/-- The second column of the table at a row. -/
theorem tab_wide (a b : S20.Idx → Elt Ideal .i32) (r : S20.Idx) (j : S20x2.Idx) (h0 : (j 0).val = (r 0).val) (h1 : (j 1).val = 1) :
    tabOf (broadcastInDim S20x1 ![0] bcast_S20_S20x1_0 a) (broadcastInDim S20x1 ![0] bcast_S20_S20x1_0 b) j = b r := by
  unfold tabOf
  rw [concatenate_pair_apply]
  split
  · rename_i h; exact absurd h (show ¬ (j 1).val < 1 by omega)
  unfold broadcastInDim
  congr 1; funext x
  match x with
  | ⟨0, _⟩ => apply Fin.ext; simpa [Shape.Idx.norm_def] using h0

/-- The block of a point. -/
def blk (i : grid0.Coords) : S20.Idx := fun | ⟨0, _⟩ => ⟨(i 0).val, (i 0).isLt⟩

/-- The window's offset at a point. -/
theorem loW_eq (i : grid0.Coords) : loW (T0 m) i = loOf (m (0, Proc.devRef .tc main_arg2)) (blk i) := by
  have hi : (i 0).val < 20 := (i 0).isLt
  show W m 0 (Proc.devRef .tc main_v16) _ = _
  rw [W_v16]
  refine tab_lo _ _ (blk i) _ ?_ ?_
  · show (BitVec.ofNat 32 (i 0).val).toNat + 1 * 0 = (i 0).val
    rw [BitVec.toNat_ofNat]; omega
  · rfl

/-- Whether the window is too narrow at a point. -/
theorem wideW_eq (i : grid0.Coords) : wideW (T0 m) i = wideOf (m (0, Proc.devRef .tc main_arg2)) (blk i) := by
  have hi : (i 0).val < 20 := (i 0).isLt
  show W m 0 (Proc.devRef .tc main_v16) _ = _
  rw [W_v16]
  refine tab_wide _ _ (blk i) _ ?_ ?_
  · show (BitVec.ofNat 32 (i 0).val).toNat + 1 * 0 = (i 0).val
    rw [BitVec.toNat_ofNat]; omega
  · rfl

/-- A word clipped between 0 and 448. -/
theorem clip_le (x : BitVec 32) : (IntOp.minsi (448#32) (IntOp.maxsi (0#32) x)).toNat ≤ 448 := by
  unfold IntOp.minsi IntOp.maxsi
  by_cases h : x.slt 0#32 <;> simp only [h, if_true, if_false, Bool.false_eq_true]
  · decide
  · split
    · decide
    · rename_i h2
      simp only [BitVec.slt, decide_eq_true_eq, BitVec.toInt_eq_toNat_cond] at h h2
      have := x.isLt
      have e : (448#32 : BitVec 32).toNat = 448 := rfl
      have e0 : (0#32 : BitVec 32).toNat = 0 := rfl
      rw [e] at h2; rw [e0] at h
      split at h <;> simp at h h2 <;> omega

/-- Every window lies inside the 512 graphs. -/
theorem lo_le (ids : S160000.Idx → Elt Ideal .i32) (r : S20.Idx) : (loOf ids r).toNat ≤ 448 := clip_le _

/-- A window that starts at 448 or before lies inside the 512 graphs. -/
theorem chk_of (lo wd : BitVec 32) (h : lo.toNat ≤ 448) : k0_chk1 lo wd := by
  constructor
  · intro _ a
    match a with
    | ⟨0, _⟩ => show lo.toNat + 64 ≤ 512; omega
    | ⟨1, _⟩ => show 0 + 128 ≤ 128; omega
  · intro _ a
    match a with
    | ⟨0, _⟩ => show lo.toNat + 64 ≤ 512; omega
    | ⟨1, _⟩ => show 0 + 1 ≤ 1; omega

/-- The kernel's side condition on the window holds at every point. -/
theorem chk (i : grid0.Coords) : k0_chk1 (loW (T0 m) i) (wideW (T0 m) i) :=
  chk_of _ _ (by rw [loW_eq]; exact lo_le _ _)

end Cert.KernelIdeal.Hand

end
-- ==== Proof.KernelIdeal.Body.lean ====
module

public import proofs.«01_k».proof.Proof.Gen.KernelIdeal.Skeleton
public import proofs.«01_k».proof.Proof.Gen.KernelIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.Frame
public import Idealize.ShloMosaic.Lib.Writes
public import Idealize.ShloMosaic.Lib.WritesUnit
public import Idealize.ShloMosaic.Lib.WholeRead
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init
public import proofs.«01_k».proof.Proof.KernelIdeal.Point
public import proofs.«01_k».proof.Proof.KernelIdeal.Kit

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-- The table the pipeline runs at. -/
def pf : pre0.Contents (Elt Ideal) := fun | ⟨0, _⟩ => T0 m | ⟨_ + 1, h⟩ => absurd h (by simp)

/-- The pipeline's side condition asks nothing of the table. -/
def adm : (pcfg0 (F := Ideal)).Adm := ⟨pf m, trivial⟩
/-- The pipeline at this table. -/
abbrev cfgA : Pipeline.Cfg sig Λ₀ := cfg0 (F := Ideal) (adm m)
/-- A point's coordinates. -/
abbrev crd (t : Fin (cfgA m).N) : (cfgA m).grid.Coords := (cfgA m).grid.coords t

/-- The staging buffers at a point. -/
def argsAt (t : Fin (cfgA m).N) : Args where
  a2 := spec0_0.stage ((cfgA m).slots t (0 : Fin 25))
  h2 := hstage0_0 (((cfgA m).slots t (0 : Fin 25)).cast nbuf0_0)
  a3 := spec0_1.stage ((cfgA m).slots t (1 : Fin 25))
  h3 := hstage0_1 (((cfgA m).slots t (1 : Fin 25)).cast nbuf0_1)
  a4 := spec0_2.stage ((cfgA m).slots t (2 : Fin 25))
  h4 := hstage0_2 (((cfgA m).slots t (2 : Fin 25)).cast nbuf0_2)
  a5 := spec0_3.stage ((cfgA m).slots t (3 : Fin 25))
  h5 := hstage0_3 (((cfgA m).slots t (3 : Fin 25)).cast nbuf0_3)
  a6 := spec0_4.stage ((cfgA m).slots t (4 : Fin 25))
  h6 := hstage0_4 (((cfgA m).slots t (4 : Fin 25)).cast nbuf0_4)
  a7 := spec0_5.stage ((cfgA m).slots t (5 : Fin 25))
  h7 := hstage0_5 (((cfgA m).slots t (5 : Fin 25)).cast nbuf0_5)
  a8 := spec0_6.stage ((cfgA m).slots t (6 : Fin 25))
  h8 := hstage0_6 (((cfgA m).slots t (6 : Fin 25)).cast nbuf0_6)
  a9 := spec0_7.stage ((cfgA m).slots t (7 : Fin 25))
  h9 := hstage0_7 (((cfgA m).slots t (7 : Fin 25)).cast nbuf0_7)
  a10 := spec0_8.stage ((cfgA m).slots t (8 : Fin 25))
  h10 := hstage0_8 (((cfgA m).slots t (8 : Fin 25)).cast nbuf0_8)
  a11 := spec0_9.stage ((cfgA m).slots t (9 : Fin 25))
  h11 := hstage0_9 (((cfgA m).slots t (9 : Fin 25)).cast nbuf0_9)
  a12 := spec0_10.stage ((cfgA m).slots t (10 : Fin 25))
  h12 := hstage0_10 (((cfgA m).slots t (10 : Fin 25)).cast nbuf0_10)
  a13 := spec0_11.stage ((cfgA m).slots t (11 : Fin 25))
  h13 := hstage0_11 (((cfgA m).slots t (11 : Fin 25)).cast nbuf0_11)
  a14 := spec0_12.stage ((cfgA m).slots t (12 : Fin 25))
  h14 := hstage0_12 (((cfgA m).slots t (12 : Fin 25)).cast nbuf0_12)
  a15 := spec0_13.stage ((cfgA m).slots t (13 : Fin 25))
  h15 := hstage0_13 (((cfgA m).slots t (13 : Fin 25)).cast nbuf0_13)
  a16 := spec0_14.stage ((cfgA m).slots t (14 : Fin 25))
  h16 := hstage0_14 (((cfgA m).slots t (14 : Fin 25)).cast nbuf0_14)
  a17 := spec0_15.stage ((cfgA m).slots t (15 : Fin 25))
  h17 := hstage0_15 (((cfgA m).slots t (15 : Fin 25)).cast nbuf0_15)
  a18 := spec0_16.stage ((cfgA m).slots t (16 : Fin 25))
  h18 := hstage0_16 (((cfgA m).slots t (16 : Fin 25)).cast nbuf0_16)
  a19 := spec0_17.stage ((cfgA m).slots t (17 : Fin 25))
  h19 := hstage0_17 (((cfgA m).slots t (17 : Fin 25)).cast nbuf0_17)
  a20 := spec0_18.stage ((cfgA m).slots t (18 : Fin 25))
  h20 := hstage0_18 (((cfgA m).slots t (18 : Fin 25)).cast nbuf0_18)
  a21 := spec0_19.stage ((cfgA m).slots t (19 : Fin 25))
  h21 := hstage0_19 (((cfgA m).slots t (19 : Fin 25)).cast nbuf0_19)
  a22 := spec0_20.stage ((cfgA m).slots t (20 : Fin 25))
  h22 := hstage0_20 (((cfgA m).slots t (20 : Fin 25)).cast nbuf0_20)
  a23 := spec0_21.stage ((cfgA m).slots t (21 : Fin 25))
  h23 := hstage0_21 (((cfgA m).slots t (21 : Fin 25)).cast nbuf0_21)
  a24 := spec0_22.stage ((cfgA m).slots t (22 : Fin 25))
  h24 := hstage0_22 (((cfgA m).slots t (22 : Fin 25)).cast nbuf0_22)
  a25 := spec0_23.stage ((cfgA m).slots t (23 : Fin 25))
  h25 := hstage0_23 (((cfgA m).slots t (23 : Fin 25)).cast nbuf0_23)
  a26 := spec0_24.stage ((cfgA m).slots t (24 : Fin 25))
  h26 := hstage0_24 (((cfgA m).slots t (24 : Fin 25)).cast nbuf0_24)

/-- A window's block at a point, read off its array as the kernel starts. -/
def iblk (c : Dev nD) (w : Fin (cfgA m).W) (t : Fin (cfgA m).N) : (((cfgA m).win w).xblock (crd m t)).Idx → Elt Ideal ((cfgA m).win w).elt :=
  (((cfgA m).win w).blk t).view.read (Elt Ideal) (V m c (Pipeline.arrRef spec0 w))

/-- The input blocks at a point. -/
def insAt (c : Dev nD) (t : Fin (cfgA m).N) : Ins where
  x2 := iblk m c (0 : Fin 25) t
  x3 := iblk m c (1 : Fin 25) t
  x4 := iblk m c (2 : Fin 25) t
  x5 := iblk m c (3 : Fin 25) t
  x6 := iblk m c (4 : Fin 25) t
  x7 := iblk m c (5 : Fin 25) t
  x8 := iblk m c (6 : Fin 25) t
  x9 := iblk m c (7 : Fin 25) t
  x10 := iblk m c (8 : Fin 25) t
  x11 := iblk m c (9 : Fin 25) t
  x12 := iblk m c (10 : Fin 25) t
  x13 := iblk m c (11 : Fin 25) t
  x14 := iblk m c (12 : Fin 25) t
  x15 := iblk m c (13 : Fin 25) t
  x16 := iblk m c (14 : Fin 25) t
  x17 := iblk m c (15 : Fin 25) t
  x18 := iblk m c (16 : Fin 25) t
  x19 := iblk m c (17 : Fin 25) t
  x20 := iblk m c (18 : Fin 25) t
  x21 := iblk m c (19 : Fin 25) t
  x22 := iblk m c (20 : Fin 25) t
  x23 := iblk m c (21 : Fin 25) t

/-- There are twenty points. -/
theorem N_eq : (cfgA m).N = 20 := N_0

/-- The point of a number, the last one for numbers past it. -/
def pt (n : ℕ) : Fin (cfgA m).N := ⟨min n 19, by rw [N_eq]; omega⟩

/-- The point of a point's number is that point. -/
theorem pt_val (t : Fin (cfgA m).N) : pt m t.val = t := by
  apply Fin.ext; have : t.val < 20 := lt_of_lt_of_eq t.isLt (N_eq m); show min t.val 19 = t.val; omega

/-- The scratch buffers after point `n`. -/
def traj (c : Dev nD) : ℕ → Scr
  | 0 => stepAt (insAt m c (pt m 0)) (loW (T0 m) (crd m (pt m 0))) (wideW (T0 m) (crd m (pt m 0))) (start (insAt m c (pt m 0)))
  | n + 1 => stepAt (insAt m c (pt m (n + 1))) (loW (T0 m) (crd m (pt m (n + 1)))) (wideW (T0 m) (crd m (pt m (n + 1)))) (traj c n)

/-- What the scratch buffers and the table hold before a point. -/
def Phi (c : Dev nD) (t : Fin ((cfgA m).N + 1)) : sProp 𝕄 :=
  iprop((∃ S : Scr, ⌜t.val ≠ 0 → S = traj m c (t.val - 1)⌝ ∗ owns (c : Thread nD τ) scM0_0 fullShare S.qf ∗ owns (c : Thread nD τ) scM0_1 fullShare S.acc ∗ owns (c : Thread nD τ) scM0_2 fullShare S.cnt)
    ∗ (tbM0_0.view.loc (c : Thread nD τ) ↦{fullShare.right} T0 m) ∗ ∃ r, prngReg c r)

/-- What the kernel leaves in its windows at each point. -/
def dats (_ : Fin 1) (c : Dev nD) : Dat τ (Elt Ideal) Unit ℕ (UR sig nD τ) ℕ (cfgA m) c where
  A w := V m c (Pipeline.arrRef spec0 w)
  after w t := match w with
    | ⟨0, _⟩ => iblk m c (0 : Fin 25) t
    | ⟨1, _⟩ => iblk m c (1 : Fin 25) t
    | ⟨2, _⟩ => iblk m c (2 : Fin 25) t
    | ⟨3, _⟩ => iblk m c (3 : Fin 25) t
    | ⟨4, _⟩ => iblk m c (4 : Fin 25) t
    | ⟨5, _⟩ => iblk m c (5 : Fin 25) t
    | ⟨6, _⟩ => iblk m c (6 : Fin 25) t
    | ⟨7, _⟩ => iblk m c (7 : Fin 25) t
    | ⟨8, _⟩ => iblk m c (8 : Fin 25) t
    | ⟨9, _⟩ => iblk m c (9 : Fin 25) t
    | ⟨10, _⟩ => iblk m c (10 : Fin 25) t
    | ⟨11, _⟩ => iblk m c (11 : Fin 25) t
    | ⟨12, _⟩ => iblk m c (12 : Fin 25) t
    | ⟨13, _⟩ => iblk m c (13 : Fin 25) t
    | ⟨14, _⟩ => iblk m c (14 : Fin 25) t
    | ⟨15, _⟩ => iblk m c (15 : Fin 25) t
    | ⟨16, _⟩ => iblk m c (16 : Fin 25) t
    | ⟨17, _⟩ => iblk m c (17 : Fin 25) t
    | ⟨18, _⟩ => iblk m c (18 : Fin 25) t
    | ⟨19, _⟩ => iblk m c (19 : Fin 25) t
    | ⟨20, _⟩ => iblk m c (20 : Fin 25) t
    | ⟨21, _⟩ => iblk m c (21 : Fin 25) t
    | ⟨22, _⟩ => elogOf (insAt m c t)
    | ⟨23, _⟩ => stopOf (insAt m c t) (traj m c t.val)
    | ⟨24, _⟩ => curOf (insAt m c t) (traj m c t.val)
    | ⟨_ + 25, h⟩ => absurd h (by show ¬ _ < 25; omega)
  Φ t := Phi m c t
  q _ := fullShare
  owed _ := 0

/-- Window 0 holds its block before every point. -/
theorem before0 (c : Dev nD) (t : Fin (cfgA m).N) (d) : (dats m 0 c).before (0 : Fin 25) t d = iblk m c (0 : Fin 25) t :=
  ((dats m 0 c).before_in_eq_fetched (0 : Fin 25) rfl (fun _ => rfl) (fun _ _ _ => rfl) (fun t => by show iblk m c (0 : Fin 25) t = _; unfold Dat.blockOf iblk; rfl) t d).trans (by unfold Dat.fetched Dat.blockOf iblk; rfl)
/-- Window 1 holds its block before every point. -/
theorem before1 (c : Dev nD) (t : Fin (cfgA m).N) (d) : (dats m 0 c).before (1 : Fin 25) t d = iblk m c (1 : Fin 25) t :=
  ((dats m 0 c).before_in_eq_fetched (1 : Fin 25) rfl (fun _ => rfl) (fun _ _ _ => rfl) (fun t => by show iblk m c (1 : Fin 25) t = _; unfold Dat.blockOf iblk; rfl) t d).trans (by unfold Dat.fetched Dat.blockOf iblk; rfl)
/-- Window 2 holds its block before every point. -/
theorem before2 (c : Dev nD) (t : Fin (cfgA m).N) (d) : (dats m 0 c).before (2 : Fin 25) t d = iblk m c (2 : Fin 25) t :=
  ((dats m 0 c).before_in_eq_fetched (2 : Fin 25) rfl (fun _ => rfl) (fun _ _ _ => rfl) (fun t => by show iblk m c (2 : Fin 25) t = _; unfold Dat.blockOf iblk; rfl) t d).trans (by unfold Dat.fetched Dat.blockOf iblk; rfl)
/-- Window 3 holds its block before every point. -/
theorem before3 (c : Dev nD) (t : Fin (cfgA m).N) (d) : (dats m 0 c).before (3 : Fin 25) t d = iblk m c (3 : Fin 25) t :=
  ((dats m 0 c).before_in_eq_fetched (3 : Fin 25) rfl (fun _ => rfl) (fun _ _ _ => rfl) (fun t => by show iblk m c (3 : Fin 25) t = _; unfold Dat.blockOf iblk; rfl) t d).trans (by unfold Dat.fetched Dat.blockOf iblk; rfl)
/-- Window 4 holds its block before every point. -/
theorem before4 (c : Dev nD) (t : Fin (cfgA m).N) (d) : (dats m 0 c).before (4 : Fin 25) t d = iblk m c (4 : Fin 25) t :=
  ((dats m 0 c).before_in_eq_fetched (4 : Fin 25) rfl (fun _ => rfl) (fun _ _ _ => rfl) (fun t => by show iblk m c (4 : Fin 25) t = _; unfold Dat.blockOf iblk; rfl) t d).trans (by unfold Dat.fetched Dat.blockOf iblk; rfl)
/-- Window 5 holds its block before every point. -/
theorem before5 (c : Dev nD) (t : Fin (cfgA m).N) (d) : (dats m 0 c).before (5 : Fin 25) t d = iblk m c (5 : Fin 25) t :=
  ((dats m 0 c).before_in_eq_fetched (5 : Fin 25) rfl (fun _ => rfl) (fun _ _ _ => rfl) (fun t => by show iblk m c (5 : Fin 25) t = _; unfold Dat.blockOf iblk; rfl) t d).trans (by unfold Dat.fetched Dat.blockOf iblk; rfl)
/-- Window 6 holds its block before every point. -/
theorem before6 (c : Dev nD) (t : Fin (cfgA m).N) (d) : (dats m 0 c).before (6 : Fin 25) t d = iblk m c (6 : Fin 25) t :=
  ((dats m 0 c).before_in_eq_fetched (6 : Fin 25) rfl (fun _ => rfl) (fun _ _ _ => rfl) (fun t => by show iblk m c (6 : Fin 25) t = _; unfold Dat.blockOf iblk; rfl) t d).trans (by unfold Dat.fetched Dat.blockOf iblk; rfl)
/-- Window 7 holds its block before every point. -/
theorem before7 (c : Dev nD) (t : Fin (cfgA m).N) (d) : (dats m 0 c).before (7 : Fin 25) t d = iblk m c (7 : Fin 25) t :=
  ((dats m 0 c).before_in_eq_fetched (7 : Fin 25) rfl (fun _ => rfl) (fun _ _ _ => rfl) (fun t => by show iblk m c (7 : Fin 25) t = _; unfold Dat.blockOf iblk; rfl) t d).trans (by unfold Dat.fetched Dat.blockOf iblk; rfl)
/-- Window 8 holds its block before every point. -/
theorem before8 (c : Dev nD) (t : Fin (cfgA m).N) (d) : (dats m 0 c).before (8 : Fin 25) t d = iblk m c (8 : Fin 25) t :=
  ((dats m 0 c).before_in_eq_fetched (8 : Fin 25) rfl (fun _ => rfl) (fun _ _ _ => rfl) (fun t => by show iblk m c (8 : Fin 25) t = _; unfold Dat.blockOf iblk; rfl) t d).trans (by unfold Dat.fetched Dat.blockOf iblk; rfl)
/-- Window 9 holds its block before every point. -/
theorem before9 (c : Dev nD) (t : Fin (cfgA m).N) (d) : (dats m 0 c).before (9 : Fin 25) t d = iblk m c (9 : Fin 25) t :=
  ((dats m 0 c).before_in_eq_fetched (9 : Fin 25) rfl (fun _ => rfl) (fun _ _ _ => rfl) (fun t => by show iblk m c (9 : Fin 25) t = _; unfold Dat.blockOf iblk; rfl) t d).trans (by unfold Dat.fetched Dat.blockOf iblk; rfl)
/-- Window 10 holds its block before every point. -/
theorem before10 (c : Dev nD) (t : Fin (cfgA m).N) (d) : (dats m 0 c).before (10 : Fin 25) t d = iblk m c (10 : Fin 25) t :=
  ((dats m 0 c).before_in_eq_fetched (10 : Fin 25) rfl (fun _ => rfl) (fun _ _ _ => rfl) (fun t => by show iblk m c (10 : Fin 25) t = _; unfold Dat.blockOf iblk; rfl) t d).trans (by unfold Dat.fetched Dat.blockOf iblk; rfl)
/-- Window 11 holds its block before every point. -/
theorem before11 (c : Dev nD) (t : Fin (cfgA m).N) (d) : (dats m 0 c).before (11 : Fin 25) t d = iblk m c (11 : Fin 25) t :=
  ((dats m 0 c).before_in_eq_fetched (11 : Fin 25) rfl (fun _ => rfl) (fun _ _ _ => rfl) (fun t => by show iblk m c (11 : Fin 25) t = _; unfold Dat.blockOf iblk; rfl) t d).trans (by unfold Dat.fetched Dat.blockOf iblk; rfl)
/-- Window 12 holds its block before every point. -/
theorem before12 (c : Dev nD) (t : Fin (cfgA m).N) (d) : (dats m 0 c).before (12 : Fin 25) t d = iblk m c (12 : Fin 25) t :=
  ((dats m 0 c).before_in_eq_fetched (12 : Fin 25) rfl (fun _ => rfl) (fun _ _ _ => rfl) (fun t => by show iblk m c (12 : Fin 25) t = _; unfold Dat.blockOf iblk; rfl) t d).trans (by unfold Dat.fetched Dat.blockOf iblk; rfl)
/-- Window 13 holds its block before every point. -/
theorem before13 (c : Dev nD) (t : Fin (cfgA m).N) (d) : (dats m 0 c).before (13 : Fin 25) t d = iblk m c (13 : Fin 25) t :=
  ((dats m 0 c).before_in_eq_fetched (13 : Fin 25) rfl (fun _ => rfl) (fun _ _ _ => rfl) (fun t => by show iblk m c (13 : Fin 25) t = _; unfold Dat.blockOf iblk; rfl) t d).trans (by unfold Dat.fetched Dat.blockOf iblk; rfl)
/-- Window 14 holds its block before every point. -/
theorem before14 (c : Dev nD) (t : Fin (cfgA m).N) (d) : (dats m 0 c).before (14 : Fin 25) t d = iblk m c (14 : Fin 25) t :=
  ((dats m 0 c).before_in_eq_fetched (14 : Fin 25) rfl (fun _ => rfl) (fun _ _ _ => rfl) (fun t => by show iblk m c (14 : Fin 25) t = _; unfold Dat.blockOf iblk; rfl) t d).trans (by unfold Dat.fetched Dat.blockOf iblk; rfl)
/-- Window 15 holds its block before every point. -/
theorem before15 (c : Dev nD) (t : Fin (cfgA m).N) (d) : (dats m 0 c).before (15 : Fin 25) t d = iblk m c (15 : Fin 25) t :=
  ((dats m 0 c).before_in_eq_fetched (15 : Fin 25) rfl (fun _ => rfl) (fun _ _ _ => rfl) (fun t => by show iblk m c (15 : Fin 25) t = _; unfold Dat.blockOf iblk; rfl) t d).trans (by unfold Dat.fetched Dat.blockOf iblk; rfl)
/-- Window 16 holds its block before every point. -/
theorem before16 (c : Dev nD) (t : Fin (cfgA m).N) (d) : (dats m 0 c).before (16 : Fin 25) t d = iblk m c (16 : Fin 25) t :=
  ((dats m 0 c).before_in_eq_fetched (16 : Fin 25) rfl (fun _ => rfl) (fun _ _ _ => rfl) (fun t => by show iblk m c (16 : Fin 25) t = _; unfold Dat.blockOf iblk; rfl) t d).trans (by unfold Dat.fetched Dat.blockOf iblk; rfl)
/-- Window 17 holds its block before every point. -/
theorem before17 (c : Dev nD) (t : Fin (cfgA m).N) (d) : (dats m 0 c).before (17 : Fin 25) t d = iblk m c (17 : Fin 25) t :=
  ((dats m 0 c).before_in_eq_fetched (17 : Fin 25) rfl (fun _ => rfl) (fun _ _ _ => rfl) (fun t => by show iblk m c (17 : Fin 25) t = _; unfold Dat.blockOf iblk; rfl) t d).trans (by unfold Dat.fetched Dat.blockOf iblk; rfl)
/-- Window 18 holds its block before every point. -/
theorem before18 (c : Dev nD) (t : Fin (cfgA m).N) (d) : (dats m 0 c).before (18 : Fin 25) t d = iblk m c (18 : Fin 25) t :=
  ((dats m 0 c).before_in_eq_fetched (18 : Fin 25) rfl (fun _ => rfl) (fun _ _ _ => rfl) (fun t => by show iblk m c (18 : Fin 25) t = _; unfold Dat.blockOf iblk; rfl) t d).trans (by unfold Dat.fetched Dat.blockOf iblk; rfl)
/-- Window 19 holds its block before every point. -/
theorem before19 (c : Dev nD) (t : Fin (cfgA m).N) (d) : (dats m 0 c).before (19 : Fin 25) t d = iblk m c (19 : Fin 25) t :=
  ((dats m 0 c).before_in_eq_fetched (19 : Fin 25) rfl (fun _ => rfl) (fun _ _ _ => rfl) (fun t => by show iblk m c (19 : Fin 25) t = _; unfold Dat.blockOf iblk; rfl) t d).trans (by unfold Dat.fetched Dat.blockOf iblk; rfl)
/-- Window 20 holds its block before every point. -/
theorem before20 (c : Dev nD) (t : Fin (cfgA m).N) (d) : (dats m 0 c).before (20 : Fin 25) t d = iblk m c (20 : Fin 25) t :=
  ((dats m 0 c).before_in_eq_fetched (20 : Fin 25) rfl (fun _ => rfl) (fun _ _ _ => rfl) (fun t => by show iblk m c (20 : Fin 25) t = _; unfold Dat.blockOf iblk; rfl) t d).trans (by unfold Dat.fetched Dat.blockOf iblk; rfl)
/-- Window 21 holds its block before every point. -/
theorem before21 (c : Dev nD) (t : Fin (cfgA m).N) (d) : (dats m 0 c).before (21 : Fin 25) t d = iblk m c (21 : Fin 25) t :=
  ((dats m 0 c).before_in_eq_fetched (21 : Fin 25) rfl (fun _ => rfl) (fun _ _ _ => rfl) (fun t => by show iblk m c (21 : Fin 25) t = _; unfold Dat.blockOf iblk; rfl) t d).trans (by unfold Dat.fetched Dat.blockOf iblk; rfl)

/-- The first coordinate of a point is its number. -/
theorem crd_val : ∀ t : Fin grid0.N, ((grid0.coords t) 0).val = t.val := by decide

/-- A point is the first when its number is zero. -/
theorem first_iff (t : Fin (cfgA m).N) : atFirst (crd m t) ↔ t.val = 0 := by
  have h : ∀ t : Fin grid0.N, atFirst (grid0.coords t) ↔ t.val = 0 := by decide
  exact h t

/-- A point is the last when its number is nineteen. -/
theorem last_iff (t : Fin (cfgA m).N) : k0_cond4 (crd m t) = 1#1 ↔ t.val = 19 := by
  have h : ∀ t : Fin grid0.N, k0_cond4 (grid0.coords t) = 1#1 ↔ t.val = 19 := by decide
  exact h t

/-- The logits are written at every point. -/
theorem idle22 (t : Fin (cfgA m).N) : (cfgA m).idle (22 : Fin 25) ((cfgA m).grid.coords t) = false := by
  have h : ∀ t : Fin grid0.N, idle0 (22 : Fin 25) (grid0.coords t) = false := by decide
  exact h t

/-- The two other results are left alone at every point but the last. -/
theorem idle_mid (t : Fin (cfgA m).N) (h4 : ¬ k0_cond4 (crd m t) = 1#1) :
    (cfgA m).idle (23 : Fin 25) ((cfgA m).grid.coords t) = true ∧ (cfgA m).idle (24 : Fin 25) ((cfgA m).grid.coords t) = true := by
  have h : ∀ t : Fin grid0.N, ¬ k0_cond4 (grid0.coords t) = 1#1 → idle0 (23 : Fin 25) (grid0.coords t) = true ∧ idle0 (24 : Fin 25) (grid0.coords t) = true := by decide
  exact h t h4

/-- and written at the last. -/
theorem idle_last (t : Fin (cfgA m).N) (h4 : k0_cond4 (crd m t) = 1#1) :
    (cfgA m).idle (23 : Fin 25) ((cfgA m).grid.coords t) = false ∧ (cfgA m).idle (24 : Fin 25) ((cfgA m).grid.coords t) = false := by
  have h : ∀ t : Fin grid0.N, k0_cond4 (grid0.coords t) = 1#1 → idle0 (23 : Fin 25) (grid0.coords t) = false ∧ idle0 (24 : Fin 25) (grid0.coords t) = false := by decide
  exact h t h4

/-- A window that never moves is written back after the last point only. -/
theorem flush_const {G : Pipeline.Grid} (w : Window sig G) (hc : ∀ i i', w.indexMap i = w.indexMap i') (t : Fin G.N) (ht : t.val + 1 ≠ G.N) : w.flush t = false := by
  rw [Window.flush_eq_flushOf]; unfold Window.flushOf
  have : ¬ ∃ h : t.val + 1 < G.N, w.indexMap (G.coords ⟨t.val + 1, h⟩) ≠ w.indexMap (G.coords t) := fun ⟨_, e⟩ => e (hc _ _)
  simp [ht, this]

/-- They are written back after the last point only. -/
theorem flush_mid (t : Fin (cfgA m).N) (h4 : ¬ k0_cond4 (crd m t) = 1#1) :
    ((cfgA m).win (23 : Fin 25)).flush t = false ∧ ((cfgA m).win (24 : Fin 25)).flush t = false := by
  have h : t.val + 1 ≠ (cfgA m).N := fun h => h4 ((last_iff m t).2 (by have := N_eq m; omega))
  exact ⟨flush_const _ (fun _ _ => rfl) t h, flush_const _ (fun _ _ => rfl) t h⟩

/-- The scratch buffers step along the trajectory. -/
theorem traj_step (c : Dev nD) (t : Fin (cfgA m).N) (S : Scr) (hS : t.val ≠ 0 → S = traj m c (t.val - 1)) :
    traj m c t.val = stepAt (insAt m c t) (loW (T0 m) (crd m t)) (wideW (T0 m) (crd m t)) (if atFirst (crd m t) then start (insAt m c t) else S) := by
  by_cases h : t.val = 0
  · rw [if_pos ((first_iff m t).2 h)]
    have e : pt m 0 = t := by rw [← h]; exact pt_val m t
    rw [h, ← e]; rfl
  · rw [if_neg (fun h' => h ((first_iff m t).1 h')), hS h]
    obtain ⟨n, hn⟩ := Nat.exists_eq_succ_of_ne_zero h
    have e : pt m (n + 1) = t := by rw [show n + 1 = t.val from hn.symm]; exact pt_val m t
    rw [hn, ← e]; rfl

end Cert.KernelIdeal.Hand

end
-- ==== Proof.KernelIdeal.Oblig.lean ====
module

public import proofs.«01_k».proof.Proof.Gen.KernelIdeal.Skeleton
public import proofs.«01_k».proof.Proof.Gen.KernelIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.Frame
public import Idealize.ShloMosaic.Lib.Writes
public import Idealize.ShloMosaic.Lib.WritesUnit
public import Idealize.ShloMosaic.Lib.WholeRead
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init
public import proofs.«01_k».proof.Proof.KernelIdeal.Body

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

set_option maxHeartbeats 8000000 in
/-- THE BODY OBLIGATION: at every point the kernel takes its windows' buffers as the data say. -/
theorem body_obligation (c : Dev nD) : BodyObligation (dats m 0 c) (defs₀ (F := Ideal)) Variants.none () Set.univ := fun t => by
  rw [bigSep_W0, bigSep_W0]
  rewrite [show (dats m 0 c).Φ t.succ = Phi m c t.succ from rfl, show (dats m 0 c).Φ t.castSucc = Phi m c t.castSucc from rfl,
    show (dats m 0 c).owesAt () t.succ = (dats m 0 c).owesAt () t.castSucc from rfl]
  unfold Phi
  have i22 := idle22 m t
  by_cases h4 : k0_cond4 (crd m t) = 1#1
  · obtain ⟨i23, i24⟩ := idle_last m t h4
    rewrite [i22, i23]; try rewrite [i24]
    simp only [before0, before1, before2, before3, before4, before5, before6, before7, before8, before9, before10, before11, before12, before13, before14, before15, before16, before17, before18, before19, before20, before21]
    iintro ⟨⟨⟨%S, %hS, HS0, HS1, HS2⟩, HT0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
    iapply (point c (crd m t) (argsAt m t) (insAt m c t) (T0 m) (chk m (crd m t)) _ _ _ S (traj m c t.val) (traj_step m c t S hS) _)
    unfold held outs
    isplitl [H0 H1 H2 H3 H4 H5 H6 H7 H8 H9 H10 H11 H12 H13 H14 H15 H16 H17 H18 H19 H20 H21]
    · isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [H7]; · iapply rep_of_owns; iexact H7
      isplitl [H8]; · iapply rep_of_owns; iexact H8
      isplitl [H9]; · iapply rep_of_owns; iexact H9
      isplitl [H10]; · iapply rep_of_owns; iexact H10
      isplitl [H11]; · iapply rep_of_owns; iexact H11
      isplitl [H12]; · iapply rep_of_owns; iexact H12
      isplitl [H13]; · iapply rep_of_owns; iexact H13
      isplitl [H14]; · iapply rep_of_owns; iexact H14
      isplitl [H15]; · iapply rep_of_owns; iexact H15
      isplitl [H16]; · iapply rep_of_owns; iexact H16
      isplitl [H17]; · iapply rep_of_owns; iexact H17
      isplitl [H18]; · iapply rep_of_owns; iexact H18
      isplitl [H19]; · iapply rep_of_owns; iexact H19
      isplitl [H20]; · iapply rep_of_owns; iexact H20
      iapply rep_of_owns; iexact H21
    isplitl [HT0 H22 H23 H24 HS0 HS1 HS2]
    · isplitl [HT0]; · iexact HT0
      isplitl [H22]; · iexact H22
      isplitl [H23]; · iexact H23
      isplitl [H24]; · iexact H24
      isplitl [HS0]; · iexact HS0
      isplitl [HS1]; · iexact HS1
      iexact HS2
    iintro ⟨⟨H0, H1, H2, H3, H4, H5, H6, H7, H8, H9, H10, H11, H12, H13, H14, H15, H16, H17, H18, H19, H20, H21⟩, ⟨HT0, H22, H23, H24, HS0, HS1, HS2⟩⟩
    simp only [if_pos h4]
    isplitl [HS0 HS1 HS2 HT0 Hg]
    · isplitl [HS0 HS1 HS2]
      · iexists (traj m c t.val); isplitr; swap
        · isplitl [HS0]; · iexact HS0
          isplitl [HS1]; · iexact HS1
          iexact HS2
        · ipureintro; intro _; rfl
      isplitl [HT0]; · iexact HT0
      iexact Hg
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [H7]; · iapply owns_of_rep; iexact H7
    isplitl [H8]; · iapply owns_of_rep; iexact H8
    isplitl [H9]; · iapply owns_of_rep; iexact H9
    isplitl [H10]; · iapply owns_of_rep; iexact H10
    isplitl [H11]; · iapply owns_of_rep; iexact H11
    isplitl [H12]; · iapply owns_of_rep; iexact H12
    isplitl [H13]; · iapply owns_of_rep; iexact H13
    isplitl [H14]; · iapply owns_of_rep; iexact H14
    isplitl [H15]; · iapply owns_of_rep; iexact H15
    isplitl [H16]; · iapply owns_of_rep; iexact H16
    isplitl [H17]; · iapply owns_of_rep; iexact H17
    isplitl [H18]; · iapply owns_of_rep; iexact H18
    isplitl [H19]; · iapply owns_of_rep; iexact H19
    isplitl [H20]; · iapply owns_of_rep; iexact H20
    isplitl [H21]; · iapply owns_of_rep; iexact H21
    isplitl [H22]; · iexact H22
    isplitl [H23]; · iexact H23
    iexact H24
  · obtain ⟨i23, i24⟩ := idle_mid m t h4
    obtain ⟨f23, f24⟩ := flush_mid m t h4
    rewrite [i22, i23]; try rewrite [i24]
    rewrite [f23]; try rewrite [f24]
    simp only [before0, before1, before2, before3, before4, before5, before6, before7, before8, before9, before10, before11, before12, before13, before14, before15, before16, before17, before18, before19, before20, before21]
    iintro ⟨⟨⟨%S, %hS, HS0, HS1, HS2⟩, HT0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
    iapply (point c (crd m t) (argsAt m t) (insAt m c t) (T0 m) (chk m (crd m t)) _ _ _ S (traj m c t.val) (traj_step m c t S hS) _)
    unfold held outs
    isplitl [H0 H1 H2 H3 H4 H5 H6 H7 H8 H9 H10 H11 H12 H13 H14 H15 H16 H17 H18 H19 H20 H21]
    · isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [H7]; · iapply rep_of_owns; iexact H7
      isplitl [H8]; · iapply rep_of_owns; iexact H8
      isplitl [H9]; · iapply rep_of_owns; iexact H9
      isplitl [H10]; · iapply rep_of_owns; iexact H10
      isplitl [H11]; · iapply rep_of_owns; iexact H11
      isplitl [H12]; · iapply rep_of_owns; iexact H12
      isplitl [H13]; · iapply rep_of_owns; iexact H13
      isplitl [H14]; · iapply rep_of_owns; iexact H14
      isplitl [H15]; · iapply rep_of_owns; iexact H15
      isplitl [H16]; · iapply rep_of_owns; iexact H16
      isplitl [H17]; · iapply rep_of_owns; iexact H17
      isplitl [H18]; · iapply rep_of_owns; iexact H18
      isplitl [H19]; · iapply rep_of_owns; iexact H19
      isplitl [H20]; · iapply rep_of_owns; iexact H20
      iapply rep_of_owns; iexact H21
    isplitl [HT0 H22 H23 H24 HS0 HS1 HS2]
    · isplitl [HT0]; · iexact HT0
      isplitl [H22]; · iexact H22
      isplitl [H23]; · iexact H23
      isplitl [H24]; · iexact H24
      isplitl [HS0]; · iexact HS0
      isplitl [HS1]; · iexact HS1
      iexact HS2
    iintro ⟨⟨H0, H1, H2, H3, H4, H5, H6, H7, H8, H9, H10, H11, H12, H13, H14, H15, H16, H17, H18, H19, H20, H21⟩, ⟨HT0, H22, H23, H24, HS0, HS1, HS2⟩⟩
    simp only [if_neg h4]
    isplitl [HS0 HS1 HS2 HT0 Hg]
    · isplitl [HS0 HS1 HS2]
      · iexists (traj m c t.val); isplitr; swap
        · isplitl [HS0]; · iexact HS0
          isplitl [HS1]; · iexact HS1
          iexact HS2
        · ipureintro; intro _; rfl
      isplitl [HT0]; · iexact HT0
      iexact Hg
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [H7]; · iapply owns_of_rep; iexact H7
    isplitl [H8]; · iapply owns_of_rep; iexact H8
    isplitl [H9]; · iapply owns_of_rep; iexact H9
    isplitl [H10]; · iapply owns_of_rep; iexact H10
    isplitl [H11]; · iapply owns_of_rep; iexact H11
    isplitl [H12]; · iapply owns_of_rep; iexact H12
    isplitl [H13]; · iapply owns_of_rep; iexact H13
    isplitl [H14]; · iapply owns_of_rep; iexact H14
    isplitl [H15]; · iapply owns_of_rep; iexact H15
    isplitl [H16]; · iapply owns_of_rep; iexact H16
    isplitl [H17]; · iapply owns_of_rep; iexact H17
    isplitl [H18]; · iapply owns_of_rep; iexact H18
    isplitl [H19]; · iapply owns_of_rep; iexact H19
    isplitl [H20]; · iapply owns_of_rep; iexact H20
    isplitl [H21]; · iapply owns_of_rep; iexact H21
    isplitl [H22]; · iexact H22
    isplitl [H23]; · iexists d23; iexact H23
    iexists d24; iexact H24

end Cert.KernelIdeal.Hand

end
-- ==== Proof.KernelIdeal.Args.lean ====
module

public import proofs.«01_k».proof.Proof.Gen.KernelIdeal.Skeleton
public import proofs.«01_k».proof.Proof.Gen.KernelIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.Frame
public import Idealize.ShloMosaic.Lib.Writes
public import Idealize.ShloMosaic.Lib.WritesUnit
public import Idealize.ShloMosaic.Lib.WholeRead
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init
public import proofs.«01_k».proof.Proof.KernelIdeal.Kit

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-- No operation before the kernel writes argument 0. -/
theorem V_arg0 (c : Dev nD) : V m c main_arg0 = m ((c.tc : Thread nD τ).loc main_arg0) := by
  show W m c _ = _
  unfold W; after_reads_simp
/-- No operation before the kernel writes argument 1. -/
theorem V_arg1 (c : Dev nD) : V m c main_arg1 = m ((c.tc : Thread nD τ).loc main_arg1) := by
  show W m c _ = _
  unfold W; after_reads_simp
/-- No operation before the kernel writes argument 2. -/
theorem V_arg2 (c : Dev nD) : V m c main_arg2 = m ((c.tc : Thread nD τ).loc main_arg2) := by
  show W m c _ = _
  unfold W; after_reads_simp
/-- No operation before the kernel writes argument 3. -/
theorem V_arg3 (c : Dev nD) : V m c main_arg3 = m ((c.tc : Thread nD τ).loc main_arg3) := by
  show W m c _ = _
  unfold W; after_reads_simp
/-- No operation before the kernel writes argument 4. -/
theorem V_arg4 (c : Dev nD) : V m c main_arg4 = m ((c.tc : Thread nD τ).loc main_arg4) := by
  show W m c _ = _
  unfold W; after_reads_simp
/-- No operation before the kernel writes argument 5. -/
theorem V_arg5 (c : Dev nD) : V m c main_arg5 = m ((c.tc : Thread nD τ).loc main_arg5) := by
  show W m c _ = _
  unfold W; after_reads_simp
/-- No operation before the kernel writes argument 6. -/
theorem V_arg6 (c : Dev nD) : V m c main_arg6 = m ((c.tc : Thread nD τ).loc main_arg6) := by
  show W m c _ = _
  unfold W; after_reads_simp
/-- No operation before the kernel writes argument 7. -/
theorem V_arg7 (c : Dev nD) : V m c main_arg7 = m ((c.tc : Thread nD τ).loc main_arg7) := by
  show W m c _ = _
  unfold W; after_reads_simp
/-- No operation before the kernel writes argument 8. -/
theorem V_arg8 (c : Dev nD) : V m c main_arg8 = m ((c.tc : Thread nD τ).loc main_arg8) := by
  show W m c _ = _
  unfold W; after_reads_simp
/-- No operation before the kernel writes argument 9. -/
theorem V_arg9 (c : Dev nD) : V m c main_arg9 = m ((c.tc : Thread nD τ).loc main_arg9) := by
  show W m c _ = _
  unfold W; after_reads_simp
/-- No operation before the kernel writes argument 10. -/
theorem V_arg10 (c : Dev nD) : V m c main_arg10 = m ((c.tc : Thread nD τ).loc main_arg10) := by
  show W m c _ = _
  unfold W; after_reads_simp
/-- No operation before the kernel writes argument 11. -/
theorem V_arg11 (c : Dev nD) : V m c main_arg11 = m ((c.tc : Thread nD τ).loc main_arg11) := by
  show W m c _ = _
  unfold W; after_reads_simp
/-- No operation before the kernel writes argument 12. -/
theorem V_arg12 (c : Dev nD) : V m c main_arg12 = m ((c.tc : Thread nD τ).loc main_arg12) := by
  show W m c _ = _
  unfold W; after_reads_simp
/-- No operation before the kernel writes argument 13. -/
theorem V_arg13 (c : Dev nD) : V m c main_arg13 = m ((c.tc : Thread nD τ).loc main_arg13) := by
  show W m c _ = _
  unfold W; after_reads_simp
/-- No operation before the kernel writes argument 14. -/
theorem V_arg14 (c : Dev nD) : V m c main_arg14 = m ((c.tc : Thread nD τ).loc main_arg14) := by
  show W m c _ = _
  unfold W; after_reads_simp
/-- No operation before the kernel writes argument 15. -/
theorem V_arg15 (c : Dev nD) : V m c main_arg15 = m ((c.tc : Thread nD τ).loc main_arg15) := by
  show W m c _ = _
  unfold W; after_reads_simp
/-- No operation before the kernel writes argument 16. -/
theorem V_arg16 (c : Dev nD) : V m c main_arg16 = m ((c.tc : Thread nD τ).loc main_arg16) := by
  show W m c _ = _
  unfold W; after_reads_simp
/-- No operation before the kernel writes argument 17. -/
theorem V_arg17 (c : Dev nD) : V m c main_arg17 = m ((c.tc : Thread nD τ).loc main_arg17) := by
  show W m c _ = _
  unfold W; after_reads_simp
/-- No operation before the kernel writes argument 18. -/
theorem V_arg18 (c : Dev nD) : V m c main_arg18 = m ((c.tc : Thread nD τ).loc main_arg18) := by
  show W m c _ = _
  unfold W; after_reads_simp
/-- No operation before the kernel writes argument 19. -/
theorem V_arg19 (c : Dev nD) : V m c main_arg19 = m ((c.tc : Thread nD τ).loc main_arg19) := by
  show W m c _ = _
  unfold W; after_reads_simp
/-- No operation before the kernel writes argument 20. -/
theorem V_arg20 (c : Dev nD) : V m c main_arg20 = m ((c.tc : Thread nD τ).loc main_arg20) := by
  show W m c _ = _
  unfold W; after_reads_simp
/-- No operation before the kernel writes argument 21. -/
theorem V_arg21 (c : Dev nD) : V m c main_arg21 = m ((c.tc : Thread nD τ).loc main_arg21) := by
  show W m c _ = _
  unfold W; after_reads_simp
/-- No operation before the kernel writes argument 22. -/
theorem V_arg22 (c : Dev nD) : V m c main_arg22 = m ((c.tc : Thread nD τ).loc main_arg22) := by
  show W m c _ = _
  unfold W; after_reads_simp
/-- No operation before the kernel writes argument 23. -/
theorem V_arg23 (c : Dev nD) : V m c main_arg23 = m ((c.tc : Thread nD τ).loc main_arg23) := by
  show W m c _ = _
  unfold W; after_reads_simp
/-- No operation before the kernel writes argument 24. -/
theorem V_arg24 (c : Dev nD) : V m c main_arg24 = m ((c.tc : Thread nD τ).loc main_arg24) := by
  show W m c _ = _
  unfold W; after_reads_simp
/-- No operation before the kernel writes argument 25. -/
theorem V_arg25 (c : Dev nD) : V m c main_arg25 = m ((c.tc : Thread nD τ).loc main_arg25) := by
  show W m c _ = _
  unfold W; after_reads_simp
/-- No operation before the kernel writes argument 26. -/
theorem V_arg26 (c : Dev nD) : V m c main_arg26 = m ((c.tc : Thread nD τ).loc main_arg26) := by
  show W m c _ = _
  unfold W; after_reads_simp
/-- No operation before the kernel writes argument 27. -/
theorem V_arg27 (c : Dev nD) : V m c main_arg27 = m ((c.tc : Thread nD τ).loc main_arg27) := by
  show W m c _ = _
  unfold W; after_reads_simp

end Cert.KernelIdeal.Hand

end
-- ==== Proof.KernelIdeal.Frame.lean ====
module

public import proofs.«01_k».proof.Proof.Gen.KernelIdeal.Skeleton
public import proofs.«01_k».proof.Proof.Gen.KernelIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.Frame
public import Idealize.ShloMosaic.Lib.Writes
public import Idealize.ShloMosaic.Lib.WritesUnit
public import Idealize.ShloMosaic.Lib.WholeRead
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init
public import proofs.«01_k».proof.Proof.KernelIdeal.Oblig
public import proofs.«01_k».proof.Proof.KernelIdeal.Args

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (g : Dev nD → PrngReg)

/-- The pipelines at the table. -/
abbrev pcs := Pipeline.pin (pcfgs (F := Ideal)) fun _ => adm m

/-- Every window is held whole. -/
theorem share_eq (c : Dev nD) (w : Fin (cfgA m).W) : (dats m 0 c).share w = fullShare := by unfold Dat.share; split <;> rfl

/-- The one table as the pipeline hands it over. -/
theorem prefHeld_eq (c : Dev nD) (q : Fin 1 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_v16) ↦{q 0} v 0)) := by
  unfold Pipeline.prefHeld
  rw [show (Finset.univ : Finset (Fin 1)) = {(0 : Fin 1)} from by decide, bigSep_singleton]
  rfl

/-- A buffer held at a value is its whole view held at the value's reading. -/
theorem owns_in {sp : Space} {s : Shape} {e : EltTy} (c : Dev nD) (M : Memref sig .tc sp s e) (hM : M.IsWhole) (f : Buf (Elt Ideal) (M.view.loc (c : Thread nD τ))) :
    iprop(M.view.loc (c : Thread nD τ) ↦{fullShare} f) ⊢ (owns (c : Thread nD τ) M fullShare (M.view.read (Elt Ideal) f) : sProp 𝕄) := by
  unfold owns; rw [hM.set_eq_univ]; iintro H; iexists f; isplitr; · ipureintro; rfl
  iexact H

/-- A view held at something is its buffer held at something. -/
theorem owns_out {sp : Space} {s : Shape} {e : EltTy} (c : Dev nD) (M : Memref sig .tc sp s e) (hM : M.IsWhole) (X : s.Idx → Elt Ideal e) :
    (owns (c : Thread nD τ) M fullShare X : sProp 𝕄) ⊢ iprop(∃ f : Buf (Elt Ideal) (M.view.loc (c : Thread nD τ)), M.view.loc (c : Thread nD τ) ↦{fullShare} f) := by
  unfold owns; rw [hM.set_eq_univ]; iintro ⟨%f, -, H⟩; iexists f; iexact H

/-- The scratch buffers at anything are a state of the scratch buffers. -/
theorem scr_in (c : Dev nD) (p : Scr → Prop) (hp : ∀ S, p S) :
    iprop((∃ f : Buf (Elt Ideal) ((c : Thread nD τ).loc cc0_scratch0), ((c : Thread nD τ).loc cc0_scratch0) ↦{fullShare} f) ∗ (∃ f : Buf (Elt Ideal) ((c : Thread nD τ).loc cc0_scratch1), ((c : Thread nD τ).loc cc0_scratch1) ↦{fullShare} f) ∗ (∃ f : Buf (Elt Ideal) ((c : Thread nD τ).loc cc0_scratch2), ((c : Thread nD τ).loc cc0_scratch2) ↦{fullShare} f))
      ⊢ (iprop(∃ S : Scr, ⌜p S⌝ ∗ owns (c : Thread nD τ) scM0_0 fullShare S.qf ∗ owns (c : Thread nD τ) scM0_1 fullShare S.acc ∗ owns (c : Thread nD τ) scM0_2 fullShare S.cnt) : sProp 𝕄) := by
  iintro ⟨⟨%f0, HS0⟩, ⟨%f1, HS1⟩, ⟨%f2, HS2⟩⟩
  iexists (⟨scM0_0.view.read (Elt Ideal) f0, scM0_1.view.read (Elt Ideal) f1, scM0_2.view.read (Elt Ideal) f2⟩ : Scr)
  isplitr; · ipureintro; exact hp _
  isplitl [HS0]; · iapply (owns_in c scM0_0 (Memref.isWhole_whole _) f0); iexact HS0
  isplitl [HS1]; · iapply (owns_in c scM0_1 (Memref.isWhole_whole _) f1); iexact HS1
  iapply (owns_in c scM0_2 (Memref.isWhole_whole _) f2); iexact HS2

/-- A state of the scratch buffers is the buffers at something. -/
theorem scr_out (c : Dev nD) (p : Scr → Prop) :
    (iprop(∃ S : Scr, ⌜p S⌝ ∗ owns (c : Thread nD τ) scM0_0 fullShare S.qf ∗ owns (c : Thread nD τ) scM0_1 fullShare S.acc ∗ owns (c : Thread nD τ) scM0_2 fullShare S.cnt) : sProp 𝕄)
      ⊢ iprop((∃ f : Buf (Elt Ideal) ((c : Thread nD τ).loc cc0_scratch0), ((c : Thread nD τ).loc cc0_scratch0) ↦{fullShare} f) ∗ (∃ f : Buf (Elt Ideal) ((c : Thread nD τ).loc cc0_scratch1), ((c : Thread nD τ).loc cc0_scratch1) ↦{fullShare} f) ∗ (∃ f : Buf (Elt Ideal) ((c : Thread nD τ).loc cc0_scratch2), ((c : Thread nD τ).loc cc0_scratch2) ↦{fullShare} f)) := by
  iintro ⟨%S, -, H0, H1, H2⟩
  isplitl [H0]; · iapply (owns_out c scM0_0 (Memref.isWhole_whole _) S.qf); iexact H0
  isplitl [H1]; · iapply (owns_out c scM0_1 (Memref.isWhole_whole _) S.acc); iexact H1
  iapply (owns_out c scM0_2 (Memref.isWhole_whole _) S.cnt); iexact H2

/-- What the kernel starts from: the scratch buffers at anything, and the table. -/
theorem phi_in (c : Dev nD) :
    iprop(Pipeline.ΦA (U := UR sig nD τ) spec0 c ∗ Pipeline.ΦT (U := UR sig nD τ) pre0 (pf m) c) ⊢ (dats m 0 c).Φ 0 := by
  unfold Pipeline.ΦA Pipeline.ΦT
  rw [prefHeld_eq, scopedRest0_eq, show (dats m 0 c).Φ 0 = Phi m c 0 from rfl]
  unfold Phi
  iintro ⟨⟨HS, Hg⟩, HT0⟩
  isplitl [HS]
  · iapply (scr_in c (fun S => (0 : Fin ((cfgA m).N + 1)).val ≠ 0 → S = traj m c ((0 : Fin ((cfgA m).N + 1)).val - 1)) (fun S h => absurd rfl h)); iexact HS
  isplitl [HT0]; · iexact HT0
  iexact Hg

/-- What it gives back: the scratch buffers at anything. -/
theorem phi_out (c : Dev nD) : (dats m 0 c).Φ (Fin.last (cfgA m).N) ⊢ Pipeline.ΦA (U := UR sig nD τ) spec0 c := by
  unfold Pipeline.ΦA
  rw [scopedRest0_eq, show (dats m 0 c).Φ (Fin.last (cfgA m).N) = Phi m c (Fin.last _) from rfl]
  unfold Phi
  iintro ⟨HS, -, Hg⟩
  isplitl [HS]
  · iapply (scr_out c _); iexact HS
  iexact Hg

set_option backward.isDefEq.respectTransparency.types false in
set_option maxHeartbeats 4000000 in
/-- THE RUN: every execution ends, with every array at what the data say, every other buffer as the kernel found it, and the counters at zero. -/
theorem run_main : θ_run (defs (F := Ideal)) (onTc (τ := τ) (main (F := Ideal))) ⟨m, fun _ => 0, g⟩
    (fun r => Pipeline.FramePost (pcs m) (dats m) 0 (V m) r ∧ r.2.sem = fun _ => 0) :=
  Pipeline.θ_run_frameP_track (pcfgs (F := Ideal)) (fun _ => adm m) (dats m) 0 (launch0 (F := Ideal)) (defs₀ (F := Ideal)) Variants.none m g (main (F := Ideal))
    (fun c => (body_obligation m c).loose) (share_eq m) (fun _ _ => rfl) (V m) (hmain m) (fun _ _ => rfl)
    (fun c k => by
      obtain rfl : c = 0 := Subsingleton.elim _ _
      obtain rfl : k = 0 := Subsingleton.elim _ _
      rfl)
    (phi_in m) (phi_out m) (fun r => Pipeline.FramePost (pcs m) (dats m) 0 (V m) r ∧ r.2.sem = fun _ => 0) (fun _ h => h)

/-- Every argument of the program, as it was. -/
def Kept (r : MemSt nD τ sig (Elt Ideal)) (c : Dev nD) : Prop :=
  r.mem ((c.tc : Thread nD τ).loc main_arg0) = m ((c.tc : Thread nD τ).loc main_arg0)
  ∧ r.mem ((c.tc : Thread nD τ).loc main_arg1) = m ((c.tc : Thread nD τ).loc main_arg1)
  ∧ r.mem ((c.tc : Thread nD τ).loc main_arg2) = m ((c.tc : Thread nD τ).loc main_arg2)
  ∧ r.mem ((c.tc : Thread nD τ).loc main_arg3) = m ((c.tc : Thread nD τ).loc main_arg3)
  ∧ r.mem ((c.tc : Thread nD τ).loc main_arg4) = m ((c.tc : Thread nD τ).loc main_arg4)
  ∧ r.mem ((c.tc : Thread nD τ).loc main_arg5) = m ((c.tc : Thread nD τ).loc main_arg5)
  ∧ r.mem ((c.tc : Thread nD τ).loc main_arg6) = m ((c.tc : Thread nD τ).loc main_arg6)
  ∧ r.mem ((c.tc : Thread nD τ).loc main_arg7) = m ((c.tc : Thread nD τ).loc main_arg7)
  ∧ r.mem ((c.tc : Thread nD τ).loc main_arg8) = m ((c.tc : Thread nD τ).loc main_arg8)
  ∧ r.mem ((c.tc : Thread nD τ).loc main_arg9) = m ((c.tc : Thread nD τ).loc main_arg9)
  ∧ r.mem ((c.tc : Thread nD τ).loc main_arg10) = m ((c.tc : Thread nD τ).loc main_arg10)
  ∧ r.mem ((c.tc : Thread nD τ).loc main_arg11) = m ((c.tc : Thread nD τ).loc main_arg11)
  ∧ r.mem ((c.tc : Thread nD τ).loc main_arg12) = m ((c.tc : Thread nD τ).loc main_arg12)
  ∧ r.mem ((c.tc : Thread nD τ).loc main_arg13) = m ((c.tc : Thread nD τ).loc main_arg13)
  ∧ r.mem ((c.tc : Thread nD τ).loc main_arg14) = m ((c.tc : Thread nD τ).loc main_arg14)
  ∧ r.mem ((c.tc : Thread nD τ).loc main_arg15) = m ((c.tc : Thread nD τ).loc main_arg15)
  ∧ r.mem ((c.tc : Thread nD τ).loc main_arg16) = m ((c.tc : Thread nD τ).loc main_arg16)
  ∧ r.mem ((c.tc : Thread nD τ).loc main_arg17) = m ((c.tc : Thread nD τ).loc main_arg17)
  ∧ r.mem ((c.tc : Thread nD τ).loc main_arg18) = m ((c.tc : Thread nD τ).loc main_arg18)
  ∧ r.mem ((c.tc : Thread nD τ).loc main_arg19) = m ((c.tc : Thread nD τ).loc main_arg19)
  ∧ r.mem ((c.tc : Thread nD τ).loc main_arg20) = m ((c.tc : Thread nD τ).loc main_arg20)
  ∧ r.mem ((c.tc : Thread nD τ).loc main_arg21) = m ((c.tc : Thread nD τ).loc main_arg21)
  ∧ r.mem ((c.tc : Thread nD τ).loc main_arg22) = m ((c.tc : Thread nD τ).loc main_arg22)
  ∧ r.mem ((c.tc : Thread nD τ).loc main_arg23) = m ((c.tc : Thread nD τ).loc main_arg23)
  ∧ r.mem ((c.tc : Thread nD τ).loc main_arg24) = m ((c.tc : Thread nD τ).loc main_arg24)
  ∧ r.mem ((c.tc : Thread nD τ).loc main_arg25) = m ((c.tc : Thread nD τ).loc main_arg25)
  ∧ r.mem ((c.tc : Thread nD τ).loc main_arg26) = m ((c.tc : Thread nD τ).loc main_arg26)
  ∧ r.mem ((c.tc : Thread nD τ).loc main_arg27) = m ((c.tc : Thread nD τ).loc main_arg27)

set_option maxHeartbeats 4000000 in
/-- THE FRAME: every execution ends with the arguments as they were and the counters at zero. -/
theorem kept : θ_run (defs (F := Ideal)) (onTc (τ := τ) (main (F := Ideal))) ⟨m, fun _ => 0, g⟩
    (fun r => (∀ c : Dev nD, Kept m r.2 c) ∧ r.2.sem = fun _ => 0) :=
  (θ_run defs _ _).mono (fun r h => ⟨fun c => ⟨((h.1 c).1 (2 : Fin 25)).trans (((dats m 0 c).arrAt_in (2 : Fin 25) rfl _).trans (V_arg0 m c)),
    ((h.1 c).1 (3 : Fin 25)).trans (((dats m 0 c).arrAt_in (3 : Fin 25) rfl _).trans (V_arg1 m c)),
    ((h.1 c).2 main_arg2 (Pipeline.mem_restRefs_of _ rfl (show ∀ w : Fin 25, (spec0 w).arr.view.ref ≠ main_arg2 by decide))).trans (V_arg2 m c),
    ((h.1 c).2 main_arg3 (Pipeline.mem_restRefs_of _ rfl (show ∀ w : Fin 25, (spec0 w).arr.view.ref ≠ main_arg3 by decide))).trans (V_arg3 m c),
    ((h.1 c).2 main_arg4 (Pipeline.mem_restRefs_of _ rfl (show ∀ w : Fin 25, (spec0 w).arr.view.ref ≠ main_arg4 by decide))).trans (V_arg4 m c),
    ((h.1 c).2 main_arg5 (Pipeline.mem_restRefs_of _ rfl (show ∀ w : Fin 25, (spec0 w).arr.view.ref ≠ main_arg5 by decide))).trans (V_arg5 m c),
    ((h.1 c).1 (6 : Fin 25)).trans (((dats m 0 c).arrAt_in (6 : Fin 25) rfl _).trans (V_arg6 m c)),
    ((h.1 c).2 main_arg7 (Pipeline.mem_restRefs_of _ rfl (show ∀ w : Fin 25, (spec0 w).arr.view.ref ≠ main_arg7 by decide))).trans (V_arg7 m c),
    ((h.1 c).2 main_arg8 (Pipeline.mem_restRefs_of _ rfl (show ∀ w : Fin 25, (spec0 w).arr.view.ref ≠ main_arg8 by decide))).trans (V_arg8 m c),
    ((h.1 c).2 main_arg9 (Pipeline.mem_restRefs_of _ rfl (show ∀ w : Fin 25, (spec0 w).arr.view.ref ≠ main_arg9 by decide))).trans (V_arg9 m c),
    ((h.1 c).2 main_arg10 (Pipeline.mem_restRefs_of _ rfl (show ∀ w : Fin 25, (spec0 w).arr.view.ref ≠ main_arg10 by decide))).trans (V_arg10 m c),
    ((h.1 c).2 main_arg11 (Pipeline.mem_restRefs_of _ rfl (show ∀ w : Fin 25, (spec0 w).arr.view.ref ≠ main_arg11 by decide))).trans (V_arg11 m c),
    ((h.1 c).2 main_arg12 (Pipeline.mem_restRefs_of _ rfl (show ∀ w : Fin 25, (spec0 w).arr.view.ref ≠ main_arg12 by decide))).trans (V_arg12 m c),
    ((h.1 c).2 main_arg13 (Pipeline.mem_restRefs_of _ rfl (show ∀ w : Fin 25, (spec0 w).arr.view.ref ≠ main_arg13 by decide))).trans (V_arg13 m c),
    ((h.1 c).2 main_arg14 (Pipeline.mem_restRefs_of _ rfl (show ∀ w : Fin 25, (spec0 w).arr.view.ref ≠ main_arg14 by decide))).trans (V_arg14 m c),
    ((h.1 c).2 main_arg15 (Pipeline.mem_restRefs_of _ rfl (show ∀ w : Fin 25, (spec0 w).arr.view.ref ≠ main_arg15 by decide))).trans (V_arg15 m c),
    ((h.1 c).2 main_arg16 (Pipeline.mem_restRefs_of _ rfl (show ∀ w : Fin 25, (spec0 w).arr.view.ref ≠ main_arg16 by decide))).trans (V_arg16 m c),
    ((h.1 c).2 main_arg17 (Pipeline.mem_restRefs_of _ rfl (show ∀ w : Fin 25, (spec0 w).arr.view.ref ≠ main_arg17 by decide))).trans (V_arg17 m c),
    ((h.1 c).2 main_arg18 (Pipeline.mem_restRefs_of _ rfl (show ∀ w : Fin 25, (spec0 w).arr.view.ref ≠ main_arg18 by decide))).trans (V_arg18 m c),
    ((h.1 c).2 main_arg19 (Pipeline.mem_restRefs_of _ rfl (show ∀ w : Fin 25, (spec0 w).arr.view.ref ≠ main_arg19 by decide))).trans (V_arg19 m c),
    ((h.1 c).2 main_arg20 (Pipeline.mem_restRefs_of _ rfl (show ∀ w : Fin 25, (spec0 w).arr.view.ref ≠ main_arg20 by decide))).trans (V_arg20 m c),
    ((h.1 c).2 main_arg21 (Pipeline.mem_restRefs_of _ rfl (show ∀ w : Fin 25, (spec0 w).arr.view.ref ≠ main_arg21 by decide))).trans (V_arg21 m c),
    ((h.1 c).2 main_arg22 (Pipeline.mem_restRefs_of _ rfl (show ∀ w : Fin 25, (spec0 w).arr.view.ref ≠ main_arg22 by decide))).trans (V_arg22 m c),
    ((h.1 c).2 main_arg23 (Pipeline.mem_restRefs_of _ rfl (show ∀ w : Fin 25, (spec0 w).arr.view.ref ≠ main_arg23 by decide))).trans (V_arg23 m c),
    ((h.1 c).1 (17 : Fin 25)).trans (((dats m 0 c).arrAt_in (17 : Fin 25) rfl _).trans (V_arg24 m c)),
    ((h.1 c).2 main_arg25 (Pipeline.mem_restRefs_of _ rfl (show ∀ w : Fin 25, (spec0 w).arr.view.ref ≠ main_arg25 by decide))).trans (V_arg25 m c),
    ((h.1 c).1 (19 : Fin 25)).trans (((dats m 0 c).arrAt_in (19 : Fin 25) rfl _).trans (V_arg26 m c)),
    ((h.1 c).2 main_arg27 (Pipeline.mem_restRefs_of _ rfl (show ∀ w : Fin 25, (spec0 w).arr.view.ref ≠ main_arg27 by decide))).trans (V_arg27 m c)⟩, h.2⟩) (run_main m g)

end Cert.KernelIdeal.Hand

end
-- ==== Proof.Frames.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Frame
public import proofs.«01_k».proof.Proof.KernelIdeal.Frame
public import Idealize.ShloMosaic.Lib.Claim

/-! The frames: every program ends with its arguments as they were and every semaphore counter at zero. -/

@[expose] public section

set_option maxRecDepth 16384

noncomputable section

namespace Cert.Proof

open Idealize.ShloMosaic Idealize.SL.Sem

/-- The kernel over machine words keeps its arguments. -/
theorem frameK : Cert.quiescent_Kernel (hKernel := Cert.Kernel.Gen.facts) := fun m g _ => Cert.Kernel.Hand.kept m g

/-- The kernel over extended reals keeps its arguments. -/
theorem frameKI : Cert.quiescent_KernelIdeal (hKernelIdeal := Cert.KernelIdeal.Gen.facts) := fun m g _ => Cert.KernelIdeal.Hand.kept m g

/-- The reference keeps its arguments; it has no semaphore. -/
theorem frameRI : Cert.quiescent_ReferenceIdeal (hReferenceIdeal := Cert.ReferenceIdeal.Gen.facts) := fun m g _ =>
  (θ_run Cert.ReferenceIdeal.defs _ _).mono (fun r h => ⟨fun c => (h c).2.2.2, sem_eq_zero_of_no_sems (by decide) r.2⟩)
    (Cert.ReferenceIdeal.Value.run (F := Ideal) m g)

end Cert.Proof

end
-- ==== Proof.Value.Row.lean ====
module

public import Idealize.ShloMosaic.PureOps.Ideal
public import Idealize.ShloMosaic.Lib.Pointwise

@[expose] public section

set_option Elab.async false

noncomputable section

namespace Cert.Value

open Idealize.ShloMosaic

/-! ## The literals of the two programs -/

/-- The word of 1/2 stands for 1/2. -/
theorem lit_half : Ideal.ofBits .f32 0x3F000000#32 = ((1 / 2 : ℝ) : EReal) := by
  simp [Ideal.ofBits, Ideal.ieee]; rw [← EReal.coe_mul]; norm_num
/-- The word of 128 stands for 128. -/
theorem lit_128 : Ideal.ofBits .f32 0x43000000#32 = ((128 : ℝ) : EReal) := by
  simp [Ideal.ofBits, Ideal.ieee]; rw [← EReal.coe_mul]; norm_num
/-- The word of 130 stands for 130. -/
theorem lit_130 : Ideal.ofBits .f32 0x43020000#32 = ((130 : ℝ) : EReal) := by
  simp [Ideal.ofBits, Ideal.ieee]; rw [← EReal.coe_mul]; norm_num
/-- The word of 256 stands for 256. -/
theorem lit_256 : Ideal.ofBits .f32 0x43800000#32 = ((256 : ℝ) : EReal) := by
  simp [Ideal.ofBits, Ideal.ieee]; rw [← EReal.coe_mul]; norm_num
/-- The small number under the root is a positive real. -/
theorem lit_eps : ∃ e : ℝ, 0 < e ∧ Ideal.ofBits .f32 0x3727C5AC#32 = (e : EReal) := by
  refine ⟨(10995116 : ℝ) * (2 : ℝ) ^ (-40 : ℤ), by norm_num, ?_⟩
  simp [Ideal.ofBits, Ideal.ieee]
/-- The word of 1/√2 stands for a real. -/
theorem lit_rt : ∃ e : ℝ, Ideal.ofBits .f32 0x3F3504F3#32 = (e : EReal) := by
  refine ⟨(11863283 : ℝ) * (2 : ℝ) ^ (-24 : ℤ), ?_⟩
  simp [Ideal.ofBits, Ideal.ieee]

/-! ## Real numbers among the extended reals -/

/-- This extended real is a real number. -/
def Re (x : EReal) : Prop := ∃ r : ℝ, x = (r : EReal)

/-- A sum of two reals is real. -/
theorem Re.add {x y : EReal} : Re x → Re y → Re (x + y) := by
  rintro ⟨a, rfl⟩ ⟨b, rfl⟩; exact ⟨a + b, by rw [EReal.coe_add]⟩
/-- A product of two reals is real. -/
theorem Re.mul {x y : EReal} : Re x → Re y → Re (x * y) := by
  rintro ⟨a, rfl⟩ ⟨b, rfl⟩; exact ⟨a * b, by rw [EReal.coe_mul]⟩
/-- A difference of two reals is real. -/
theorem Re.sub {x y : EReal} : Re x → Re y → Re (x - y) := by
  rintro ⟨a, rfl⟩ ⟨b, rfl⟩; exact ⟨a - b, by rw [EReal.coe_sub]⟩

/-- The sum of real numbers, read among the extended reals. -/
theorem coe_sum {n : ℕ} (f : Fin n → ℝ) : ∑ k, (f k : EReal) = ((∑ k, f k : ℝ) : EReal) := by
  induction n with
  | zero => simp
  | succ n ih => rw [Fin.sum_univ_castSucc, Fin.sum_univ_castSucc, ih, EReal.coe_add]

/-- A finite sum of reals is real. -/
theorem Re.sum {n : ℕ} {f : Fin n → EReal} (h : ∀ k, Re (f k)) : Re (∑ k, f k) := by
  choose r hr using h
  obtain rfl : f = fun k => (r k : EReal) := funext hr
  exact ⟨_, coe_sum r⟩

/-- Dividing by a nonzero real. -/
theorem div_real (x y : ℝ) (h : y ≠ 0) : Ideal.div (x : EReal) (y : EReal) = ((x / y : ℝ) : EReal) := by
  rw [Ideal.div_coe h, ← EReal.coe_mul]; congr 1; ring

/-- A real below infinity in absolute value is a real number. -/
theorem re_of_abs {x : EReal} (h : max x (-x) < ⊤) : Re x := by
  induction x with
  | bot => simp at h
  | top => simp at h
  | coe r => exact ⟨r, rfl⟩

/-! ## The activation -/

/-- The activation: half of `x` times one plus the error function at `x` over the root of two. -/
def gelu (x : EReal) : EReal :=
  Ideal.ofBits .f32 0x3F000000#32 * x * (1 + Ideal.erf (x * Ideal.ofBits .f32 0x3F3504F3#32))

/-- The activation of a real is real. -/
theorem Re.gelu {x : EReal} (h : Re x) : Re (gelu x) := by
  obtain ⟨s, hs⟩ := lit_rt
  unfold Value.gelu
  rw [lit_half, hs]
  obtain ⟨r, rfl⟩ := h
  rw [← EReal.coe_mul r s, Ideal.erf_coe]
  exact (Re.mul ⟨_, rfl⟩ ⟨_, rfl⟩).mul (Re.add ⟨1, by simp⟩ ⟨_, rfl⟩)

/-! ## Normalising a row -/

/-- The mean of a row, dividing by `N`. -/
def mean {n : ℕ} (N : EReal) (x : Fin n → EReal) : EReal := Ideal.div (∑ k, x k) N

/-- The mean square distance from the mean, with the small number added. -/
def spread {n : ℕ} (N : EReal) (x : Fin n → EReal) : EReal :=
  Ideal.div (∑ k, (x k - mean N x) * (x k - mean N x)) N + Ideal.ofBits .f32 0x3727C5AC#32

/-- A row normalised by the reciprocal of a root. -/
def lnK {n : ℕ} (N : EReal) (x g b : Fin n → EReal) (k : Fin n) : EReal :=
  (x k - mean N x) * Ideal.rsqrt (spread N x) * g k + b k

/-- A row normalised by dividing by a root. -/
def lnR {n : ℕ} (N : EReal) (x g b : Fin n → EReal) (k : Fin n) : EReal :=
  Ideal.div (x k - mean N x) (Ideal.sqrt (spread N x)) * g k + b k

/-- A square is not negative, at the infinities too. -/
theorem sq_nonneg' (x : EReal) : 0 ≤ x * x := by
  induction x with
  | bot => simp
  | top => simp
  | coe r => rw [← EReal.coe_mul]; exact_mod_cast mul_self_nonneg r

/-- The quantity under the root is positive. -/
theorem spread_pos {n : ℕ} (N : ℝ) (hN : 0 < N) (x : Fin n → EReal) : 0 < spread (N : EReal) x := by
  obtain ⟨e, he, h⟩ := lit_eps
  unfold spread
  rw [h, Ideal.div_coe hN.ne']
  have h1 : (0 : EReal) ≤ (∑ k, (x k - mean (N : EReal) x) * (x k - mean (N : EReal) x)) * ((1 / N : ℝ) : EReal) :=
    mul_nonneg (Finset.sum_nonneg fun k _ => sq_nonneg' _) (by exact_mod_cast (by positivity : (0 : ℝ) ≤ 1 / N))
  calc (0 : EReal) < (e : EReal) := by exact_mod_cast he
    _ = 0 + (e : EReal) := (zero_add _).symm
    _ ≤ _ := add_le_add_left h1 _

/-- Dividing by the root of a positive number is multiplying by its reciprocal root. -/
theorem div_sqrt {w : EReal} (hw : 0 < w) (x : EReal) : Ideal.div x (Ideal.sqrt w) = x * Ideal.rsqrt w := by
  induction w with
  | bot => simp at hw
  | top => simp [Ideal.div]
  | coe r =>
    have hr : 0 < r := by exact_mod_cast hw
    have hs : Real.sqrt r ≠ 0 := (Real.sqrt_pos.mpr hr).ne'
    rw [Ideal.sqrt_coe, Ideal.rsqrt_coe, if_neg hr.le.not_gt, if_neg hr.le.not_gt, if_neg hr.ne', Ideal.div_coe hs, one_div]

/-- The two ways to normalise a row agree. -/
theorem lnR_eq {n : ℕ} (N : ℝ) (hN : 0 < N) (x g b : Fin n → EReal) : lnR (N : EReal) x g b = lnK (N : EReal) x g b := by
  funext k
  unfold lnR lnK
  rw [div_sqrt (spread_pos N hN x)]

/-- The reciprocal root of a positive real is the reciprocal of its root. -/
theorem rsqrt_pos (r : ℝ) (hr : 0 < r) : Ideal.rsqrt (r : EReal) = (((Real.sqrt r)⁻¹ : ℝ) : EReal) := by
  rw [Ideal.rsqrt_coe, if_neg hr.le.not_gt, if_neg hr.ne']

/-- The mean of a real row. -/
theorem mean_coe {n : ℕ} (N : ℝ) (hN : 0 < N) (x : Fin n → ℝ) :
    mean (N : EReal) (fun k => (x k : EReal)) = (((∑ k, x k) / N : ℝ) : EReal) := by
  unfold mean; rw [coe_sum, div_real _ _ hN.ne']

/-- The quantity under the root, of a real row. -/
theorem spread_coe {n : ℕ} (N : ℝ) (hN : 0 < N) (x : Fin n → ℝ) (e : ℝ) (he : Ideal.ofBits .f32 0x3727C5AC#32 = (e : EReal)) :
    spread (N : EReal) (fun k => (x k : EReal))
      = (((∑ k, (x k - (∑ k, x k) / N) * (x k - (∑ k, x k) / N)) / N + e : ℝ) : EReal) := by
  unfold spread
  rw [mean_coe N hN, he]
  simp only [← EReal.coe_sub, ← EReal.coe_mul]
  rw [coe_sum, div_real _ _ hN.ne', ← EReal.coe_add]

/-- A real row normalised is real. -/
theorem Re.lnK {n : ℕ} (N : ℝ) (hN : 0 < N) {x g b : Fin n → EReal} (hx : ∀ k, Re (x k)) (hg : ∀ k, Re (g k)) (hb : ∀ k, Re (b k)) (k : Fin n) :
    Re (Value.lnK (N : EReal) x g b k) := by
  choose X hX using hx
  obtain rfl : x = fun k => (X k : EReal) := funext hX
  obtain ⟨e, he, h⟩ := lit_eps
  have hp := spread_pos N hN fun k => (X k : EReal)
  unfold Value.lnK
  rw [spread_coe N hN X e h] at hp ⊢
  rw [mean_coe N hN, rsqrt_pos _ (by exact_mod_cast hp)]
  exact (((Re.sub ⟨_, rfl⟩ ⟨_, rfl⟩).mul ⟨_, rfl⟩).mul (hg k)).add (hb k)

/-! ## The first layer of an edge -/

/-- The first layer of an edge with the mean moved out of the product: `e` is the edge's row, `w` the scaled weights, `s`
    their column sums, `b` what is added. -/
def edgeLin (e : Fin 128 → EReal) (w : Fin 128 → Fin 128 → EReal) (s b : Fin 128 → EReal) (j : Fin 128) : EReal :=
  Ideal.rsqrt (Ideal.div (∑ k, e k * e k) (Ideal.ofBits .f32 0x43020000#32)
      - mean (Ideal.ofBits .f32 0x43020000#32) e * mean (Ideal.ofBits .f32 0x43020000#32) e
      + Ideal.ofBits .f32 0x3727C5AC#32) * (∑ k, e k * w k j)
    - mean (Ideal.ofBits .f32 0x43020000#32) e
        * Ideal.rsqrt (Ideal.div (∑ k, e k * e k) (Ideal.ofBits .f32 0x43020000#32)
            - mean (Ideal.ofBits .f32 0x43020000#32) e * mean (Ideal.ofBits .f32 0x43020000#32) e
            + Ideal.ofBits .f32 0x3727C5AC#32) * s j
    + b j

/-- A row of 128 as the head of a row of 130. -/
abbrev low (k : Fin 128) : Fin 130 := ⟨k.val, by omega⟩

/-- A sum over 130 splits off its last two terms. -/
theorem sum130 {M : Type*} [AddCommMonoid M] (f : Fin 130 → M) :
    ∑ k, f k = (∑ k, f (low k)) + f ⟨128, by decide⟩ + f ⟨129, by decide⟩ := by
  rw [Fin.sum_univ_castSucc, Fin.sum_univ_castSucc]
  rfl

/-- The edge's row with the two further features of a selected edge, which are zero. -/
def wide (e : Fin 128 → EReal) (k : Fin 130) : EReal := if h : k.val < 128 then e ⟨k.val, h⟩ else 0

/-- The first layer of a selected edge: over the reals, moving the mean out of the product changes nothing. -/
theorem edgeLin_eq {e : Fin 128 → EReal} {G B : Fin 130 → EReal} {W : Fin 130 → Fin 128 → EReal} (b1 : Fin 128 → EReal)
    (he : ∀ k, Re (e k)) (hG : ∀ k, Re (G k)) (hB : ∀ k, Re (B k)) (hW : ∀ k j, Re (W k j)) (j : Fin 128) :
    edgeLin e (fun k j => W (low k) j * G (low k))
        (fun j => (∑ k, W (low k) j * G (low k)) + (G ⟨128, by decide⟩ * W ⟨128, by decide⟩ j + G ⟨129, by decide⟩ * W ⟨129, by decide⟩ j))
        (fun j => b1 j + (∑ k, B (low k) * W (low k) j) + B ⟨128, by decide⟩ * W ⟨128, by decide⟩ j + B ⟨129, by decide⟩ * W ⟨129, by decide⟩ j) j
      = (∑ k, lnR (Ideal.ofBits .f32 0x43020000#32) (wide e) G B k * W k j) + b1 j := by
  choose E hE using he
  obtain rfl : e = fun k => (E k : EReal) := funext hE
  choose G' hG' using hG
  obtain rfl : G = fun k => (G' k : EReal) := funext hG'
  choose B' hB' using hB
  obtain rfl : B = fun k => (B' k : EReal) := funext hB'
  choose W' hW' using hW
  obtain rfl : W = fun k j => (W' k j : EReal) := funext fun k => funext (hW' k)
  obtain ⟨ε, hε, heps⟩ := lit_eps
  have hw : wide (fun k => (E k : EReal)) = fun k => (((if h : k.val < 128 then E ⟨k.val, h⟩ else 0) : ℝ) : EReal) := by
    funext k; unfold wide; split <;> simp
  have h130 : (0 : ℝ) < 130 := by norm_num
  rw [lit_130, lnR_eq 130 h130]
  unfold edgeLin lnK
  rw [lit_130, hw, spread_coe 130 h130 _ ε heps, mean_coe 130 h130, mean_coe 130 h130, heps]
  have hmean : (∑ k : Fin 130, (if h : k.val < 128 then E ⟨k.val, h⟩ else 0)) = ∑ k, E k := by
    rw [sum130]; simp
  rw [hmean]
  set m : ℝ := (∑ k, E k) / 130 with hm
  have hvar : (∑ k : Fin 130, ((if h : k.val < 128 then E ⟨k.val, h⟩ else 0) - m) * ((if h : k.val < 128 then E ⟨k.val, h⟩ else 0) - m)) / 130 + ε
      = (∑ k, E k * E k) / 130 - m * m + ε := by
    rw [sum130]
    have h1 : (∑ k : Fin 128, ((if h : (low k).val < 128 then E ⟨(low k).val, h⟩ else 0) - m) * ((if h : (low k).val < 128 then E ⟨(low k).val, h⟩ else 0) - m))
        = (∑ k, E k * E k) - 2 * m * (∑ k, E k) + 128 * (m * m) := by
      rw [Finset.mul_sum, ← Finset.sum_sub_distrib]
      have : (128 : ℝ) * (m * m) = ∑ k : Fin 128, m * m := by simp
      rw [this, ← Finset.sum_add_distrib]
      refine Finset.sum_congr rfl fun k _ => ?_
      simp only [k.isLt, dif_pos]; ring
    rw [h1]
    have hS : (∑ k, E k) = 130 * m := by rw [hm]; ring
    rw [hS]
    simp
    ring
  have hp : 0 < (∑ k, E k * E k) / 130 - m * m + ε := by
    rw [← hvar]
    have : (0:ℝ) ≤ (∑ k : Fin 130, ((if h : k.val < 128 then E ⟨k.val, h⟩ else 0) - m) * ((if h : k.val < 128 then E ⟨k.val, h⟩ else 0) - m)) :=
      Finset.sum_nonneg fun k _ => mul_self_nonneg _
    positivity
  rw [hvar]
  simp only [← EReal.coe_mul, coe_sum]
  rw [div_real _ _ h130.ne', ← EReal.coe_sub, ← EReal.coe_add, rsqrt_pos _ hp]
  simp only [← EReal.coe_mul, ← EReal.coe_sub, ← EReal.coe_add, coe_sum]
  set r : ℝ := (Real.sqrt ((∑ k, E k * E k) / 130 - m * m + ε))⁻¹
  rw [add_assoc (b1 j), add_assoc (b1 j), add_comm (b1 j), ← add_assoc, ← EReal.coe_add, ← EReal.coe_add, ← EReal.coe_add]
  congr 2
  rw [sum130]
  have h2 : (∑ k : Fin 128, ((((if h : (low k).val < 128 then E ⟨(low k).val, h⟩ else 0) - m) * r * G' (low k) + B' (low k)) * W' (low k) j))
      = r * (∑ k, E k * (W' (low k) j * G' (low k))) - m * r * (∑ k, W' (low k) j * G' (low k)) + ∑ k, B' (low k) * W' (low k) j := by
    rw [Finset.mul_sum, Finset.mul_sum, ← Finset.sum_sub_distrib, ← Finset.sum_add_distrib]
    refine Finset.sum_congr rfl fun k _ => ?_
    simp only [k.isLt, dif_pos]; ring
  rw [h2]
  simp
  ring

/-! ## What an edge adds to its graph -/

/-- The edge's second layer from the first: the activation, the product with the second weights, and the activation. -/
def edgeTop (h : Fin 128 → EReal) (w2 : Fin 128 → Fin 128 → EReal) (b2 : Fin 128 → EReal) (d : Fin 128) : EReal :=
  gelu ((∑ k, gelu (h k) * w2 k d) + b2 d)

/-- A question's row after its own layer. -/
def qrow (q g b : Fin 128 → EReal) (w : Fin 128 → Fin 128 → EReal) (c : Fin 128 → EReal) (f : Fin 128) : EReal :=
  gelu ((∑ k, lnK (Ideal.ofBits .f32 0x43000000#32) q g b k * w k f) + c f)

/-- A finite question gives a finite row. -/
theorem Re.qrow {q g b : Fin 128 → EReal} {w : Fin 128 → Fin 128 → EReal} {c : Fin 128 → EReal} (hq : ∀ k, Re (q k)) (hg : ∀ k, Re (g k))
    (hb : ∀ k, Re (b k)) (hw : ∀ k f, Re (w k f)) (hc : ∀ f, Re (c f)) (f : Fin 128) : Re (qrow q g b w c f) := by
  unfold Value.qrow
  rw [lit_128]
  exact Re.gelu ((Re.sum fun k => (Re.lnK 128 (by norm_num) hq hg hb k).mul (hw k f)).add (hc f))

end Cert.Value
-- ==== Proof.Value.Pay.lean ====
module

public import proofs.«01_k».proof.Proof.KernelIdeal.Point
public import proofs.«01_k».proof.Proof.Value.Row
public import Idealize.ShloMosaic.Lib.Pointwise

@[expose] public section

set_option maxRecDepth 16384
set_option Elab.async false

noncomputable section

namespace Cert.KernelIdeal.Hand

open Cert.KernelIdeal Cert.KernelIdeal.Gen Cert.Value
open Idealize.ShloMosaic

/-- A comparison for equality as a number: one where the words are equal, else zero. -/
theorem hot_eq (a b : BitVec 32) :
    (FloatOps.sitofp (F := Ideal) .f32 (BitVec.setWidth 32 (IntOp.cmpi .eq a b)) : EReal) = if a = b then 1 else 0 := by
  by_cases h : a = b
  · subst h; simp [IntOp.cmpi, FloatOps.sitofp]
  · have hb : (a == b) = false := by simpa using h
    simp [IntOp.cmpi, hb, h, FloatOps.sitofp]

/-- A sum against a one-hot row picks the entry. -/
theorem hot_sum {n : ℕ} (p : Fin n → Prop) [DecidablePred p] (r0 : Fin n) (h : ∀ r, p r ↔ r = r0) (f : Fin n → EReal) :
    ∑ r, (if p r then (1 : EReal) else 0) * f r = f r0 := by
  rw [Finset.sum_eq_single r0]
  · rw [if_pos ((h r0).2 rfl), one_mul]
  · intro b _ hb; rw [if_neg (fun hp => hb ((h b).1 hp)), zero_mul]
  · intro hh; exact absurd (Finset.mem_univ _) hh

/-! ## What the payloads are at an index -/

/-- The window's first layer at an edge. -/
theorem pay3_apply (lo : BitVec 32) (ids : S1x1x8000.Idx → Elt Ideal .i32) (q : S64x128.Idx → Elt Ideal .f32) (x4 : S8000x128.Idx → Elt Ideal .f32)
    (w : S128x128.Idx → Elt Ideal .bf16) (s b : S1x128.Idx → Elt Ideal .f32) (k : Fin 8000) (j : Fin 128) :
    k0_pay3 (F := Ideal) lo (k0_pay20 (F := Ideal) ids) q x4 w s (ix2 k j) + k0_pay4 (F := Ideal) b (ix2 k j)
      = edgeLin (fun f => x4 (ix2 k f) + ∑ r : Fin 64, (if ids (ix3 0 0 k) - lo = BitVec.ofNat 32 r.val then (1 : EReal) else 0) * q (ix2 r f))
          (fun a j => w (ix2 a j)) (fun j => s (ix2 0 j)) (fun j => b (ix2 0 j)) j := by
  pointwise [k0_pay3, k0_pay20, k0_pay18, k0_pay4, hot_eq, edgeLin, mean, IntOp.subi]

/-- The first layer at an edge, all graphs at hand. -/
theorem pay7_apply (ids : S1x1x8000.Idx → Elt Ideal .i32) (q : S512x128.Idx → Elt Ideal .f32) (x4 : S8000x128.Idx → Elt Ideal .f32)
    (w : S128x128.Idx → Elt Ideal .bf16) (s b : S1x128.Idx → Elt Ideal .f32) (k : Fin 8000) (j : Fin 128) :
    k0_pay7 (F := Ideal) (k0_pay20 (F := Ideal) ids) q x4 w s b (ix2 k j)
      = edgeLin (fun f => x4 (ix2 k f) + ∑ r : Fin 512, (if ids (ix3 0 0 k) = BitVec.ofNat 32 r.val then (1 : EReal) else 0) * q (ix2 r f))
          (fun a j => w (ix2 a j)) (fun j => s (ix2 0 j)) (fun j => b (ix2 0 j)) j := by
  pointwise [k0_pay7, k0_pay20, k0_pay18, hot_eq, edgeLin, mean]

/-- The window's sums after a block. -/
theorem pay6_apply (lo : BitVec 32) (ids : S1x1x8000.Idx → Elt Ideal .i32) (sel : S1x1x8000.Idx → Elt Ideal .f32) (u v : S8000x128.Idx → Elt Ideal .f32)
    (w : S128x128.Idx → Elt Ideal .bf16) (b : S1x128.Idx → Elt Ideal .f32) (acc : S64x128.Idx → Elt Ideal .f32) (r : Fin 64) (d : Fin 128) :
    k0_pay6 (F := Ideal) lo (k0_pay18 (F := Ideal) ids) (k0_pay21 (F := Ideal) sel) u v w b acc (ix2 r d)
      = acc (ix2 r d) + ∑ k : Fin 8000, (if ids (ix3 0 0 k) - lo = BitVec.ofNat 32 r.val then (1 : EReal) else 0)
          * (edgeTop (fun j => u (ix2 k j) + v (ix2 k j)) (fun a j => w (ix2 a j)) (fun j => b (ix2 0 j)) d * sel (ix3 0 0 k)) := by
  pointwise [k0_pay6, k0_pay5, k0_pay18, k0_pay21, k0_pay19, hot_eq, edgeTop, gelu, IntOp.subi]
  rfl

/-- All sums after a block. -/
theorem pay9_apply (ids : S1x1x8000.Idx → Elt Ideal .i32) (sel : S1x1x8000.Idx → Elt Ideal .f32) (u : S8000x128.Idx → Elt Ideal .f32)
    (w : S128x128.Idx → Elt Ideal .bf16) (b : S1x128.Idx → Elt Ideal .f32) (acc : S512x128.Idx → Elt Ideal .f32) (g : Fin 512) (d : Fin 128) :
    k0_pay9 (F := Ideal) (k0_pay18 (F := Ideal) ids) (k0_pay21 (F := Ideal) sel) u (Scalar.ofBits .f32 0x3F000000#32) w b acc (ix2 g d)
      = acc (ix2 g d) + ∑ k : Fin 8000, (if ids (ix3 0 0 k) = BitVec.ofNat 32 g.val then (1 : EReal) else 0)
          * (edgeTop (fun j => u (ix2 k j)) (fun a j => w (ix2 a j)) (fun j => b (ix2 0 j)) d * sel (ix3 0 0 k)) := by
  pointwise [k0_pay9, k0_pay8, k0_pay18, k0_pay21, k0_pay19, hot_eq, edgeTop, gelu]
  rfl

/-- The window's counts after a block. -/
theorem pay22_apply (lo : BitVec 32) (ids : S1x1x8000.Idx → Elt Ideal .i32) (sel : S1x1x8000.Idx → Elt Ideal .f32) (cnt : S64x1.Idx → Elt Ideal .f32) (r : Fin 64) :
    k0_pay22 (F := Ideal) sel (k0_pay5 (F := Ideal) lo (k0_pay18 (F := Ideal) ids)) cnt (ix2 r 0)
      = cnt (ix2 r 0) + ∑ k : Fin 8000, (if ids (ix3 0 0 k) - lo = BitVec.ofNat 32 r.val then (1 : EReal) else 0) * sel (ix3 0 0 k) := by
  pointwise [k0_pay22, k0_pay5, k0_pay18, k0_pay19, hot_eq, IntOp.subi]

/-- All counts after a block. -/
theorem pay23_apply (ids : S1x1x8000.Idx → Elt Ideal .i32) (sel : S1x1x8000.Idx → Elt Ideal .f32) (cnt : S512x1.Idx → Elt Ideal .f32) (g : Fin 512) :
    k0_pay23 (F := Ideal) (k0_pay8 (F := Ideal) (k0_pay18 (F := Ideal) ids)) cnt (k0_pay10 (F := Ideal) (k0_pay19 (F := Ideal) sel)) (ix2 g 0)
      = cnt (ix2 g 0) + ∑ k : Fin 8000, (if ids (ix3 0 0 k) = BitVec.ofNat 32 g.val then (1 : EReal) else 0) * sel (ix3 0 0 k) := by
  pointwise [k0_pay23, k0_pay8, k0_pay10, k0_pay18, k0_pay19, hot_eq]

/-- The projected questions. -/
theorem pay2_apply (q : S512x128.Idx → Elt Ideal .f32) (g b : S1x128.Idx → Elt Ideal .f32) (w : S128x128.Idx → Elt Ideal .f32) (c : S1x128.Idx → Elt Ideal .f32)
    (r : Fin 512) (f : Fin 128) :
    k0_pay15 (F := Ideal) (k0_pay2 (F := Ideal) q g b w c) (ix2 r f)
      = qrow (fun k => q (ix2 r k)) (fun k => g (ix2 0 k)) (fun k => b (ix2 0 k)) (fun k f => w (ix2 k f)) (fun f => c (ix2 0 f)) f := by
  pointwise [k0_pay15, k0_pay2, qrow, gelu, lnK, spread, mean]
  rfl

/-- The current state from the sums and counts. -/
theorem pay11_apply (q : S512x128.Idx → Elt Ideal .f32) (cnt : S512x1.Idx → Elt Ideal .f32) (acc : S512x128.Idx → Elt Ideal .f32) (g b : S1x128.Idx → Elt Ideal .f32)
    (r : Fin 512) (f : Fin 128) :
    k0_pay11 (F := Ideal) q cnt acc g b (ix2 r f)
      = lnK (Ideal.ofBits .f32 0x43000000#32) (fun k => Ideal.div (acc (ix2 r k)) (max (cnt (ix2 r 0)) 1) + q (ix2 r k)) (fun k => g (ix2 0 k)) (fun k => b (ix2 0 k)) f := by
  pointwise [k0_pay11, lnK, spread, mean]

/-- The logits of a block. -/
theorem pay24_apply (sel : S1x1x8000.Idx → Elt Ideal .f32) (b : S1x1.Idx → Elt Ideal .f32) (k : Fin 8000) :
    k0_pay24 (F := Ideal) sel b (ix3 0 0 k) = b (ix2 0 0) + Ideal.ofBits .f32 0x3F000000#32 * (1 - sel (ix3 0 0 k)) := by
  pointwise [k0_pay24, k0_pay19]

/-! ## One point, as sums over the edges of its block -/

/-- The row of a graph, zero for an id out of range. -/
def qat (q : S512x128.Idx → Elt Ideal .f32) (id : BitVec 32) (f : Fin 128) : EReal :=
  if h : id.toNat < 512 then q (ix2 ⟨id.toNat, h⟩ f) else 0

/-- What an edge of a block adds to its graph's sum. -/
def term (X : Ins) (q : S512x128.Idx → Elt Ideal .f32) (k : Fin 8000) (d : Fin 128) : EReal :=
  edgeTop (edgeLin (fun f => X.x4 (ix2 k f) + qat q (X.x2 (ix3 0 0 k)) f) (fun a j => X.x10 (ix2 a j)) (fun j => X.x11 (ix2 0 j)) (fun j => X.x12 (ix2 0 j)))
    (fun a j => X.x13 (ix2 a j)) (fun j => X.x14 (ix2 0 j)) d * X.x3 (ix3 0 0 k)

/-- One where the edge is in the graph. -/
def inG (X : Ins) (g : Fin 512) (k : Fin 8000) : EReal := if X.x2 (ix3 0 0 k) = BitVec.ofNat 32 g.val then 1 else 0

/-- An id that names a graph reads its row. -/
theorem qat_of (q : S512x128.Idx → Elt Ideal .f32) (id : BitVec 32) (g : Fin 512) (h : id = BitVec.ofNat 32 g.val) (f : Fin 128) : qat q id f = q (ix2 g f) := by
  have hg := g.isLt
  have e : id.toNat = g.val := by rw [h, BitVec.toNat_ofNat]; omega
  unfold qat
  rw [dif_pos (by omega)]
  congr 2; exact Fin.ext e

/-- A point on the wide path adds every edge's term to its graph. -/
theorem stepW_acc (X : Ins) (S : Scr) (g : Fin 512) (d : Fin 128) :
    (stepW X S).acc (ix2 g d) = S.acc (ix2 g d) + ∑ k, inG X g k * term X S.qf k d := by
  refine (pay9_apply X.x2 X.x3 _ X.x13 X.x14 S.acc g d).trans ?_
  refine congrArg (S.acc (ix2 g d) + ·) (Finset.sum_congr rfl fun k _ => ?_)
  unfold inG term
  by_cases h : X.x2 (ix3 0 0 k) = BitVec.ofNat 32 g.val
  · rw [if_pos h]
    congr 3
    funext j
    rw [pay7_apply]
    congr 1; funext f
    rw [qat_of S.qf _ g h f, hot_sum (fun r : Fin 512 => X.x2 (ix3 0 0 k) = BitVec.ofNat 32 r.val) g (fun r => ?_) (fun r => S.qf (ix2 r f))]
    rw [h]
    have := r.isLt; have := g.isLt
    constructor
    · intro e; have e := congrArg BitVec.toNat e
      rw [BitVec.toNat_ofNat, BitVec.toNat_ofNat] at e; exact Fin.ext (by omega)
    · rintro rfl; rfl
  · rw [if_neg h, zero_mul, zero_mul]

/-- A point on the wide path counts every edge in its graph. -/
theorem stepW_cnt (X : Ins) (S : Scr) (g : Fin 512) :
    (stepW X S).cnt (ix2 g 0) = S.cnt (ix2 g 0) + ∑ k, inG X g k * X.x3 (ix3 0 0 k) := pay23_apply X.x2 X.x3 S.cnt g

/-- Inside the window, a word less the offset is the row exactly if the word is the graph. -/
theorem sub_eq (id lo : BitVec 32) (g r : ℕ) (hg : g < 512) (hr : r < 64) (hlo : lo.toNat ≤ 448) :
    (id - lo = BitVec.ofNat 32 r ↔ id = BitVec.ofNat 32 (lo.toNat + r)) := by
  constructor
  · intro h
    rw [← BitVec.sub_add_cancel id lo, h]; apply BitVec.eq_of_toNat_eq
    rw [BitVec.toNat_add, BitVec.toNat_ofNat, BitVec.toNat_ofNat]; omega
  · intro h
    have : BitVec.ofNat 32 (lo.toNat + r) = BitVec.ofNat 32 r + lo := by
      apply BitVec.eq_of_toNat_eq
      rw [BitVec.toNat_add, BitVec.toNat_ofNat, BitVec.toNat_ofNat]; omega
    rw [h, this, BitVec.add_sub_cancel]

/-- A point on the narrow path does the same, if every edge whose id is in range lies inside its window. -/
theorem stepN_acc (X : Ins) (lo : BitVec 32) (S : Scr) (hlo : lo.toNat ≤ 448)
    (hw : ∀ (k : Fin 8000) (g : Fin 512), X.x2 (ix3 0 0 k) = BitVec.ofNat 32 g.val → lo.toNat ≤ g.val ∧ g.val < lo.toNat + 64) (g : Fin 512) (d : Fin 128) :
    (stepN X lo S).acc (ix2 g d) = S.acc (ix2 g d) + ∑ k, inG X g k * term X S.qf k d := by
  have hg := g.isLt
  show VecWindow.put S.acc (k0_off3 lo) S64x128.size _ (ix2 g d) = _
  unfold VecWindow.put
  by_cases hin : lo.toNat ≤ g.val ∧ g.val < lo.toNat + 64
  · have hall : ∀ a, k0_off3 lo a ≤ ((ix2 g d : S512x128.Idx) a).val ∧ ((ix2 g d : S512x128.Idx) a).val < k0_off3 lo a + S64x128.size a := fun a => by
      match a with
      | ⟨0, _⟩ => exact hin
      | ⟨1, _⟩ => exact ⟨Nat.zero_le _, by show d.val < 0 + 128; have := d.isLt; omega⟩
    rw [dif_pos hall]
    have hloc : (Rect.unitLocal (s := S512x128) (off := k0_off3 lo) (size := S64x128.size) (ix2 g d) hall : S64x128.Idx) = ix2 (⟨g.val - lo.toNat, by omega⟩ : Fin 64) d := by
      funext a; apply Fin.ext
      match a with
      | ⟨0, _⟩ => rfl
      | ⟨1, _⟩ => rfl
    refine (congrArg _ hloc).trans ?_
    refine (pay6_apply lo X.x2 X.x3 _ _ X.x13 X.x14 _ ⟨g.val - lo.toNat, by omega⟩ d).trans ?_
    refine congrArg₂ (· + ·) ?_ (Finset.sum_congr rfl fun k _ => ?_)
    · unfold rows128
      congr 1; funext a; apply Fin.ext
      match a with
      | ⟨0, _⟩ => show (lo.toNat + (g.val - lo.toNat)) % 512 = g.val; rw [Nat.add_sub_cancel' hin.1, Nat.mod_eq_of_lt hg]
      | ⟨1, _⟩ => rfl
    · unfold inG term
      have hs := sub_eq (X.x2 (ix3 0 0 k)) lo g.val (g.val - lo.toNat) hg (by omega) hlo
      rw [show lo.toNat + (g.val - lo.toNat) = g.val by omega] at hs
      by_cases h : X.x2 (ix3 0 0 k) = BitVec.ofNat 32 g.val
      · rw [if_pos h, if_pos (hs.2 h)]
        congr 3
        funext j
        refine (pay3_apply lo X.x2 _ X.x4 X.x10 X.x11 X.x12 k j).trans ?_
        congr 1; funext f
        rw [qat_of S.qf _ g h f, hot_sum (fun r : Fin 64 => X.x2 (ix3 0 0 k) - lo = BitVec.ofNat 32 r.val) ⟨g.val - lo.toNat, by omega⟩ (fun r => ?_) _]
        · refine congrArg (X.x4 (ix2 k f) + ·) ?_
          unfold rows128
          congr 1; funext a; apply Fin.ext
          match a with
          | ⟨0, _⟩ => show (lo.toNat + (g.val - lo.toNat)) % 512 = g.val; rw [Nat.add_sub_cancel' hin.1, Nat.mod_eq_of_lt hg]
          | ⟨1, _⟩ => rfl
        · have hr := r.isLt
          rw [sub_eq _ lo g.val r.val hg hr hlo, h]
          constructor
          · intro e; have e := congrArg BitVec.toNat e
            rw [BitVec.toNat_ofNat, BitVec.toNat_ofNat] at e; exact Fin.ext (by show r.val = g.val - lo.toNat; omega)
          · rintro rfl; show _ = BitVec.ofNat 32 (lo.toNat + (g.val - lo.toNat)); congr 1; omega
      · rw [if_neg h, if_neg (fun e => h (hs.1 e)), zero_mul, zero_mul]
  · rw [dif_neg (fun hall => hin (hall 0))]
    have hz : ∑ k, inG X g k * term X S.qf k d = 0 := Finset.sum_eq_zero fun k _ => by
      unfold inG
      rw [if_neg (fun e => hin (hw k g e)), zero_mul]
    rw [hz, add_zero]

/-- Likewise the counts of a point on the narrow path. -/
theorem stepN_cnt (X : Ins) (lo : BitVec 32) (S : Scr) (hlo : lo.toNat ≤ 448)
    (hw : ∀ (k : Fin 8000) (g : Fin 512), X.x2 (ix3 0 0 k) = BitVec.ofNat 32 g.val → lo.toNat ≤ g.val ∧ g.val < lo.toNat + 64) (g : Fin 512) :
    (stepN X lo S).cnt (ix2 g 0) = S.cnt (ix2 g 0) + ∑ k, inG X g k * X.x3 (ix3 0 0 k) := by
  have hg := g.isLt
  show VecWindow.put S.cnt (k0_off4 lo) S64x1.size _ (ix2 g 0) = _
  unfold VecWindow.put
  by_cases hin : lo.toNat ≤ g.val ∧ g.val < lo.toNat + 64
  · have hall : ∀ a, k0_off4 lo a ≤ ((ix2 g 0 : S512x1.Idx) a).val ∧ ((ix2 g 0 : S512x1.Idx) a).val < k0_off4 lo a + S64x1.size a := fun a => by
      match a with
      | ⟨0, _⟩ => exact hin
      | ⟨1, _⟩ => exact ⟨Nat.zero_le _, by show 0 < 0 + 1; omega⟩
    rw [dif_pos hall]
    have hloc : (Rect.unitLocal (s := S512x1) (off := k0_off4 lo) (size := S64x1.size) (ix2 g 0) hall : S64x1.Idx) = ix2 (⟨g.val - lo.toNat, by omega⟩ : Fin 64) (0 : Fin 1) := by
      funext a; apply Fin.ext
      match a with
      | ⟨0, _⟩ => rfl
      | ⟨1, _⟩ => rfl
    refine (congrArg _ hloc).trans ?_
    refine (pay22_apply lo X.x2 X.x3 _ ⟨g.val - lo.toNat, by omega⟩).trans ?_
    refine congrArg₂ (· + ·) ?_ (Finset.sum_congr rfl fun k _ => ?_)
    · unfold rows1
      congr 1; funext a; apply Fin.ext
      match a with
      | ⟨0, _⟩ => show (lo.toNat + (g.val - lo.toNat)) % 512 = g.val; rw [Nat.add_sub_cancel' hin.1, Nat.mod_eq_of_lt hg]
      | ⟨1, _⟩ => rfl
    · unfold inG
      have hs := sub_eq (X.x2 (ix3 0 0 k)) lo g.val (g.val - lo.toNat) hg (by omega) hlo
      rw [show lo.toNat + (g.val - lo.toNat) = g.val by omega] at hs
      by_cases h : X.x2 (ix3 0 0 k) = BitVec.ofNat 32 g.val
      · rw [if_pos h, if_pos (hs.2 h)]
      · rw [if_neg h, if_neg (fun e => h (hs.1 e))]
  · rw [dif_neg (fun hall => hin (hall 0))]
    have hz : ∑ k, inG X g k * X.x3 (ix3 0 0 k) = 0 := Finset.sum_eq_zero fun k _ => by
      unfold inG
      rw [if_neg (fun e => hin (hw k g e)), zero_mul]
    rw [hz, add_zero]

end Cert.KernelIdeal.Hand
-- ==== Proof.Value.Block.lean ====
module

public import proofs.«01_k».proof.Proof.KernelIdeal.Frame
public import proofs.«01_k».proof.Proof.Value.Pay
public import Idealize.ShloMosaic.Lib.Pipeline.ValueKit
public import Idealize.ShloMosaic.Lib.StableHlo.RunRead
public import Idealize.ShloMosaic.Lib.Pointwise

@[expose] public section

set_option maxRecDepth 16384
set_option Elab.async false

noncomputable section

namespace Cert.KernelIdeal.Hand

open Cert.KernelIdeal Cert.KernelIdeal.Gen Cert.Value
open Idealize.ShloMosaic
open Idealize.ShloMosaic.Pipeline (Dat Cfg Window)

variable (m : (ℓ : Loc nD τ sig) → Buf (Elt Ideal) ℓ) (c : Dev nD)

/-! ## The launch's arrays -/

/-- Argument 0 at launch. -/
abbrev a0 : (⟨S160000x128, .f32⟩ : BufTy).Contents (Elt Ideal) := m (c, Proc.devRef .tc main_arg0)
/-- Argument 1 at launch. -/
abbrev a1 : (⟨S512x128, .f32⟩ : BufTy).Contents (Elt Ideal) := m (c, Proc.devRef .tc main_arg1)
/-- Argument 2 at launch. -/
abbrev a2 : (⟨S160000, .i32⟩ : BufTy).Contents (Elt Ideal) := m (c, Proc.devRef .tc main_arg2)
/-- Argument 3 at launch. -/
abbrev a3 : (⟨S160000, .i1⟩ : BufTy).Contents (Elt Ideal) := m (c, Proc.devRef .tc main_arg3)
/-- Argument 4 at launch. -/
abbrev a4 : (⟨S128, .f32⟩ : BufTy).Contents (Elt Ideal) := m (c, Proc.devRef .tc main_arg4)
/-- Argument 5 at launch. -/
abbrev a5 : (⟨S128, .f32⟩ : BufTy).Contents (Elt Ideal) := m (c, Proc.devRef .tc main_arg5)
/-- Argument 6 at launch. -/
abbrev a6 : (⟨S128x128, .f32⟩ : BufTy).Contents (Elt Ideal) := m (c, Proc.devRef .tc main_arg6)
/-- Argument 7 at launch. -/
abbrev a7 : (⟨S128, .f32⟩ : BufTy).Contents (Elt Ideal) := m (c, Proc.devRef .tc main_arg7)
/-- Argument 8 at launch. -/
abbrev a8 : (⟨S130, .f32⟩ : BufTy).Contents (Elt Ideal) := m (c, Proc.devRef .tc main_arg8)
/-- Argument 9 at launch. -/
abbrev a9 : (⟨S130, .f32⟩ : BufTy).Contents (Elt Ideal) := m (c, Proc.devRef .tc main_arg9)
/-- Argument 10 at launch. -/
abbrev a10 : (⟨S130x128, .f32⟩ : BufTy).Contents (Elt Ideal) := m (c, Proc.devRef .tc main_arg10)
/-- Argument 11 at launch. -/
abbrev a11 : (⟨S128, .f32⟩ : BufTy).Contents (Elt Ideal) := m (c, Proc.devRef .tc main_arg11)
/-- Argument 12 at launch. -/
abbrev a12 : (⟨S128x128, .f32⟩ : BufTy).Contents (Elt Ideal) := m (c, Proc.devRef .tc main_arg12)
/-- Argument 13 at launch. -/
abbrev a13 : (⟨S128, .f32⟩ : BufTy).Contents (Elt Ideal) := m (c, Proc.devRef .tc main_arg13)
/-- Argument 14 at launch. -/
abbrev a14 : (⟨S128, .f32⟩ : BufTy).Contents (Elt Ideal) := m (c, Proc.devRef .tc main_arg14)
/-- Argument 15 at launch. -/
abbrev a15 : (⟨S128, .f32⟩ : BufTy).Contents (Elt Ideal) := m (c, Proc.devRef .tc main_arg15)
/-- Argument 16 at launch. -/
abbrev a16 : (⟨S256, .f32⟩ : BufTy).Contents (Elt Ideal) := m (c, Proc.devRef .tc main_arg16)
/-- Argument 17 at launch. -/
abbrev a17 : (⟨S256, .f32⟩ : BufTy).Contents (Elt Ideal) := m (c, Proc.devRef .tc main_arg17)
/-- Argument 18 at launch. -/
abbrev a18 : (⟨S256x128, .f32⟩ : BufTy).Contents (Elt Ideal) := m (c, Proc.devRef .tc main_arg18)
/-- Argument 19 at launch. -/
abbrev a19 : (⟨S128, .f32⟩ : BufTy).Contents (Elt Ideal) := m (c, Proc.devRef .tc main_arg19)
/-- Argument 20 at launch. -/
abbrev a20 : (⟨S128x1, .f32⟩ : BufTy).Contents (Elt Ideal) := m (c, Proc.devRef .tc main_arg20)
/-- Argument 21 at launch. -/
abbrev a21 : (⟨S1, .f32⟩ : BufTy).Contents (Elt Ideal) := m (c, Proc.devRef .tc main_arg21)
/-- Argument 22 at launch. -/
abbrev a22 : (⟨S256, .f32⟩ : BufTy).Contents (Elt Ideal) := m (c, Proc.devRef .tc main_arg22)
/-- Argument 23 at launch. -/
abbrev a23 : (⟨S256, .f32⟩ : BufTy).Contents (Elt Ideal) := m (c, Proc.devRef .tc main_arg23)
/-- Argument 24 at launch. -/
abbrev a24 : (⟨S256x128, .f32⟩ : BufTy).Contents (Elt Ideal) := m (c, Proc.devRef .tc main_arg24)
/-- Argument 25 at launch. -/
abbrev a25 : (⟨S128, .f32⟩ : BufTy).Contents (Elt Ideal) := m (c, Proc.devRef .tc main_arg25)
/-- Argument 26 at launch. -/
abbrev a26 : (⟨S128x1, .f32⟩ : BufTy).Contents (Elt Ideal) := m (c, Proc.devRef .tc main_arg26)
/-- Argument 27 at launch. -/
abbrev a27 : (⟨S1, .f32⟩ : BufTy).Contents (Elt Ideal) := m (c, Proc.devRef .tc main_arg27)

/-! ## A window that is its whole array -/

/-- Window 3 is its whole array. -/
theorem whole3 (t : Fin (cfgA m).N) (j : S512x128.Idx) : (insAt m c t).x5 j = V m c main_arg1 j := by
  show iblk m c (3 : Fin 25) t j = _
  unfold iblk
  rw [View.read_apply]
  refine congrArg (V m c main_arg1) (funext fun a => Fin.ext ?_)
  blk_simp
  match a with
  | ⟨0, _⟩ => exact (congrArg (· + _) (Nat.zero_mul _)).trans (Nat.zero_add _)
  | ⟨1, _⟩ => exact (congrArg (· + _) (Nat.zero_mul _)).trans (Nat.zero_add _)

/-- Window 4 is its whole array. -/
theorem whole4 (t : Fin (cfgA m).N) (j : S1x128.Idx) : (insAt m c t).x6 j = V m c main_v58 j := by
  show iblk m c (4 : Fin 25) t j = _
  unfold iblk
  rw [View.read_apply]
  refine congrArg (V m c main_v58) (funext fun a => Fin.ext ?_)
  blk_simp
  match a with
  | ⟨0, _⟩ => exact (congrArg (· + _) (Nat.zero_mul _)).trans (Nat.zero_add _)
  | ⟨1, _⟩ => exact (congrArg (· + _) (Nat.zero_mul _)).trans (Nat.zero_add _)

/-- Window 5 is its whole array. -/
theorem whole5 (t : Fin (cfgA m).N) (j : S1x128.Idx) : (insAt m c t).x7 j = V m c main_v59 j := by
  show iblk m c (5 : Fin 25) t j = _
  unfold iblk
  rw [View.read_apply]
  refine congrArg (V m c main_v59) (funext fun a => Fin.ext ?_)
  blk_simp
  match a with
  | ⟨0, _⟩ => exact (congrArg (· + _) (Nat.zero_mul _)).trans (Nat.zero_add _)
  | ⟨1, _⟩ => exact (congrArg (· + _) (Nat.zero_mul _)).trans (Nat.zero_add _)

/-- Window 6 is its whole array. -/
theorem whole6 (t : Fin (cfgA m).N) (j : S128x128.Idx) : (insAt m c t).x8 j = V m c main_arg6 j := by
  show iblk m c (6 : Fin 25) t j = _
  unfold iblk
  rw [View.read_apply]
  refine congrArg (V m c main_arg6) (funext fun a => Fin.ext ?_)
  blk_simp
  match a with
  | ⟨0, _⟩ => exact (congrArg (· + _) (Nat.zero_mul _)).trans (Nat.zero_add _)
  | ⟨1, _⟩ => exact (congrArg (· + _) (Nat.zero_mul _)).trans (Nat.zero_add _)

/-- Window 7 is its whole array. -/
theorem whole7 (t : Fin (cfgA m).N) (j : S1x128.Idx) : (insAt m c t).x9 j = V m c main_v60 j := by
  show iblk m c (7 : Fin 25) t j = _
  unfold iblk
  rw [View.read_apply]
  refine congrArg (V m c main_v60) (funext fun a => Fin.ext ?_)
  blk_simp
  match a with
  | ⟨0, _⟩ => exact (congrArg (· + _) (Nat.zero_mul _)).trans (Nat.zero_add _)
  | ⟨1, _⟩ => exact (congrArg (· + _) (Nat.zero_mul _)).trans (Nat.zero_add _)

/-- Window 8 is its whole array. -/
theorem whole8 (t : Fin (cfgA m).N) (j : S128x128.Idx) : (insAt m c t).x10 j = V m c main_v61 j := by
  show iblk m c (8 : Fin 25) t j = _
  unfold iblk
  rw [View.read_apply]
  refine congrArg (V m c main_v61) (funext fun a => Fin.ext ?_)
  blk_simp
  match a with
  | ⟨0, _⟩ => exact (congrArg (· + _) (Nat.zero_mul _)).trans (Nat.zero_add _)
  | ⟨1, _⟩ => exact (congrArg (· + _) (Nat.zero_mul _)).trans (Nat.zero_add _)

/-- Window 9 is its whole array. -/
theorem whole9 (t : Fin (cfgA m).N) (j : S1x128.Idx) : (insAt m c t).x11 j = V m c main_v38 j := by
  show iblk m c (9 : Fin 25) t j = _
  unfold iblk
  rw [View.read_apply]
  refine congrArg (V m c main_v38) (funext fun a => Fin.ext ?_)
  blk_simp
  match a with
  | ⟨0, _⟩ => exact (congrArg (· + _) (Nat.zero_mul _)).trans (Nat.zero_add _)
  | ⟨1, _⟩ => exact (congrArg (· + _) (Nat.zero_mul _)).trans (Nat.zero_add _)

/-- Window 10 is its whole array. -/
theorem whole10 (t : Fin (cfgA m).N) (j : S1x128.Idx) : (insAt m c t).x12 j = V m c main_v57 j := by
  show iblk m c (10 : Fin 25) t j = _
  unfold iblk
  rw [View.read_apply]
  refine congrArg (V m c main_v57) (funext fun a => Fin.ext ?_)
  blk_simp
  match a with
  | ⟨0, _⟩ => exact (congrArg (· + _) (Nat.zero_mul _)).trans (Nat.zero_add _)
  | ⟨1, _⟩ => exact (congrArg (· + _) (Nat.zero_mul _)).trans (Nat.zero_add _)

/-- Window 11 is its whole array. -/
theorem whole11 (t : Fin (cfgA m).N) (j : S128x128.Idx) : (insAt m c t).x13 j = V m c main_v62 j := by
  show iblk m c (11 : Fin 25) t j = _
  unfold iblk
  rw [View.read_apply]
  refine congrArg (V m c main_v62) (funext fun a => Fin.ext ?_)
  blk_simp
  match a with
  | ⟨0, _⟩ => exact (congrArg (· + _) (Nat.zero_mul _)).trans (Nat.zero_add _)
  | ⟨1, _⟩ => exact (congrArg (· + _) (Nat.zero_mul _)).trans (Nat.zero_add _)

/-- Window 12 is its whole array. -/
theorem whole12 (t : Fin (cfgA m).N) (j : S1x128.Idx) : (insAt m c t).x14 j = V m c main_v63 j := by
  show iblk m c (12 : Fin 25) t j = _
  unfold iblk
  rw [View.read_apply]
  refine congrArg (V m c main_v63) (funext fun a => Fin.ext ?_)
  blk_simp
  match a with
  | ⟨0, _⟩ => exact (congrArg (· + _) (Nat.zero_mul _)).trans (Nat.zero_add _)
  | ⟨1, _⟩ => exact (congrArg (· + _) (Nat.zero_mul _)).trans (Nat.zero_add _)

/-- Window 13 is its whole array. -/
theorem whole13 (t : Fin (cfgA m).N) (j : S1x128.Idx) : (insAt m c t).x15 j = V m c main_v64 j := by
  show iblk m c (13 : Fin 25) t j = _
  unfold iblk
  rw [View.read_apply]
  refine congrArg (V m c main_v64) (funext fun a => Fin.ext ?_)
  blk_simp
  match a with
  | ⟨0, _⟩ => exact (congrArg (· + _) (Nat.zero_mul _)).trans (Nat.zero_add _)
  | ⟨1, _⟩ => exact (congrArg (· + _) (Nat.zero_mul _)).trans (Nat.zero_add _)

/-- Window 14 is its whole array. -/
theorem whole14 (t : Fin (cfgA m).N) (j : S1x128.Idx) : (insAt m c t).x16 j = V m c main_v65 j := by
  show iblk m c (14 : Fin 25) t j = _
  unfold iblk
  rw [View.read_apply]
  refine congrArg (V m c main_v65) (funext fun a => Fin.ext ?_)
  blk_simp
  match a with
  | ⟨0, _⟩ => exact (congrArg (· + _) (Nat.zero_mul _)).trans (Nat.zero_add _)
  | ⟨1, _⟩ => exact (congrArg (· + _) (Nat.zero_mul _)).trans (Nat.zero_add _)

/-- Window 15 is its whole array. -/
theorem whole15 (t : Fin (cfgA m).N) (j : S1x256.Idx) : (insAt m c t).x17 j = V m c main_v66 j := by
  show iblk m c (15 : Fin 25) t j = _
  unfold iblk
  rw [View.read_apply]
  refine congrArg (V m c main_v66) (funext fun a => Fin.ext ?_)
  blk_simp
  match a with
  | ⟨0, _⟩ => exact (congrArg (· + _) (Nat.zero_mul _)).trans (Nat.zero_add _)
  | ⟨1, _⟩ => exact (congrArg (· + _) (Nat.zero_mul _)).trans (Nat.zero_add _)

/-- Window 16 is its whole array. -/
theorem whole16 (t : Fin (cfgA m).N) (j : S1x256.Idx) : (insAt m c t).x18 j = V m c main_v67 j := by
  show iblk m c (16 : Fin 25) t j = _
  unfold iblk
  rw [View.read_apply]
  refine congrArg (V m c main_v67) (funext fun a => Fin.ext ?_)
  blk_simp
  match a with
  | ⟨0, _⟩ => exact (congrArg (· + _) (Nat.zero_mul _)).trans (Nat.zero_add _)
  | ⟨1, _⟩ => exact (congrArg (· + _) (Nat.zero_mul _)).trans (Nat.zero_add _)

/-- Window 17 is its whole array. -/
theorem whole17 (t : Fin (cfgA m).N) (j : S256x128.Idx) : (insAt m c t).x19 j = V m c main_arg24 j := by
  show iblk m c (17 : Fin 25) t j = _
  unfold iblk
  rw [View.read_apply]
  refine congrArg (V m c main_arg24) (funext fun a => Fin.ext ?_)
  blk_simp
  match a with
  | ⟨0, _⟩ => exact (congrArg (· + _) (Nat.zero_mul _)).trans (Nat.zero_add _)
  | ⟨1, _⟩ => exact (congrArg (· + _) (Nat.zero_mul _)).trans (Nat.zero_add _)

/-- Window 18 is its whole array. -/
theorem whole18 (t : Fin (cfgA m).N) (j : S1x128.Idx) : (insAt m c t).x20 j = V m c main_v68 j := by
  show iblk m c (18 : Fin 25) t j = _
  unfold iblk
  rw [View.read_apply]
  refine congrArg (V m c main_v68) (funext fun a => Fin.ext ?_)
  blk_simp
  match a with
  | ⟨0, _⟩ => exact (congrArg (· + _) (Nat.zero_mul _)).trans (Nat.zero_add _)
  | ⟨1, _⟩ => exact (congrArg (· + _) (Nat.zero_mul _)).trans (Nat.zero_add _)

/-- Window 19 is its whole array. -/
theorem whole19 (t : Fin (cfgA m).N) (j : S128x1.Idx) : (insAt m c t).x21 j = V m c main_arg26 j := by
  show iblk m c (19 : Fin 25) t j = _
  unfold iblk
  rw [View.read_apply]
  refine congrArg (V m c main_arg26) (funext fun a => Fin.ext ?_)
  blk_simp
  match a with
  | ⟨0, _⟩ => exact (congrArg (· + _) (Nat.zero_mul _)).trans (Nat.zero_add _)
  | ⟨1, _⟩ => exact (congrArg (· + _) (Nat.zero_mul _)).trans (Nat.zero_add _)

/-- Window 20 is its whole array. -/
theorem whole20 (t : Fin (cfgA m).N) (j : S1x1.Idx) : (insAt m c t).x22 j = V m c main_v69 j := by
  show iblk m c (20 : Fin 25) t j = _
  unfold iblk
  rw [View.read_apply]
  refine congrArg (V m c main_v69) (funext fun a => Fin.ext ?_)
  blk_simp
  match a with
  | ⟨0, _⟩ => exact (congrArg (· + _) (Nat.zero_mul _)).trans (Nat.zero_add _)
  | ⟨1, _⟩ => exact (congrArg (· + _) (Nat.zero_mul _)).trans (Nat.zero_add _)

/-- Window 21 is its whole array. -/
theorem whole21 (t : Fin (cfgA m).N) (j : S1x1.Idx) : (insAt m c t).x23 j = V m c main_v70 j := by
  show iblk m c (21 : Fin 25) t j = _
  unfold iblk
  rw [View.read_apply]
  refine congrArg (V m c main_v70) (funext fun a => Fin.ext ?_)
  blk_simp
  match a with
  | ⟨0, _⟩ => exact (congrArg (· + _) (Nat.zero_mul _)).trans (Nat.zero_add _)
  | ⟨1, _⟩ => exact (congrArg (· + _) (Nat.zero_mul _)).trans (Nat.zero_add _)

/-! ## The windows of the edges -/

/-- A point's number is below twenty. -/
theorem t_lt (t : Fin (cfgA m).N) : t.val < 20 := lt_of_lt_of_eq t.isLt (N_eq m)

/-- The edge of a point's lane. -/
def edgeOf (t : Fin (cfgA m).N) (k : Fin 8000) : Fin 160000 := ⟨t.val * 8000 + k.val, by have := t_lt m t; have := k.isLt; omega⟩

/-- The block of an edge window at a point. -/
theorem off_val (t : Fin (cfgA m).N) : (BitVec.ofNat 32 ((cfgA m).grid.coords t 0).val).toNat = t.val := by
  have h := t_lt m t
  have e : ((cfgA m).grid.coords t 0).val = t.val := crd_val t
  rw [e, BitVec.toNat_ofNat]; omega

/-- Window 0 is the point's row of its array. -/
theorem row0 (t : Fin (cfgA m).N) (k : Fin 8000) : (insAt m c t).x2 (ix3 0 0 k) = V m c main_v1 (ix3 ⟨t.val, t_lt m t⟩ 0 k) := by
  show iblk m c (0 : Fin 25) t (ix3 0 0 k) = _
  unfold iblk
  rw [View.read_apply]
  refine congrArg (V m c main_v1) (funext fun a => Fin.ext ?_)
  blk_simp
  match a with
  | ⟨0, _⟩ =>
    show (BitVec.ofNat 32 ((cfgA m).grid.coords t 0).val).toNat * 1 + 0 = t.val
    rw [off_val]; omega
  | ⟨1, _⟩ => rfl
  | ⟨2, _⟩ => exact (congrArg (· + _) (Nat.zero_mul _)).trans (Nat.zero_add _)

/-- Window 1 is the point's row of its array. -/
theorem row1 (t : Fin (cfgA m).N) (k : Fin 8000) : (insAt m c t).x3 (ix3 0 0 k) = V m c main_v2 (ix3 ⟨t.val, t_lt m t⟩ 0 k) := by
  show iblk m c (1 : Fin 25) t (ix3 0 0 k) = _
  unfold iblk
  rw [View.read_apply]
  refine congrArg (V m c main_v2) (funext fun a => Fin.ext ?_)
  blk_simp
  match a with
  | ⟨0, _⟩ =>
    show (BitVec.ofNat 32 ((cfgA m).grid.coords t 0).val).toNat * 1 + 0 = t.val
    rw [off_val]; omega
  | ⟨1, _⟩ => rfl
  | ⟨2, _⟩ => exact (congrArg (· + _) (Nat.zero_mul _)).trans (Nat.zero_add _)

/-- Window 2 is the point's rows of the tokens. -/
theorem row2 (t : Fin (cfgA m).N) (k : Fin 8000) (f : Fin 128) : (insAt m c t).x4 (ix2 k f) = V m c main_arg0 (ix2 (edgeOf m t k) f) := by
  show iblk m c (2 : Fin 25) t (ix2 k f) = _
  unfold iblk
  rw [View.read_apply]
  refine congrArg (V m c main_arg0) (funext fun a => Fin.ext ?_)
  blk_simp
  match a with
  | ⟨0, _⟩ =>
    show (BitVec.ofNat 32 ((cfgA m).grid.coords t 0).val).toNat * 8000 + k.val = t.val * 8000 + k.val
    rw [off_val]
  | ⟨1, _⟩ => exact (congrArg (· + _) (Nat.zero_mul _)).trans (Nat.zero_add _)

end Cert.KernelIdeal.Hand
-- ==== Proof.Value.Host.lean ====
module

public import proofs.«01_k».proof.Proof.KernelIdeal.Frame
public import proofs.«01_k».proof.Proof.Value.Block
public import Idealize.ShloMosaic.Lib.Pipeline.ValueKit
public import Idealize.ShloMosaic.Lib.StableHlo.RunRead
public import Idealize.ShloMosaic.Lib.Pointwise

@[expose] public section

set_option maxRecDepth 16384
set_option Elab.async false

noncomputable section

namespace Cert.KernelIdeal.Hand

open Cert.KernelIdeal Cert.KernelIdeal.Gen Cert.Value
open Idealize.ShloMosaic
open Idealize.ShloMosaic.Pipeline (Dat Cfg Window)

variable (m : (ℓ : Loc nD τ sig) → Buf (Elt Ideal) ℓ) (c : Dev nD)

/-! ## What the blocks hold, from the launch's arrays -/

/-- The ids of a block. -/
theorem x2_of (t : Fin (cfgA m).N) (k : Fin 8000) : (insAt m c t).x2 (ix3 0 0 k) = a2 m c (ix1 (edgeOf m t k)) := by
  rw [row0]
  show W m c _ _ = _
  unfold W; after_reads_simp
  refine shapeCast_apply (s := S160000) (t := S20x1x8000) _ _ _ _ ?_
  rw [Shape.rowMajor_val_one, Shape.rowMajor_val_three]
  show t.val * 8000 + k.val = (t.val * 1 + 0) * 8000 + k.val
  omega

/-- The selections of a block. -/
theorem x3_of (t : Fin (cfgA m).N) (k : Fin 8000) : (insAt m c t).x3 (ix3 0 0 k) = FloatOps.uitofp (F := Ideal) .f32 (a3 m c (ix1 (edgeOf m t k))) := by
  rw [row1]
  show W m c _ _ = _
  unfold W; after_reads_simp
  refine (shapeCast_apply (s := S160000) (t := S20x1x8000) _ _ _ (ix1 (edgeOf m t k)) ?_).trans rfl
  rw [Shape.rowMajor_val_one, Shape.rowMajor_val_three]
  show t.val * 8000 + k.val = (t.val * 1 + 0) * 8000 + k.val
  omega

/-- The tokens of a block. -/
theorem x4_of (t : Fin (cfgA m).N) (k : Fin 8000) (f : Fin 128) : (insAt m c t).x4 (ix2 k f) = a0 m c (ix2 (edgeOf m t k) f) := by
  rw [row2, V_arg0]

/-- Window 3 holds argument 1. -/
theorem x5_of (t : Fin (cfgA m).N) : (insAt m c t).x5 = a1 m c := by
  funext j; rw [whole3, V_arg1]

/-- Window 6 holds argument 6. -/
theorem x8_of (t : Fin (cfgA m).N) : (insAt m c t).x8 = a6 m c := by
  funext j; rw [whole6, V_arg6]

/-- Window 17 holds argument 24. -/
theorem x19_of (t : Fin (cfgA m).N) : (insAt m c t).x19 = a24 m c := by
  funext j; rw [whole17, V_arg24]

/-- Window 19 holds argument 26. -/
theorem x21_of (t : Fin (cfgA m).N) : (insAt m c t).x21 = a26 m c := by
  funext j; rw [whole19, V_arg26]

/-- Window 4 holds argument 4 as a row. -/
theorem x6_of (t : Fin (cfgA m).N) (k : Fin 128) : (insAt m c t).x6 (ix2 0 k) = a4 m c (ix1 k) := by
  rw [whole4]
  show W m c _ _ = _
  unfold W; after_reads_simp
  pointwise

/-- Window 5 holds argument 5 as a row. -/
theorem x7_of (t : Fin (cfgA m).N) (k : Fin 128) : (insAt m c t).x7 (ix2 0 k) = a5 m c (ix1 k) := by
  rw [whole5]
  show W m c _ _ = _
  unfold W; after_reads_simp
  pointwise

/-- Window 7 holds argument 7 as a row. -/
theorem x9_of (t : Fin (cfgA m).N) (k : Fin 128) : (insAt m c t).x9 (ix2 0 k) = a7 m c (ix1 k) := by
  rw [whole7]
  show W m c _ _ = _
  unfold W; after_reads_simp
  pointwise

/-- Window 12 holds argument 13 as a row. -/
theorem x14_of (t : Fin (cfgA m).N) (k : Fin 128) : (insAt m c t).x14 (ix2 0 k) = a13 m c (ix1 k) := by
  rw [whole12]
  show W m c _ _ = _
  unfold W; after_reads_simp
  pointwise

/-- Window 13 holds argument 14 as a row. -/
theorem x15_of (t : Fin (cfgA m).N) (k : Fin 128) : (insAt m c t).x15 (ix2 0 k) = a14 m c (ix1 k) := by
  rw [whole13]
  show W m c _ _ = _
  unfold W; after_reads_simp
  pointwise

/-- Window 14 holds argument 15 as a row. -/
theorem x16_of (t : Fin (cfgA m).N) (k : Fin 128) : (insAt m c t).x16 (ix2 0 k) = a15 m c (ix1 k) := by
  rw [whole14]
  show W m c _ _ = _
  unfold W; after_reads_simp
  pointwise

/-- Window 15 holds argument 22 as a row. -/
theorem x17_of (t : Fin (cfgA m).N) (k : Fin 256) : (insAt m c t).x17 (ix2 0 k) = a22 m c (ix1 k) := by
  rw [whole15]
  show W m c _ _ = _
  unfold W; after_reads_simp
  pointwise

/-- Window 16 holds argument 23 as a row. -/
theorem x18_of (t : Fin (cfgA m).N) (k : Fin 256) : (insAt m c t).x18 (ix2 0 k) = a23 m c (ix1 k) := by
  rw [whole16]
  show W m c _ _ = _
  unfold W; after_reads_simp
  pointwise

/-- Window 18 holds argument 25 as a row. -/
theorem x20_of (t : Fin (cfgA m).N) (k : Fin 128) : (insAt m c t).x20 (ix2 0 k) = a25 m c (ix1 k) := by
  rw [whole18]
  show W m c _ _ = _
  unfold W; after_reads_simp
  pointwise

/-- Window 20 holds argument 27 as a row. -/
theorem x22_of (t : Fin (cfgA m).N) (k : Fin 1) : (insAt m c t).x22 (ix2 0 k) = a27 m c (ix1 k) := by
  rw [whole20]
  show W m c _ _ = _
  unfold W; after_reads_simp
  refine shapeCast_apply (s := S1) (t := S1x1) _ _ _ _ ?_
  rw [Shape.rowMajor_val_one, Shape.rowMajor_val_two]
  show k.val = 0 * 1 + k.val
  omega

/-- Window 21 holds argument 21 as a row. -/
theorem x23_of (t : Fin (cfgA m).N) (k : Fin 1) : (insAt m c t).x23 (ix2 0 k) = a21 m c (ix1 k) := by
  rw [whole21]
  show W m c _ _ = _
  unfold W; after_reads_simp
  refine shapeCast_apply (s := S1) (t := S1x1) _ _ _ _ ?_
  rw [Shape.rowMajor_val_one, Shape.rowMajor_val_two]
  show k.val = 0 * 1 + k.val
  omega

/-- Window 11 holds argument 12. -/
theorem x13_of (t : Fin (cfgA m).N) (a j : Fin 128) : (insAt m c t).x13 (ix2 a j) = a12 m c (ix2 a j) := by
  rw [whole11]
  show W m c _ _ = _
  unfold W; after_reads_simp
  rfl

/-- The first layer's scaled weights. -/
theorem x10_of (t : Fin (cfgA m).N) (a j : Fin 128) : (insAt m c t).x10 (ix2 a j) = a10 m c (ix2 (low a) j) * a8 m c (ix1 (low a)) := by
  rw [whole8]
  show W m c _ _ = _
  unfold W; after_reads_simp
  pointwise [low]

/-- The first layer's column sums. -/
theorem x11_of (t : Fin (cfgA m).N) (j : Fin 128) : (insAt m c t).x11 (ix2 0 j)
    = (∑ a, a10 m c (ix2 (low a) j) * a8 m c (ix1 (low a))) + (a8 m c (ix1 ⟨128, by decide⟩) * a10 m c (ix2 ⟨128, by decide⟩ j) + a8 m c (ix1 ⟨129, by decide⟩) * a10 m c (ix2 ⟨129, by decide⟩ j)) := by
  rw [whole9]
  show W m c _ _ = _
  unfold W; after_reads_simp
  pointwise [low]

/-- The first layer's constant row. -/
theorem x12_of (t : Fin (cfgA m).N) (j : Fin 128) : (insAt m c t).x12 (ix2 0 j)
    = a11 m c (ix1 j) + (∑ a, a9 m c (ix1 (low a)) * a10 m c (ix2 (low a) j)) + a9 m c (ix1 ⟨128, by decide⟩) * a10 m c (ix2 ⟨128, by decide⟩ j) + a9 m c (ix1 ⟨129, by decide⟩) * a10 m c (ix2 ⟨129, by decide⟩ j) := by
  rw [whole10]
  show W m c _ _ = _
  unfold W; after_reads_simp
  pointwise [low]

end Cert.KernelIdeal.Hand
-- ==== Proof.Value.Window.lean ====
module

public import proofs.«01_k».proof.Proof.KernelIdeal.Kit
public import proofs.«01_k».proof.Proof.KernelIdeal.Point
public import Idealize.ShloMosaic.Lib.Pointwise
public import Idealize.ShloMosaic.Lib.SortNet.Extract

/-! Where the table calls a block's window wide enough, the window holds every graph of the block. -/

@[expose] public section

set_option maxRecDepth 16384
set_option Elab.async false

noncomputable section

namespace Cert.KernelIdeal.Hand

open Cert.KernelIdeal Cert.KernelIdeal.Gen
open Idealize.ShloMosaic

/-- A running minimum is at most where it starts and at most everything it meets. -/
theorem fold_min {ι : Type} (f : ι → BitVec 32) (l : List ι) (x : BitVec 32) :
    (l.foldl (fun r i => IntOp.minsi r (f i)) x).toInt ≤ x.toInt ∧ ∀ i ∈ l, (l.foldl (fun r i => IntOp.minsi r (f i)) x).toInt ≤ (f i).toInt := by
  induction l generalizing x with
  | nil => exact ⟨le_refl _, fun i h => absurd h (List.not_mem_nil)⟩
  | cons a l ih =>
    obtain ⟨h1, h2⟩ := ih (IntOp.minsi x (f a))
    rw [SortNet.toInt_minsi] at h1
    rw [List.foldl_cons]
    refine ⟨h1.trans (min_le_left _ _), fun i hi => ?_⟩
    rcases List.mem_cons.mp hi with rfl | hi
    · exact h1.trans (min_le_right _ _)
    · exact h2 i hi

/-- A running maximum is at least where it starts and at least everything it meets. -/
theorem fold_max {ι : Type} (f : ι → BitVec 32) (l : List ι) (x : BitVec 32) :
    x.toInt ≤ (l.foldl (fun r i => IntOp.maxsi r (f i)) x).toInt ∧ ∀ i ∈ l, (f i).toInt ≤ (l.foldl (fun r i => IntOp.maxsi r (f i)) x).toInt := by
  induction l generalizing x with
  | nil => exact ⟨le_refl _, fun i h => absurd h (List.not_mem_nil)⟩
  | cons a l ih =>
    obtain ⟨h1, h2⟩ := ih (IntOp.maxsi x (f a))
    rw [SortNet.toInt_maxsi] at h1
    rw [List.foldl_cons]
    refine ⟨(le_max_left _ _).trans h1, fun i hi => ?_⟩
    rcases List.mem_cons.mp hi with rfl | hi
    · exact (le_max_right _ _).trans h1
    · exact h2 i hi

/-- An edge of a block lies in the row that the block's minimum and maximum run over. -/
theorem drop_row (b : Fin 20) (k : Fin 8000) : reducesTo_S20x8000_S20_d1.drop (ix2 b k) = ix1 b := by
  funext a
  match a with
  | ⟨0, _⟩ => rfl

/-- A block's ids. -/
theorem ids_row (ids : S160000.Idx → Elt Ideal .i32) (b : Fin 20) (k : Fin 8000) (h : b.val * 8000 + k.val < 160000) :
    shapeCast S20x8000 ids shapeCasts_S160000_S20x8000 (ix2 b k) = ids (ix1 ⟨b.val * 8000 + k.val, h⟩) := by
  refine shapeCast_apply _ _ _ _ ?_
  rw [Shape.rowMajor_val_one, Shape.rowMajor_val_two]
  rfl

/-- Every edge of a block is listed in the row of the block. -/
theorem mem_row (b : Fin 20) (k : Fin 8000) :
    (ix2 b k : S20x8000.Idx) ∈ ((List.finRange S20x8000.numel).map S20x8000.rowMajor.symm).filter fun i => reducesTo_S20x8000_S20_d1.drop i = ix1 b := by
  rw [List.mem_filter]
  refine ⟨List.mem_map.mpr ⟨S20x8000.rowMajor (ix2 b k), List.mem_finRange _, Equiv.symm_apply_apply _ _⟩, ?_⟩
  simpa using drop_row b k

/-- A block's least id is at most every id of it. -/
theorem min_le (ids : S160000.Idx → Elt Ideal .i32) (b : Fin 20) (k : Fin 8000) (h : b.val * 8000 + k.val < 160000) :
    BitVec.toInt (minOf ids (ix1 b)) ≤ BitVec.toInt (ids (ix1 ⟨b.val * 8000 + k.val, h⟩)) := by
  rw [← ids_row ids b k h]
  unfold minOf
  rw [Host.reduce_eq_foldl]
  exact (fold_min _ _ _).2 _ (mem_row b k)

/-- A block's greatest id is at least every id of it. -/
theorem le_max' (ids : S160000.Idx → Elt Ideal .i32) (b : Fin 20) (k : Fin 8000) (h : b.val * 8000 + k.val < 160000) :
    BitVec.toInt (ids (ix1 ⟨b.val * 8000 + k.val, h⟩)) ≤ BitVec.toInt (maxOf ids (ix1 b)) := by
  rw [← ids_row ids b k h]
  unfold maxOf
  rw [Host.reduce_eq_foldl]
  exact (fold_max _ _ _).2 _ (mem_row b k)

/-- The sign of a word. -/
def sgnW (x : BitVec 32) : BitVec 32 := if x = 0 then 0 else if x.msb then -1 else 1

/-- An eighth of a word, rounded down, as the table computes it. -/
def eighthW (x : BitVec 32) : BitVec 32 :=
  if sgnW x ≠ 1#32 ∧ x.srem 8#32 ≠ 0#32 then x.sdiv 8#32 - 1#32 else x.sdiv 8#32

/-- Eight times the eighth is at most the word, or not positive. -/
theorem eighthW_le (x : BitVec 32) : BitVec.toInt (eighthW x * 8#32) ≤ max 0 x.toInt := by
  have hx := BitVec.toInt_lt (x := x)
  have hx' := BitVec.le_toInt (x := x)
  have e8 : (8#32 : BitVec 32).toInt = 8 := by decide
  have e1 : (1#32 : BitVec 32).toInt = 1 := by decide
  have hd : (x.sdiv 8#32).toInt = x.toInt.tdiv 8 := by
    rw [BitVec.toInt_sdiv_of_ne_or_ne _ _ (Or.inr (by decide)), e8]
  have hr : (x.srem 8#32).toInt = x.toInt.tmod 8 := by rw [BitVec.toInt_srem, e8]
  have hm : x.toInt.tmod 8 = x.toInt - 8 * x.toInt.tdiv 8 := Int.tmod_def _ _
  unfold eighthW
  by_cases h0 : 0 ≤ x.toInt
  · have hq : x.toInt.tdiv 8 = x.toInt / 8 := Int.tdiv_eq_ediv_of_nonneg h0
    have hmsb : x.msb = false := by rw [BitVec.msb_eq_toInt]; simpa using h0
    rw [if_neg]
    · rw [BitVec.toInt_mul, hd, e8, hq, Int.bmod_def]
      omega
    · rintro ⟨ha, hb⟩
      by_cases hz : x = 0
      · subst hz; exact hb (by decide)
      · unfold sgnW at ha; rw [if_neg hz, hmsb] at ha; exact ha rfl
  · have hq : x.toInt.tdiv 8 = -((-x.toInt) / 8) := by
      rw [← Int.tdiv_eq_ediv_of_nonneg (by omega), Int.neg_tdiv, neg_neg]
    split
    · rename_i h
      have hz : x.toInt.tmod 8 ≠ 0 := by
        intro hz; apply h.2; apply BitVec.eq_of_toInt_eq; rw [hr, hz]; rfl
      rw [BitVec.toInt_mul, BitVec.toInt_sub, hd, e8, e1, Int.bmod_def, Int.bmod_def]
      omega
    · rw [BitVec.toInt_mul, hd, e8, Int.bmod_def]
      omega

/-- A choice on two inequalities of words. -/
theorem pick (s r a c : BitVec 32) : Scalar.select (IntOp.andi (IntOp.cmpi .ne s 1#32) (IntOp.cmpi .ne r 0#32)) a c = if s ≠ 1#32 ∧ r ≠ 0#32 then a else c := by
  by_cases h1 : s = 1#32
  · subst h1; rw [if_neg (by simp)]
    by_cases h2 : r = 0#32
    · subst h2; rfl
    · have e : IntOp.cmpi .ne r 0#32 = 1#1 := by
        show BitVec.ofBool (r != 0#32) = 1#1
        rw [show (r != 0#32) = true from bne_iff_ne.mpr h2]; rfl
      rw [e]; rfl
  · have e1 : IntOp.cmpi .ne s 1#32 = 1#1 := by
      show BitVec.ofBool (s != 1#32) = 1#1
      rw [show (s != 1#32) = true from bne_iff_ne.mpr h1]; rfl
    rw [e1]
    by_cases h2 : r = 0#32
    · subst h2; rw [if_neg (by simp)]; rfl
    · have e : IntOp.cmpi .ne r 0#32 = 1#1 := by
        show BitVec.ofBool (r != 0#32) = 1#1
        rw [show (r != 0#32) = true from bne_iff_ne.mpr h2]; rfl
      rw [e, if_pos ⟨h1, h2⟩]; rfl

/-- The table's eighths, word by word. -/
theorem eighth_apply (x : S20.Idx → Elt Ideal .i32) (b : Fin 20) : eighth x (ix1 b) = eighthW (x (ix1 b)) := by
  have hd : IntOp.divsi .host (x (ix1 b)) 8#32 = BitVec.sdiv (x (ix1 b)) 8#32 := by
    unfold IntOp.divsi; rw [if_neg]; rintro (h | h)
    · exact absurd h (by decide)
    · exact absurd h.2 (by decide)
  have hr : IntOp.remsi .host (x (ix1 b)) 8#32 = BitVec.srem (x (ix1 b)) 8#32 := by
    unfold IntOp.remsi; rw [if_neg]; rintro (h | h)
    · exact absurd h (by decide)
    · exact absurd h.2 (by decide)
  have e : eighth x (ix1 b) = Scalar.select (IntOp.andi (IntOp.cmpi .ne (sgnW (x (ix1 b))) 1#32) (IntOp.cmpi .ne (IntOp.remsi .host (x (ix1 b)) 8#32) 0#32))
      (IntOp.divsi .host (x (ix1 b)) 8#32 - 1#32) (IntOp.divsi .host (x (ix1 b)) 8#32) := by
    have hs : signi (constantI S_ 32 8#32) = constantI S_ 32 1#32 := by funext i; show (if (8#32 : BitVec 32) = 0 then (0 : BitVec 32) else if (8#32 : BitVec 32).msb then -1 else 1) = 1#32; decide
    unfold eighth
    rw [hs]
    pointwise [all20, sgnW]
    rfl
  rw [e, hd, hr, pick]
  rfl

/-- The window's start. -/
theorem lo_toInt (ids : S160000.Idx → Elt Ideal .i32) (b : Fin 20) :
    BitVec.toInt (loOf ids (ix1 b)) = min 448 (max 0 (BitVec.toInt (eighthW (minOf ids (ix1 b)) * 8#32))) := by
  rw [← eighth_apply]
  show BitVec.toInt (IntOp.minsi (448#32) (IntOp.maxsi (0#32) (eighth (minOf ids) (ix1 b) * 8#32))) = _
  rw [SortNet.toInt_minsi, SortNet.toInt_maxsi]
  rfl

/-- Where the window is not called too narrow, it reaches past the greatest id. -/
theorem not_wide (ids : S160000.Idx → Elt Ideal .i32) (b : Fin 20) (h : ¬ isWide (wideOf ids (ix1 b))) :
    BitVec.toInt (maxOf ids (ix1 b) - loOf ids (ix1 b)) < 64 := by
  by_contra hc
  apply h
  have e : wideOf ids (ix1 b) = 1#32 := by
    show (IntOp.cmpi .sge (maxOf ids (ix1 b) - loOf ids (ix1 b)) 64#32).setWidth 32 = 1#32
    have : IntOp.cmpi .sge (maxOf ids (ix1 b) - loOf ids (ix1 b)) 64#32 = 1#1 := by
      show BitVec.ofBool (BitVec.sle 64#32 (maxOf ids (ix1 b) - loOf ids (ix1 b))) = 1#1
      have e : BitVec.sle 64#32 (maxOf ids (ix1 b) - loOf ids (ix1 b)) = true := by
        rw [BitVec.sle_eq_decide, decide_eq_true_eq]
        exact not_lt.mp hc
      rw [e]; rfl
    rw [this]; rfl
  rw [e]; decide

/-- A block that is run in its window has all its graphs there. -/
theorem window (ids : S160000.Idx → Elt Ideal .i32) (b : Fin 20) (k : Fin 8000) (h : b.val * 8000 + k.val < 160000) (g : Fin 512)
    (hw : ¬ isWide (wideOf ids (ix1 b))) (hg : ids (ix1 ⟨b.val * 8000 + k.val, h⟩) = BitVec.ofNat 32 g.val) :
    (loOf ids (ix1 b)).toNat ≤ g.val ∧ g.val < (loOf ids (ix1 b)).toNat + 64 := by
  have hgl := g.isLt
  have e : BitVec.toInt (ids (ix1 ⟨b.val * 8000 + k.val, h⟩)) = g.val := by
    rw [hg, BitVec.toInt_eq_toNat_of_lt (by rw [BitVec.toNat_ofNat]; omega), BitVec.toNat_ofNat]; omega
  have h1 := min_le ids b k h
  have h2 := le_max' ids b k h
  have h3 := eighthW_le (minOf ids (ix1 b))
  have h4 := lo_toInt ids b
  have h5 := not_wide ids b hw
  have h6 := BitVec.toInt_lt (x := maxOf ids (ix1 b))
  rw [e] at h1 h2
  rw [BitVec.toInt_sub, Int.bmod_def] at h5
  have h7 := lo_le ids (ix1 b)
  have h8 : BitVec.toInt (loOf ids (ix1 b)) = ((loOf ids (ix1 b)).toNat : ℤ) := by
    rw [BitVec.toInt_eq_toNat_cond]; split <;> omega
  omega

end Cert.KernelIdeal.Hand
-- ==== Proof.Value.Stop.lean ====
module

public import proofs.«01_k».proof.Proof.Value.Pay
public import Idealize.ShloMosaic.Lib.Pointwise

/-! The stop head of the last point, and the empty sums of the first. -/

@[expose] public section

set_option maxRecDepth 16384
set_option Elab.async false

noncomputable section

namespace Cert.KernelIdeal.Hand

open Cert.KernelIdeal Cert.KernelIdeal.Gen Cert.Value
open Idealize.ShloMosaic

/-- The sums start empty. -/
theorem pay16_apply (j : S512x128.Idx) : k0_pay16 (F := Ideal) j = (0 : EReal) := by
  obtain ⟨a, b, rfl⟩ : ∃ a b, j = ix2 a b := ⟨_, _, eq_ix2 j⟩
  pointwise [k0_pay16]

/-- The counts start empty. -/
theorem pay17_apply (j : S512x1.Idx) : k0_pay17 (F := Ideal) j = (0 : EReal) := by
  obtain ⟨a, b, rfl⟩ : ∃ a b, j = ix2 a b := ⟨_, _, eq_ix2 j⟩
  pointwise [k0_pay17]

/-- The stop head's row: the current state, then the question. -/
theorem pay12_apply (q : S512x128.Idx → Elt Ideal .f32) (cnt : S512x1.Idx → Elt Ideal .f32) (acc : S512x128.Idx → Elt Ideal .f32) (g b : S1x128.Idx → Elt Ideal .f32)
    (r : Fin 512) (a : Fin 256) :
    k0_pay12 (F := Ideal) q cnt acc g b (ix2 r a) = if h : a.val < 128 then k0_pay11 (F := Ideal) q cnt acc g b (ix2 r ⟨a.val, h⟩) else q (ix2 r ⟨a.val - 128, by have := a.isLt; omega⟩) := by
  unfold k0_pay12
  generalize k0_pay11 (F := Ideal) q cnt acc g b = u
  pointwise

/-- The stop logits. -/
theorem pay14_apply (u : S512x256.Idx → Elt Ideal .f32) (g b : S1x256.Idx → Elt Ideal .f32) (w : S256x128.Idx → Elt Ideal .f32) (c : S1x128.Idx → Elt Ideal .f32)
    (w2 : S128x1.Idx → Elt Ideal .f32) (b2 : S1x1.Idx → Elt Ideal .f32) (r : Fin 512) :
    k0_pay1 (F := Ideal) (k0_pay14 (F := Ideal) u (k0_pay13 (F := Ideal) g) b w c w2) b2 (ix2 r 0)
      = (∑ k : Fin 128, gelu ((∑ a : Fin 256, lnK (Ideal.ofBits .f32 0x43800000#32) (fun k => u (ix2 r k)) (fun k => g (ix2 0 k)) (fun k => b (ix2 0 k)) a * w (ix2 a k)) + c (ix2 0 k)) * w2 (ix2 k 0)) + b2 (ix2 0 0) := by
  pointwise [k0_pay1, k0_pay14, k0_pay13, gelu, lnK, spread, mean]
  rfl

end Cert.KernelIdeal.Hand
-- ==== Proof.Value.Ref.lean ====
module

public import proofs.«01_k».proof.Proof.Gen.ReferenceIdeal.Read
public import proofs.«01_k».proof.Proof.Value.Row
public import Idealize.ShloMosaic.Lib.Pointwise

@[expose] public section

set_option maxRecDepth 16384
set_option Elab.async false

noncomputable section

namespace Cert.ReferenceIdeal.Hand

open Cert.ReferenceIdeal Cert.ReferenceIdeal.Gen Cert.ReferenceIdeal.Read Cert.Value
open Idealize.ShloMosaic

variable (x0 : (⟨S160000x128, .f32⟩ : BufTy).Contents (Elt Ideal))
variable (x1 : (⟨S512x128, .f32⟩ : BufTy).Contents (Elt Ideal))
variable (x2 : (⟨S160000, .i32⟩ : BufTy).Contents (Elt Ideal))
variable (x3 : (⟨S160000, .i1⟩ : BufTy).Contents (Elt Ideal))
variable (x4 : (⟨S128, .f32⟩ : BufTy).Contents (Elt Ideal))
variable (x5 : (⟨S128, .f32⟩ : BufTy).Contents (Elt Ideal))
variable (x6 : (⟨S128x128, .f32⟩ : BufTy).Contents (Elt Ideal))
variable (x7 : (⟨S128, .f32⟩ : BufTy).Contents (Elt Ideal))
variable (x8 : (⟨S130, .f32⟩ : BufTy).Contents (Elt Ideal))
variable (x9 : (⟨S130, .f32⟩ : BufTy).Contents (Elt Ideal))
variable (x10 : (⟨S130x128, .f32⟩ : BufTy).Contents (Elt Ideal))
variable (x11 : (⟨S128, .f32⟩ : BufTy).Contents (Elt Ideal))
variable (x12 : (⟨S128x128, .f32⟩ : BufTy).Contents (Elt Ideal))
variable (x13 : (⟨S128, .f32⟩ : BufTy).Contents (Elt Ideal))
variable (x14 : (⟨S128, .f32⟩ : BufTy).Contents (Elt Ideal))
variable (x15 : (⟨S128, .f32⟩ : BufTy).Contents (Elt Ideal))
variable (x16 : (⟨S256, .f32⟩ : BufTy).Contents (Elt Ideal))
variable (x17 : (⟨S256, .f32⟩ : BufTy).Contents (Elt Ideal))
variable (x18 : (⟨S256x128, .f32⟩ : BufTy).Contents (Elt Ideal))
variable (x19 : (⟨S128, .f32⟩ : BufTy).Contents (Elt Ideal))
variable (x20 : (⟨S128x1, .f32⟩ : BufTy).Contents (Elt Ideal))
variable (x21 : (⟨S1, .f32⟩ : BufTy).Contents (Elt Ideal))
variable (x22 : (⟨S256, .f32⟩ : BufTy).Contents (Elt Ideal))
variable (x23 : (⟨S256, .f32⟩ : BufTy).Contents (Elt Ideal))
variable (x24 : (⟨S256x128, .f32⟩ : BufTy).Contents (Elt Ideal))
variable (x25 : (⟨S128, .f32⟩ : BufTy).Contents (Elt Ideal))
variable (x26 : (⟨S128x1, .f32⟩ : BufTy).Contents (Elt Ideal))
variable (x27 : (⟨S1, .f32⟩ : BufTy).Contents (Elt Ideal))

/-- Each edge's gathered question row, normalised. -/
theorem v30_apply (e : Fin 160000) (f : Fin 128) :
    (val_main_v30 (F := Ideal) x1 x2 x4 x5) (ix2 e f) = lnK (Ideal.ofBits .f32 0x43000000#32) (fun k => (val_main_v6 (F := Ideal) x1 x2) (ix2 e k)) (fun k => x4 (ix1 k)) (fun k => x5 (ix1 k)) f := by
  rw [lit_128, ← lnR_eq 128 (by norm_num), ← lit_128]
  pointwise [val_main_cst, val_main_v7, val_main_v8, val_main_cst_1, val_main_v9, val_main_v10, val_main_v11, val_main_v12, val_main_v13, val_main_cst_2, val_main_v14, val_main_v15, val_main_cst_3, val_main_v16, val_main_v17, val_main_v18, val_main_v19, val_main_cst_4, val_main_v20, val_main_v21, val_main_v22, val_main_v23, val_main_v24, val_main_v25, val_main_v26, val_main_v27, val_main_v28, val_main_v29, val_main_v30, lnR, spread, mean]

/-- Each edge's tokens with its projected question. -/
theorem v43_apply (e : Fin 160000) (f : Fin 128) :
    (val_main_v43 (F := Ideal) x0 x1 x2 x4 x5 x6 x7) (ix2 e f) = x0 (ix2 e f) + qrow (fun k => (val_main_v6 (F := Ideal) x1 x2) (ix2 e k)) (fun k => x4 (ix1 k)) (fun k => x5 (ix1 k)) (fun a j => x6 (ix2 a j)) (fun k => x7 (ix1 k)) f := by
  simp only [qrow, ← v30_apply]
  pointwise [val_main_v31, val_main_v32, val_main_v33, val_main_v34, val_main_cst_5, val_main_v35, val_main_v36, val_main_cst_6, val_main_v37, val_main_v38, val_main_v39, val_main_cst_7, val_main_v40, val_main_v41, val_main_v42, val_main_v43, gelu]

/-- Each edge's first layer: the widened row normalised, then the linear map. -/
theorem v78_apply (e : Fin 160000) (j : Fin 128) :
    (val_main_v78 (F := Ideal) x0 x1 x2 x3 x4 x5 x6 x7 x8 x9 x10 x11) (ix2 e j) = (∑ k : Fin 130, lnR (Ideal.ofBits .f32 0x43020000#32) (fun k => (val_main_v50 (F := Ideal) x0 x1 x2 x3 x4 x5 x6 x7) (ix2 e k)) (fun k => x8 (ix1 k)) (fun k => x9 (ix1 k)) k * x10 (ix2 k j)) + x11 (ix1 j) := by
  pointwise [val_main_cst_9, val_main_v51, val_main_v52, val_main_cst_10, val_main_v53, val_main_v54, val_main_v55, val_main_v56, val_main_v57, val_main_cst_11, val_main_v58, val_main_v59, val_main_cst_12, val_main_v60, val_main_v61, val_main_v62, val_main_v63, val_main_cst_13, val_main_v64, val_main_v65, val_main_v66, val_main_v67, val_main_v68, val_main_v69, val_main_v70, val_main_v71, val_main_v72, val_main_v73, val_main_v74, val_main_v75, val_main_v76, val_main_v77, val_main_v78, lnR, spread, mean]

/-- Each edge's second layer. -/
theorem v98_apply (e : Fin 160000) (d : Fin 128) :
    (val_main_v98 (F := Ideal) x0 x1 x2 x3 x4 x5 x6 x7 x8 x9 x10 x11 x12 x13) (ix2 e d) = edgeTop (fun j => (val_main_v78 (F := Ideal) x0 x1 x2 x3 x4 x5 x6 x7 x8 x9 x10 x11) (ix2 e j)) (fun a j => x12 (ix2 a j)) (fun k => x13 (ix1 k)) d := by
  pointwise [val_main_cst_14, val_main_v79, val_main_v80, val_main_cst_15, val_main_v81, val_main_v82, val_main_v83, val_main_cst_16, val_main_v84, val_main_v85, val_main_v86, val_main_v87, val_main_v88, val_main_v89, val_main_v90, val_main_cst_17, val_main_v91, val_main_v92, val_main_cst_18, val_main_v93, val_main_v94, val_main_v95, val_main_cst_19, val_main_v96, val_main_v97, val_main_v98, edgeTop, gelu]

/-- The current state from the sums and counts. -/
theorem v139_apply (r : Fin 512) (f : Fin 128) :
    (val_main_v139 (F := Ideal) x0 x1 x2 x3 x4 x5 x6 x7 x8 x9 x10 x11 x12 x13 x14 x15) (ix2 r f) = lnK (Ideal.ofBits .f32 0x43000000#32) (fun k => Ideal.div ((val_main_v105 (F := Ideal) x0 x1 x2 x3 x4 x5 x6 x7 x8 x9 x10 x11 x12 x13) (ix2 r k)) (max ((val_main_v109 (F := Ideal) x2 x3) (ix1 r)) 1) + x1 (ix2 r k)) (fun k => x14 (ix1 k)) (fun k => x15 (ix1 k)) f := by
  rw [lit_128, ← lnR_eq 128 (by norm_num), ← lit_128]
  pointwise [val_main_cst_22, val_main_v110, val_main_v111, val_main_v112, val_main_v113, val_main_v114, val_main_v115, val_main_cst_23, val_main_v116, val_main_v117, val_main_cst_24, val_main_v118, val_main_v119, val_main_v120, val_main_v121, val_main_v122, val_main_cst_25, val_main_v123, val_main_v124, val_main_cst_26, val_main_v125, val_main_v126, val_main_v127, val_main_v128, val_main_cst_27, val_main_v129, val_main_v130, val_main_v131, val_main_v132, val_main_v133, val_main_v134, val_main_v135, val_main_v136, val_main_v137, val_main_v138, val_main_v139, lnR, spread, mean]

/-- The stop head's normalised row. -/
theorem v261_apply (r : Fin 512) (f : Fin 256) :
    (val_main_v261 (F := Ideal) x0 x1 x2 x3 x4 x5 x6 x7 x8 x9 x10 x11 x12 x13 x14 x15 x22 x23) (ix2 r f) = lnK (Ideal.ofBits .f32 0x43800000#32) (fun k => (val_main_v237 (F := Ideal) x0 x1 x2 x3 x4 x5 x6 x7 x8 x9 x10 x11 x12 x13 x14 x15) (ix2 r k)) (fun k => x22 (ix1 k)) (fun k => x23 (ix1 k)) f := by
  rw [lit_256, ← lnR_eq 256 (by norm_num), ← lit_256]
  pointwise [val_main_cst_49, val_main_v238, val_main_v239, val_main_cst_50, val_main_v240, val_main_v241, val_main_v242, val_main_v243, val_main_v244, val_main_cst_51, val_main_v245, val_main_v246, val_main_cst_52, val_main_v247, val_main_v248, val_main_v249, val_main_v250, val_main_cst_53, val_main_v251, val_main_v252, val_main_v253, val_main_v254, val_main_v255, val_main_v256, val_main_v257, val_main_v258, val_main_v259, val_main_v260, val_main_v261, lnR, spread, mean]

/-- The stop logits. -/
theorem v277_apply (r : Fin 512) :
    (val_main_v277 (F := Ideal) x0 x1 x2 x3 x4 x5 x6 x7 x8 x9 x10 x11 x12 x13 x14 x15 x22 x23 x24 x25 x26 x27) (ix2 r 0) = (∑ k : Fin 128, gelu ((∑ a : Fin 256, (val_main_v261 (F := Ideal) x0 x1 x2 x3 x4 x5 x6 x7 x8 x9 x10 x11 x12 x13 x14 x15 x22 x23) (ix2 r a) * x24 (ix2 a k)) + x25 (ix1 k)) * x26 (ix2 k 0)) + x27 (ix1 0) := by
  pointwise [val_main_v262, val_main_v263, val_main_v264, val_main_v265, val_main_cst_54, val_main_v266, val_main_v267, val_main_cst_55, val_main_v268, val_main_v269, val_main_v270, val_main_cst_56, val_main_v271, val_main_v272, val_main_v273, val_main_v274, val_main_v275, val_main_v276, val_main_v277, gelu]

end Cert.ReferenceIdeal.Hand
-- ==== Proof.Value.RefSum.lean ====
module

public import proofs.«01_k».proof.Proof.Value.Ref

@[expose] public section

set_option maxRecDepth 16384
set_option Elab.async false

noncomputable section

namespace Cert.ReferenceIdeal.Hand

open Cert.ReferenceIdeal Cert.ReferenceIdeal.Gen Cert.ReferenceIdeal.Read Cert.Value
open Idealize.ShloMosaic

/-- The word of a graph number, read signed, is the number. -/
theorem toInt_small (g : ℕ) (hg : g < 512) : (BitVec.ofNat 32 g).toInt = (g : ℤ) := by
  rw [BitVec.toInt_eq_toNat_of_lt (by rw [BitVec.toNat_ofNat]; omega), BitVec.toNat_ofNat]
  congr 1; omega

/-- A word read signed as a graph number is that number's word. -/
theorem eq_small (w : BitVec 32) (g : ℕ) (hg : g < 512) (h : w.toInt = (g : ℤ)) : w = BitVec.ofNat 32 g :=
  BitVec.eq_of_toInt_eq (h.trans (toInt_small g hg).symm)

/-- The start index of an edge in a graph is the graph. -/
theorem v5_of (x2 : (⟨S160000, .i32⟩ : BufTy).Contents (Elt Ideal)) (e : Fin 160000) (g : Fin 512) (h : x2 (ix1 e) = BitVec.ofNat 32 g.val) :
    val_main_v5 (F := Ideal) x2 (ix2 e 0) = BitVec.ofNat 32 g.val := by
  have hi : idx_main_v5 (ix2 e 0 : S160000x1.Idx) = ix1 e := by
    funext a; match a with | ⟨0, _⟩ => rfl
  rw [val_main_v5_apply, hi, val_main_v4_apply, val_main_v1_apply, val_main_v0_apply, val_main_c_apply, h]
  have hs : IntOp.cmpi .slt (BitVec.ofNat 32 g.val) 0#32 = 0#1 := by
    have h0 : (BitVec.ofNat 32 g.val).slt 0#32 = false := by
      rw [BitVec.slt, toInt_small g.val g.isLt]; simp
    show BitVec.ofBool ((BitVec.ofNat 32 g.val).slt 0#32) = 0#1
    rw [h0]; rfl
  rw [hs]; rfl

/-- The gathered question row of an edge in a graph is the graph's. -/
theorem v6_of (x1 : (⟨S512x128, .f32⟩ : BufTy).Contents (Elt Ideal)) (x2 : (⟨S160000, .i32⟩ : BufTy).Contents (Elt Ideal)) (e : Fin 160000) (g : Fin 512)
    (h : x2 (ix1 e) = BitVec.ofNat 32 g.val) (k : Fin 128) : val_main_v6 (F := Ideal) x1 x2 (ix2 e k) = x1 (ix2 g k) := by
  have hg := g.isLt
  have hs0 : gather_S512x128_S160000x1_S160000x128_1_0_n_n_0_1_1128.start (ix2 e k) (val_main_v5 (F := Ideal) x2) 0 = g.val := by
    unfold GatherDims.start
    rw [dif_pos (show (0 : Fin 2) ∈ gather_S512x128_S160000x1_S160000x128_1_0_n_n_0_1_1128.startIndexMap from List.mem_singleton.mpr rfl)]
    have hsi : gather_S512x128_S160000x1_S160000x128_1_0_n_n_0_1_1128.siIdx (ix2 e k)
        ⟨List.idxOf (0 : Fin 2) gather_S512x128_S160000x1_S160000x128_1_0_n_n_0_1_1128.startIndexMap, List.idxOf_lt_length_iff.2 (List.mem_singleton.mpr rfl)⟩ = ix2 e 0 := by
      funext b; refine Fin.ext ?_
      match b with
      | ⟨0, _⟩ => rfl
      | ⟨1, _⟩ => rfl
    rw [hsi, v5_of x2 e g h, toInt_small _ hg]
    show min g.val (512 - 1) = g.val
    omega
  have hs1 : gather_S512x128_S160000x1_S160000x128_1_0_n_n_0_1_1128.start (ix2 e k) (val_main_v5 (F := Ideal) x2) 1 = 0 := by
    unfold GatherDims.start
    rw [dif_neg (show ¬((1 : Fin 2) ∈ gather_S512x128_S160000x1_S160000x128_1_0_n_n_0_1_1128.startIndexMap) by decide)]
  have ho0 : gather_S512x128_S160000x1_S160000x128_1_0_n_n_0_1_1128.offCoord (ix2 e k) 0 = 0 := rfl
  have ho1 : gather_S512x128_S160000x1_S160000x128_1_0_n_n_0_1_1128.offCoord (ix2 e k) 1 = k.val := rfl
  unfold val_main_v6 Host.gather
  congr 1
  funext a
  refine Fin.ext ?_
  show gather_S512x128_S160000x1_S160000x128_1_0_n_n_0_1_1128.start _ _ a + gather_S512x128_S160000x1_S160000x128_1_0_n_n_0_1_1128.batchCoord _ a + gather_S512x128_S160000x1_S160000x128_1_0_n_n_0_1_1128.offCoord _ a = _
  rw [GatherDims.batchCoord_eq_zero _ _ _ List.not_mem_nil]
  match a with
  | ⟨0, _⟩ =>
    show gather_S512x128_S160000x1_S160000x128_1_0_n_n_0_1_1128.start (ix2 e k) (val_main_v5 (F := Ideal) x2) 0 + 0 + gather_S512x128_S160000x1_S160000x128_1_0_n_n_0_1_1128.offCoord (ix2 e k) 0 = g.val
    rw [hs0, ho0]; omega
  | ⟨1, _⟩ =>
    show gather_S512x128_S160000x1_S160000x128_1_0_n_n_0_1_1128.start (ix2 e k) (val_main_v5 (F := Ideal) x2) 1 + 0 + gather_S512x128_S160000x1_S160000x128_1_0_n_n_0_1_1128.offCoord (ix2 e k) 1 = k.val
    rw [hs1, ho1]; omega

/-- Where an edge's row lands: its graph's row, if the id is in range. -/
theorem lands (idx : IVec S160000x1 32) (j : S160000x128.Idx) (g : Fin 512) (d : Fin 128) :
    scatter_S512x128_S160000x1_S160000x128_1_0_0_1.resultIdx? j idx = some (ix2 g d) ↔ (idx (ix2 (j 0) 0) = BitVec.ofNat 32 g.val ∧ j 1 = d) := by
  have hg := g.isLt
  have hs0 : scatter_S512x128_S160000x1_S160000x128_1_0_0_1.start j idx 0 = (idx (ix2 (j 0) 0)).toInt := by
    unfold ScatterDims.start
    rw [dif_pos (show (0 : Fin 2) ∈ scatter_S512x128_S160000x1_S160000x128_1_0_0_1.scatterDimsToOperandDims from List.mem_singleton.mpr rfl)]
    congr 2
    funext b; refine Fin.ext ?_
    match b with
    | ⟨0, _⟩ => rfl
    | ⟨1, _⟩ => rfl
  have hs1 : scatter_S512x128_S160000x1_S160000x128_1_0_0_1.start j idx 1 = 0 := by
    unfold ScatterDims.start
    rw [dif_neg (show ¬((1 : Fin 2) ∈ scatter_S512x128_S160000x1_S160000x128_1_0_0_1.scatterDimsToOperandDims) by decide)]
  have hw0 : scatter_S512x128_S160000x1_S160000x128_1_0_0_1.window j 0 = 0 := rfl
  have hw1 : scatter_S512x128_S160000x1_S160000x128_1_0_0_1.window j 1 = (j 1).val := rfl
  have hj1 : (j 1).val < 128 := (j 1).isLt
  unfold ScatterDims.resultIdx?
  constructor
  · intro h
    split at h
    · rename_i hall
      have h0 := hall 0
      rw [hs0, hw0] at h0
      have e := Option.some.inj h
      have e0 := congrArg Fin.val (congrFun e 0)
      have e1 := congrArg Fin.val (congrFun e 1)
      change (scatter_S512x128_S160000x1_S160000x128_1_0_0_1.start j idx 0 + ((scatter_S512x128_S160000x1_S160000x128_1_0_0_1.window j 0 : ℕ) : ℤ)).toNat = g.val at e0
      change (scatter_S512x128_S160000x1_S160000x128_1_0_0_1.start j idx 1 + ((scatter_S512x128_S160000x1_S160000x128_1_0_0_1.window j 1 : ℕ) : ℤ)).toNat = d.val at e1
      rw [hs0, hw0] at e0
      rw [hs1, hw1] at e1
      exact ⟨eq_small _ _ hg (by omega), Fin.ext (by omega)⟩
    · cases h
  · rintro ⟨h, hd⟩
    have hi : (idx (ix2 (j 0) 0)).toInt = (g.val : ℤ) := by rw [h]; exact toInt_small _ hg
    have hall : ∀ a, 0 ≤ scatter_S512x128_S160000x1_S160000x128_1_0_0_1.start j idx a + scatter_S512x128_S160000x1_S160000x128_1_0_0_1.window j a
        ∧ scatter_S512x128_S160000x1_S160000x128_1_0_0_1.start j idx a + scatter_S512x128_S160000x1_S160000x128_1_0_0_1.window j a < S512x128.size a := fun a => by
      match a with
      | ⟨0, _⟩ =>
        show 0 ≤ scatter_S512x128_S160000x1_S160000x128_1_0_0_1.start j idx 0 + ((scatter_S512x128_S160000x1_S160000x128_1_0_0_1.window j 0 : ℕ) : ℤ) ∧ scatter_S512x128_S160000x1_S160000x128_1_0_0_1.start j idx 0 + ((scatter_S512x128_S160000x1_S160000x128_1_0_0_1.window j 0 : ℕ) : ℤ) < ((512 : ℕ) : ℤ)
        rw [hs0, hw0, hi]; omega
      | ⟨1, _⟩ =>
        show 0 ≤ scatter_S512x128_S160000x1_S160000x128_1_0_0_1.start j idx 1 + ((scatter_S512x128_S160000x1_S160000x128_1_0_0_1.window j 1 : ℕ) : ℤ) ∧ scatter_S512x128_S160000x1_S160000x128_1_0_0_1.start j idx 1 + ((scatter_S512x128_S160000x1_S160000x128_1_0_0_1.window j 1 : ℕ) : ℤ) < ((128 : ℕ) : ℤ)
        rw [hs1, hw1]; omega
    rw [dif_pos hall]
    congr 1
    funext a; refine Fin.ext ?_
    match a with
    | ⟨0, _⟩ =>
      show (scatter_S512x128_S160000x1_S160000x128_1_0_0_1.start j idx 0 + ((scatter_S512x128_S160000x1_S160000x128_1_0_0_1.window j 0 : ℕ) : ℤ)).toNat = g.val
      rw [hs0, hw0, hi]; omega
    | ⟨1, _⟩ =>
      show (scatter_S512x128_S160000x1_S160000x128_1_0_0_1.start j idx 1 + ((scatter_S512x128_S160000x1_S160000x128_1_0_0_1.window j 1 : ℕ) : ℤ)).toNat = d.val
      rw [hs1, hw1, ← hd]; omega

/-- Where an edge's count lands: its graph, if the id is in range. -/
theorem lands1 (idx : IVec S160000x1 32) (j : S160000.Idx) (g : Fin 512) :
    scatter_S512_S160000x1_S160000_n_0_0_1.resultIdx? j idx = some (ix1 g) ↔ idx (ix2 (j 0) 0) = BitVec.ofNat 32 g.val := by
  have hg := g.isLt
  have hs0 : scatter_S512_S160000x1_S160000_n_0_0_1.start j idx 0 = (idx (ix2 (j 0) 0)).toInt := by
    unfold ScatterDims.start
    rw [dif_pos (show (0 : Fin 1) ∈ scatter_S512_S160000x1_S160000_n_0_0_1.scatterDimsToOperandDims from List.mem_singleton.mpr rfl)]
    congr 2
    funext b; refine Fin.ext ?_
    match b with
    | ⟨0, _⟩ => rfl
    | ⟨1, _⟩ => rfl
  have hw0 : scatter_S512_S160000x1_S160000_n_0_0_1.window j 0 = 0 := rfl
  unfold ScatterDims.resultIdx?
  constructor
  · intro h
    split at h
    · rename_i hall
      have h0 := hall 0
      rw [hs0, hw0] at h0
      have e0 := congrArg Fin.val (congrFun (Option.some.inj h) 0)
      change (scatter_S512_S160000x1_S160000_n_0_0_1.start j idx 0 + ((scatter_S512_S160000x1_S160000_n_0_0_1.window j 0 : ℕ) : ℤ)).toNat = g.val at e0
      rw [hs0, hw0] at e0
      exact eq_small _ _ hg (by omega)
    · cases h
  · intro h
    have hi : (idx (ix2 (j 0) 0)).toInt = (g.val : ℤ) := by rw [h]; exact toInt_small _ hg
    have hall : ∀ a, 0 ≤ scatter_S512_S160000x1_S160000_n_0_0_1.start j idx a + scatter_S512_S160000x1_S160000_n_0_0_1.window j a
        ∧ scatter_S512_S160000x1_S160000_n_0_0_1.start j idx a + scatter_S512_S160000x1_S160000_n_0_0_1.window j a < S512.size a := fun a => by
      match a with
      | ⟨0, _⟩ =>
        show 0 ≤ scatter_S512_S160000x1_S160000_n_0_0_1.start j idx 0 + ((scatter_S512_S160000x1_S160000_n_0_0_1.window j 0 : ℕ) : ℤ) ∧ scatter_S512_S160000x1_S160000_n_0_0_1.start j idx 0 + ((scatter_S512_S160000x1_S160000_n_0_0_1.window j 0 : ℕ) : ℤ) < ((512 : ℕ) : ℤ)
        rw [hs0, hw0, hi]; omega
    rw [dif_pos hall]
    congr 1
    funext a; refine Fin.ext ?_
    match a with
    | ⟨0, _⟩ =>
      show (scatter_S512_S160000x1_S160000_n_0_0_1.start j idx 0 + ((scatter_S512_S160000x1_S160000_n_0_0_1.window j 0 : ℕ) : ℤ)).toNat = g.val
      rw [hs0, hw0, hi]; omega

/-- One where the edge is in the graph. -/
def inE (x2 : (⟨S160000, .i32⟩ : BufTy).Contents (Elt Ideal)) (g : Fin 512) (e : Fin 160000) : EReal := if x2 (ix1 e) = BitVec.ofNat 32 g.val then 1 else 0

/-- One where the edge is selected. -/
def selE (x3 : (⟨S160000, .i1⟩ : BufTy).Contents (Elt Ideal)) (e : Fin 160000) : EReal := FloatOps.uitofp (F := Ideal) .f32 (x3 (ix1 e))

/-- A sum over the edges of a graph as a sum over all edges. -/
theorem sum_inE (x2 : (⟨S160000, .i32⟩ : BufTy).Contents (Elt Ideal)) (g : Fin 512) (f : Fin 160000 → EReal) :
    ∑ e ∈ Finset.univ.filter (fun e => x2 (ix1 e) = BitVec.ofNat 32 g.val), f e = ∑ e, inE x2 g e * f e := by
  rw [Finset.sum_filter]
  refine Finset.sum_congr rfl fun e _ => ?_
  unfold inE
  by_cases h : x2 (ix1 e) = BitVec.ofNat 32 g.val
  · rw [if_pos h, if_pos h, one_mul]
  · rw [if_neg h, if_neg h, zero_mul]

/-- Summing rows by id adds up each graph's edges. -/
theorem scatter_rows (x2 : (⟨S160000, .i32⟩ : BufTy).Contents (Elt Ideal)) (u : (⟨S160000x128, .f32⟩ : BufTy).Contents (Elt Ideal)) (g : Fin 512) (d : Fin 128) :
    Host.scatterAdd (F := Ideal) (φ := .f32) scatter_S512x128_S160000x1_S160000x128_1_0_0_1 (val_main_v103 (F := Ideal)) (val_main_v104 (F := Ideal) x2) u (ix2 g d)
      = ∑ e : Fin 160000, inE x2 g e * u (ix2 e d) := by
  have hz : val_main_v103 (F := Ideal) (ix2 g d) = (0 : EReal) := by pointwise [val_main_v103, val_main_cst_20]
  have hv : ∀ e : Fin 160000, val_main_v104 (F := Ideal) x2 (ix2 e 0) = x2 (ix1 e) := fun e => by
    rw [val_main_v104_apply]; congr 1; funext a; match a with | ⟨0, _⟩ => rfl
  show Ideal.hostScatterAdd _ _ _ _ _ = _
  unfold Ideal.hostScatterAdd
  rw [hz, zero_add, ← sum_inE]
  refine Finset.sum_nbij' (fun j => j 0) (fun e => ix2 e d) ?_ ?_ ?_ ?_ ?_
  · intro j hj
    have h := ((lands _ j g d).1 (Finset.mem_filter.1 hj).2).1
    replace h := (hv _).symm.trans h
    exact Finset.mem_filter.2 ⟨Finset.mem_univ _, h⟩
  · intro e he
    refine Finset.mem_filter.2 ⟨Finset.mem_univ _, (lands _ _ g d).2 ⟨?_, rfl⟩⟩
    exact (hv e).trans (Finset.mem_filter.1 he).2
  · intro j hj
    have h := ((lands _ j g d).1 (Finset.mem_filter.1 hj).2).2
    funext a
    match a with
    | ⟨0, _⟩ => rfl
    | ⟨1, _⟩ => exact h.symm
  · intro e _; rfl
  · intro j hj
    have h := ((lands _ j g d).1 (Finset.mem_filter.1 hj).2).2
    congr 1
    funext a
    match a with
    | ⟨0, _⟩ => rfl
    | ⟨1, _⟩ => exact h

/-- Summing numbers by id adds up each graph's edges. -/
theorem scatter_ones (x2 : (⟨S160000, .i32⟩ : BufTy).Contents (Elt Ideal)) (u : (⟨S160000, .f32⟩ : BufTy).Contents (Elt Ideal)) (g : Fin 512) :
    Host.scatterAdd (F := Ideal) (φ := .f32) scatter_S512_S160000x1_S160000_n_0_0_1 (val_main_v107 (F := Ideal)) (val_main_v108 (F := Ideal) x2) u (ix1 g)
      = ∑ e : Fin 160000, inE x2 g e * u (ix1 e) := by
  have hz : val_main_v107 (F := Ideal) (ix1 g) = (0 : EReal) := by pointwise [val_main_v107, val_main_cst_21]
  have hv : ∀ e : Fin 160000, val_main_v108 (F := Ideal) x2 (ix2 e 0) = x2 (ix1 e) := fun e => by
    rw [val_main_v108_apply]; congr 1; funext a; match a with | ⟨0, _⟩ => rfl
  show Ideal.hostScatterAdd _ _ _ _ _ = _
  unfold Ideal.hostScatterAdd
  rw [hz, zero_add, ← sum_inE]
  refine Finset.sum_nbij' (fun j => j 0) (fun e => ix1 e) ?_ ?_ ?_ ?_ ?_
  · intro j hj
    have h := (lands1 _ j g).1 (Finset.mem_filter.1 hj).2
    replace h := (hv _).symm.trans h
    exact Finset.mem_filter.2 ⟨Finset.mem_univ _, h⟩
  · intro e he
    refine Finset.mem_filter.2 ⟨Finset.mem_univ _, (lands1 _ _ g).2 ?_⟩
    exact (hv e).trans (Finset.mem_filter.1 he).2
  · intro j hj
    funext a
    match a with
    | ⟨0, _⟩ => rfl
  · intro e _; rfl
  · intro j hj
    congr 1
    funext a
    match a with
    | ⟨0, _⟩ => rfl

end Cert.ReferenceIdeal.Hand
-- ==== Proof.Value.RefEdge.lean ====
module

public import proofs.«01_k».proof.Proof.Value.RefSum
public import Idealize.ShloMosaic.Lib.Pointwise

@[expose] public section

set_option maxRecDepth 16384
set_option Elab.async false

noncomputable section

namespace Cert.ReferenceIdeal.Hand

open Cert.ReferenceIdeal Cert.ReferenceIdeal.Gen Cert.ReferenceIdeal.Read Cert.Value
open Idealize.ShloMosaic

variable (x0 : (⟨S160000x128, .f32⟩ : BufTy).Contents (Elt Ideal))
variable (x1 : (⟨S512x128, .f32⟩ : BufTy).Contents (Elt Ideal))
variable (x2 : (⟨S160000, .i32⟩ : BufTy).Contents (Elt Ideal))
variable (x3 : (⟨S160000, .i1⟩ : BufTy).Contents (Elt Ideal))
variable (x4 : (⟨S128, .f32⟩ : BufTy).Contents (Elt Ideal))
variable (x5 : (⟨S128, .f32⟩ : BufTy).Contents (Elt Ideal))
variable (x6 : (⟨S128x128, .f32⟩ : BufTy).Contents (Elt Ideal))
variable (x7 : (⟨S128, .f32⟩ : BufTy).Contents (Elt Ideal))
variable (x8 : (⟨S130, .f32⟩ : BufTy).Contents (Elt Ideal))
variable (x9 : (⟨S130, .f32⟩ : BufTy).Contents (Elt Ideal))
variable (x10 : (⟨S130x128, .f32⟩ : BufTy).Contents (Elt Ideal))
variable (x11 : (⟨S128, .f32⟩ : BufTy).Contents (Elt Ideal))
variable (x12 : (⟨S128x128, .f32⟩ : BufTy).Contents (Elt Ideal))
variable (x13 : (⟨S128, .f32⟩ : BufTy).Contents (Elt Ideal))
variable (x14 : (⟨S128, .f32⟩ : BufTy).Contents (Elt Ideal))
variable (x15 : (⟨S128, .f32⟩ : BufTy).Contents (Elt Ideal))
variable (x16 : (⟨S256, .f32⟩ : BufTy).Contents (Elt Ideal))
variable (x17 : (⟨S256, .f32⟩ : BufTy).Contents (Elt Ideal))
variable (x18 : (⟨S256x128, .f32⟩ : BufTy).Contents (Elt Ideal))
variable (x19 : (⟨S128, .f32⟩ : BufTy).Contents (Elt Ideal))
variable (x20 : (⟨S128x1, .f32⟩ : BufTy).Contents (Elt Ideal))
variable (x21 : (⟨S1, .f32⟩ : BufTy).Contents (Elt Ideal))
variable (x22 : (⟨S256, .f32⟩ : BufTy).Contents (Elt Ideal))
variable (x23 : (⟨S256, .f32⟩ : BufTy).Contents (Elt Ideal))
variable (x24 : (⟨S256x128, .f32⟩ : BufTy).Contents (Elt Ideal))
variable (x25 : (⟨S128, .f32⟩ : BufTy).Contents (Elt Ideal))
variable (x26 : (⟨S128x1, .f32⟩ : BufTy).Contents (Elt Ideal))
variable (x27 : (⟨S1, .f32⟩ : BufTy).Contents (Elt Ideal))

/-- The complement of a bit, as a number. -/
theorem not_sel (e : Fin 160000) : FloatOps.uitofp (F := Ideal) .f32 (val_main_v44 (F := Ideal) x3 (ix1 e)) = 1 - selE x3 e := by
  rw [val_main_v44_apply]
  unfold selE
  rcases BitVec.eq_zero_or_eq_one (x3 (ix1 e)) with h | h <;> rw [h]
  · simp [FloatOps.uitofp]
  · simp [FloatOps.uitofp]
    rw [← EReal.coe_one, ← EReal.coe_sub]; simp

/-- An unselected edge counts zero, a selected one counts one. -/
theorem sel_cases (e : Fin 160000) : selE x3 e = 0 ∨ selE x3 e = 1 := by
  unfold selE
  rcases BitVec.eq_zero_or_eq_one (x3 (ix1 e)) with h | h <;> rw [h]
  · left; simp [FloatOps.uitofp]
  · right; simp [FloatOps.uitofp]

/-- The widened row of a selected edge: the tokens, then two zeros. -/
theorem v50_of (e : Fin 160000) (h : selE x3 e = 1) :
    (fun k : Fin 130 => (val_main_v50 (F := Ideal) x0 x1 x2 x3 x4 x5 x6 x7) (ix2 e k)) = wide (fun f => (val_main_v43 (F := Ideal) x0 x1 x2 x4 x5 x6 x7) (ix2 e f)) := by
  funext k
  have hn : FloatOps.uitofp (F := Ideal) .f32 (val_main_v44 (F := Ideal) x3 (ix1 e)) = (0 : EReal) := by
    rw [not_sel, h, ← EReal.coe_one, ← EReal.coe_sub]; simp
  have hk := k.isLt
  unfold wide
  pointwise [val_main_v50, val_main_v49, val_main_v48, val_main_v47, val_main_v46, val_main_v45, val_main_cst_8]
  by_cases h1 : k.val < 128
  · rw [dif_pos h1, dif_pos h1]
  · rw [dif_neg h1, dif_neg h1]
    split
    · rfl
    · exact hn

/-- The edge logits when the head's last weights are zero. -/
theorem v236_apply (e : Fin 160000) (h20 : ∀ k : Fin 128, x20 (ix2 k 0) = (0 : EReal)) :
    (val_main_v236 (F := Ideal) x0 x1 x2 x3 x4 x5 x6 x7 x8 x9 x10 x11 x12 x13 x14 x15 x16 x17 x18 x19 x20 x21) (ix1 e) = x21 (ix1 0) + Ideal.ofBits .f32 0x3F000000#32 * (1 - selE x3 e) := by
  rw [← not_sel]
  pointwise [val_main_v229, val_main_v230, val_main_v231, val_main_v232, val_main_v233, val_main_cst_48, val_main_v234, val_main_v235, val_main_v236, val_main_v45]
  simp only [h20, mul_zero, Finset.sum_const_zero, zero_add]

/-- The edge logits as the result lays them out. -/
theorem v279_apply (b : Fin 20) (k : Fin 8000) (h : b.val * 8000 + k.val < 160000) :
    (val_main_v279 (F := Ideal) x0 x1 x2 x3 x4 x5 x6 x7 x8 x9 x10 x11 x12 x13 x14 x15 x16 x17 x18 x19 x20 x21) (ix3 b 0 k) = (val_main_v236 (F := Ideal) x0 x1 x2 x3 x4 x5 x6 x7 x8 x9 x10 x11 x12 x13 x14 x15 x16 x17 x18 x19 x20 x21) (ix1 ⟨b.val * 8000 + k.val, h⟩) := by
  unfold val_main_v279
  refine shapeCast_apply _ _ _ _ ?_
  rw [Shape.rowMajor_val_one, Shape.rowMajor_val_three]
  show b.val * 8000 + k.val = (b.val * 1 + 0) * 8000 + k.val
  omega

/-- The stop logits as the result lays them out. -/
theorem v280_apply (r : Fin 512) :
    (val_main_v280 (F := Ideal) x0 x1 x2 x3 x4 x5 x6 x7 x8 x9 x10 x11 x12 x13 x14 x15 x22 x23 x24 x25 x26 x27) (ix2 r 0) = (val_main_v277 (F := Ideal) x0 x1 x2 x3 x4 x5 x6 x7 x8 x9 x10 x11 x12 x13 x14 x15 x22 x23 x24 x25 x26 x27) (ix2 r 0) := by
  unfold val_main_v280 val_main_v278
  refine (shapeCast_apply _ _ _ (ix1 r) ?_).trans (shapeCast_apply _ _ _ _ ?_)
  · rw [Shape.rowMajor_val_one, Shape.rowMajor_val_two]; show r.val = r.val * 1 + 0; omega
  · rw [Shape.rowMajor_val_one, Shape.rowMajor_val_two]; show r.val * 1 + 0 = r.val; omega

/-- The stop head's row: the current state, then the question. -/
theorem v237_apply (r : Fin 512) (a : Fin 256) :
    (val_main_v237 (F := Ideal) x0 x1 x2 x3 x4 x5 x6 x7 x8 x9 x10 x11 x12 x13 x14 x15) (ix2 r a) = if h : a.val < 128 then (val_main_v139 (F := Ideal) x0 x1 x2 x3 x4 x5 x6 x7 x8 x9 x10 x11 x12 x13 x14 x15) (ix2 r ⟨a.val, h⟩) else x1 (ix2 r ⟨a.val - 128, by have := a.isLt; omega⟩) := by
  pointwise [val_main_v237]

/-- What an edge of graph `g` adds to its sums. -/
def edgeTerm (g : Fin 512) (e : Fin 160000) (d : Fin 128) : EReal :=
  edgeTop (edgeLin (fun f => x0 (ix2 e f) + qrow (fun k => x1 (ix2 g k)) (fun k => x4 (ix1 k)) (fun k => x5 (ix1 k)) (fun a j => x6 (ix2 a j)) (fun k => x7 (ix1 k)) f)
      (fun a j => x10 (ix2 (low a) j) * x8 (ix1 (low a)))
      (fun j => (∑ a, x10 (ix2 (low a) j) * x8 (ix1 (low a))) + (x8 (ix1 ⟨128, by decide⟩) * x10 (ix2 ⟨128, by decide⟩ j) + x8 (ix1 ⟨129, by decide⟩) * x10 (ix2 ⟨129, by decide⟩ j)))
      (fun j => x11 (ix1 j) + (∑ a, x9 (ix1 (low a)) * x10 (ix2 (low a) j)) + x9 (ix1 ⟨128, by decide⟩) * x10 (ix2 ⟨128, by decide⟩ j) + x9 (ix1 ⟨129, by decide⟩) * x10 (ix2 ⟨129, by decide⟩ j)))
    (fun a j => x12 (ix2 a j)) (fun k => x13 (ix1 k)) d * selE x3 e

/-- The reference's masked row of an edge of graph `g` is that term, the inputs being finite. -/
theorem masked (g : Fin 512) (e : Fin 160000) (d : Fin 128) (h : x2 (ix1 e) = BitVec.ofNat 32 g.val)
    (f0 : ∀ i, Re (x0 i)) (f1 : ∀ i, Re (x1 i)) (f4 : ∀ i, Re (x4 i)) (f5 : ∀ i, Re (x5 i)) (f6 : ∀ i, Re (x6 i)) (f7 : ∀ i, Re (x7 i))
    (f8 : ∀ i, Re (x8 i)) (f9 : ∀ i, Re (x9 i)) (f10 : ∀ i, Re (x10 i)) :
    (val_main_v98 (F := Ideal) x0 x1 x2 x3 x4 x5 x6 x7 x8 x9 x10 x11 x12 x13) (ix2 e d) * selE x3 e = edgeTerm x0 x1 x3 x4 x5 x6 x7 x8 x9 x10 x11 x12 x13 g e d := by
  unfold edgeTerm
  rcases sel_cases x3 e with hs | hs
  · rw [hs, mul_zero, mul_zero]
  · congr 1
    rw [v98_apply]
    congr 1
    funext j
    rw [v78_apply, v50_of _ _ _ _ _ _ _ _ e hs]
    have he : (fun f => (val_main_v43 (F := Ideal) x0 x1 x2 x4 x5 x6 x7) (ix2 e f)) = fun f => x0 (ix2 e f) + qrow (fun k => x1 (ix2 g k)) (fun k => x4 (ix1 k)) (fun k => x5 (ix1 k)) (fun a j => x6 (ix2 a j)) (fun k => x7 (ix1 k)) f := by
      funext f
      rw [v43_apply]
      congr 3
      funext k
      exact v6_of x1 x2 e g h k
    rw [he]
    exact (edgeLin_eq (G := fun k => x8 (ix1 k)) (B := fun k => x9 (ix1 k)) (W := fun k j => x10 (ix2 k j)) (fun j => x11 (ix1 j))
      (fun k => (f0 _).add (Re.qrow (fun _ => f1 _) (fun _ => f4 _) (fun _ => f5 _) (fun _ _ => f6 _) (fun _ => f7 _) k)) (fun k => f8 _) (fun k => f9 _) (fun k j => f10 _) j).symm

/-- The reference's sums. -/
theorem v105_apply (g : Fin 512) (d : Fin 128)
    (f0 : ∀ i, Re (x0 i)) (f1 : ∀ i, Re (x1 i)) (f4 : ∀ i, Re (x4 i)) (f5 : ∀ i, Re (x5 i)) (f6 : ∀ i, Re (x6 i)) (f7 : ∀ i, Re (x7 i))
    (f8 : ∀ i, Re (x8 i)) (f9 : ∀ i, Re (x9 i)) (f10 : ∀ i, Re (x10 i)) :
    (val_main_v105 (F := Ideal) x0 x1 x2 x3 x4 x5 x6 x7 x8 x9 x10 x11 x12 x13) (ix2 g d) = ∑ e, inE x2 g e * edgeTerm x0 x1 x3 x4 x5 x6 x7 x8 x9 x10 x11 x12 x13 g e d := by
  unfold val_main_v105
  rw [scatter_rows]
  refine Finset.sum_congr rfl fun e _ => ?_
  unfold inE
  by_cases h : x2 (ix1 e) = BitVec.ofNat 32 g.val
  · rw [← masked x0 x1 x2 x3 x4 x5 x6 x7 x8 x9 x10 x11 x12 x13 g e d h f0 f1 f4 f5 f6 f7 f8 f9 f10]
    congr 1
    pointwise [val_main_v102, val_main_v101, val_main_v100, val_main_v99, selE]
  · rw [if_neg h, zero_mul, zero_mul]

/-- The reference's counts. -/
theorem v109_apply (g : Fin 512) : (val_main_v109 (F := Ideal) x2 x3) (ix1 g) = ∑ e, inE x2 g e * selE x3 e := by
  unfold val_main_v109
  rw [scatter_ones]
  rfl

end Cert.ReferenceIdeal.Hand
-- ==== Proof.Value.Grid.lean ====
module

public import proofs.«01_k».proof.Proof.Value.Host
public import proofs.«01_k».proof.Proof.Value.Window
public import proofs.«01_k».proof.Proof.Value.Stop
public import proofs.«01_k».proof.Proof.Value.RefEdge

/-! The sums and counts after the last point, as sums over all edges. -/

@[expose] public section

set_option maxRecDepth 16384
set_option Elab.async false

noncomputable section

namespace Cert.KernelIdeal.Hand

open Cert.KernelIdeal Cert.KernelIdeal.Gen Cert.Value
open Idealize.ShloMosaic
open Cert.ReferenceIdeal.Hand (inE selE edgeTerm)

variable (m : (ℓ : Loc nD τ sig) → Buf (Elt Ideal) ℓ) (c : Dev nD)

/-- What an edge of graph `g` adds, from the launch's arrays. -/
def addE (g : Fin 512) (e : Fin 160000) (d : Fin 128) : EReal :=
  edgeTerm (a0 m c) (a1 m c) (a3 m c) (a4 m c) (a5 m c) (a6 m c) (a7 m c) (a8 m c) (a9 m c) (a10 m c) (a11 m c) (a12 m c) (a13 m c) g e d

/-- The projected questions, from the launch's arrays. -/
def Proj (q : S512x128.Idx → Elt Ideal .f32) : Prop := ∀ (g : Fin 512) (f : Fin 128),
  q (ix2 g f) = qrow (fun k => a1 m c (ix2 g k)) (fun k => a4 m c (ix1 k)) (fun k => a5 m c (ix1 k)) (fun a j => a6 m c (ix2 a j)) (fun k => a7 m c (ix1 k)) f

/-- An edge is in a graph of its block exactly if it is in the graph. -/
theorem inG_eq (t : Fin (cfgA m).N) (g : Fin 512) (k : Fin 8000) : inG (insAt m c t) g k = inE (a2 m c) g (edgeOf m t k) := by
  unfold inG inE
  rw [x2_of]

/-- The selection of an edge of a block. -/
theorem sel_eq (t : Fin (cfgA m).N) (k : Fin 8000) : (insAt m c t).x3 (ix3 0 0 k) = selE (a3 m c) (edgeOf m t k) := x3_of m c t k

/-- What a block's edge adds to a graph. -/
theorem term_eq (t : Fin (cfgA m).N) (q : S512x128.Idx → Elt Ideal .f32) (hq : Proj m c q) (g : Fin 512) (k : Fin 8000) (d : Fin 128) :
    inG (insAt m c t) g k * term (insAt m c t) q k d = inE (a2 m c) g (edgeOf m t k) * addE m c g (edgeOf m t k) d := by
  rw [inG_eq]
  unfold inE
  by_cases h : a2 m c (ix1 (edgeOf m t k)) = BitVec.ofNat 32 g.val
  swap
  · rw [if_neg h, zero_mul, zero_mul]
  refine congrArg₂ (· * ·) rfl ?_
  unfold term addE edgeTerm
  rw [sel_eq]
  refine congrArg₂ (· * ·) ?_ rfl
  have hx : (fun f => (insAt m c t).x4 (ix2 k f) + qat q ((insAt m c t).x2 (ix3 0 0 k)) f)
      = fun f => a0 m c (ix2 (edgeOf m t k) f) + qrow (fun k => a1 m c (ix2 g k)) (fun k => a4 m c (ix1 k)) (fun k => a5 m c (ix1 k)) (fun a j => a6 m c (ix2 a j)) (fun k => a7 m c (ix1 k)) f := by
    funext f
    rw [x4_of, qat_of q _ g ((x2_of m c t k).trans h) f, hq g f]
  have h10 : (fun a j => (insAt m c t).x10 (ix2 a j)) = fun (a j : Fin 128) => a10 m c (ix2 (low a) j) * a8 m c (ix1 (low a)) := by
    funext a j; exact x10_of m c t a j
  have h11 := funext (x11_of m c t)
  have h12 := funext (x12_of m c t)
  have h13 : (fun a j => (insAt m c t).x13 (ix2 a j)) = fun (a j : Fin 128) => a12 m c (ix2 a j) := by
    funext a j; exact x13_of m c t a j
  have h14 := funext (x14_of m c t)
  rw [hx, h10, h11, h12, h13, h14]

/-- The block of a point. -/
theorem blk_eq (t : Fin (cfgA m).N) : blk (crd m t) = ix1 ⟨t.val, t_lt m t⟩ := by
  funext a
  match a with
  | ⟨0, _⟩ => exact Fin.ext (crd_val t)

/-- The core is the first one. -/
theorem core0 : c = 0 := Subsingleton.elim _ _

/-- A point keeps the projected questions. -/
theorem step_qf (X : Ins) (lo wd : BitVec 32) (S : Scr) : (stepAt X lo wd S).qf = S.qf := by
  unfold stepAt; split <;> rfl

/-- The point runs in its window only where the window holds the block's graphs. -/
theorem in_window (t : Fin (cfgA m).N) (h : ¬ isWide (wideW (T0 m) (crd m t))) (k : Fin 8000) (g : Fin 512)
    (hk : (insAt m c t).x2 (ix3 0 0 k) = BitVec.ofNat 32 g.val) :
    (loW (T0 m) (crd m t)).toNat ≤ g.val ∧ g.val < (loW (T0 m) (crd m t)).toNat + 64 := by
  obtain rfl := core0 c
  rw [wideW_eq, blk_eq] at h
  rw [loW_eq, blk_eq]
  exact window _ ⟨t.val, t_lt m t⟩ k (edgeOf m t k).isLt g h ((x2_of m 0 t k).symm.trans hk)

/-- One point's sums. -/
theorem step_acc (t : Fin (cfgA m).N) (S : Scr) (hq : Proj m c S.qf) (g : Fin 512) (d : Fin 128) :
    (stepAt (insAt m c t) (loW (T0 m) (crd m t)) (wideW (T0 m) (crd m t)) S).acc (ix2 g d)
      = S.acc (ix2 g d) + ∑ k, inE (a2 m c) g (edgeOf m t k) * addE m c g (edgeOf m t k) d := by
  simp only [← term_eq m c t S.qf hq]
  unfold stepAt
  split
  · exact stepW_acc _ S g d
  · rename_i h
    exact stepN_acc _ _ S (by rw [loW_eq]; exact lo_le _ _) (in_window m c t h) g d

/-- One point's counts. -/
theorem step_cnt (t : Fin (cfgA m).N) (S : Scr) (g : Fin 512) :
    (stepAt (insAt m c t) (loW (T0 m) (crd m t)) (wideW (T0 m) (crd m t)) S).cnt (ix2 g 0)
      = S.cnt (ix2 g 0) + ∑ k, inE (a2 m c) g (edgeOf m t k) * selE (a3 m c) (edgeOf m t k) := by
  simp only [← inG_eq, ← sel_eq]
  unfold stepAt
  split
  · exact stepW_cnt _ S g
  · rename_i h
    exact stepN_cnt _ _ S (by rw [loW_eq]; exact lo_le _ _) (in_window m c t h) g

/-- The first point's sums. -/
theorem start_acc (X : Ins) (j : S512x128.Idx) : (start X).acc j = (0 : EReal) := pay16_apply j

/-- The first point's counts. -/
theorem start_cnt (X : Ins) (j : S512x1.Idx) : (start X).cnt j = (0 : EReal) := pay17_apply j

/-- The first point's questions. -/
theorem start_qf (t : Fin (cfgA m).N) : Proj m c (start (insAt m c t)).qf := by
  intro g f
  refine (pay2_apply _ _ _ _ _ g f).trans ?_
  have h6 := funext (x6_of m c t)
  have h7 := funext (x7_of m c t)
  have h9 := funext (x9_of m c t)
  rw [x5_of, x8_of, h6, h7, h9]

/-- The first point's scratch. -/
theorem traj_zero : traj m c 0 = stepAt (insAt m c (pt m 0)) (loW (T0 m) (crd m (pt m 0))) (wideW (T0 m) (crd m (pt m 0))) (start (insAt m c (pt m 0))) := rfl

/-- A later point's scratch. -/
theorem traj_succ (n : ℕ) : traj m c (n + 1) = stepAt (insAt m c (pt m (n + 1))) (loW (T0 m) (crd m (pt m (n + 1)))) (wideW (T0 m) (crd m (pt m (n + 1)))) (traj m c n) := rfl

/-- The questions stay. -/
theorem traj_qf (n : ℕ) : Proj m c (traj m c n).qf := by
  induction n with
  | zero => rw [traj_zero, step_qf]; exact start_qf m c _
  | succ n ih => rw [traj_succ, step_qf]; exact ih

/-- The sums after a point. -/
theorem traj_acc (n : ℕ) (g : Fin 512) (d : Fin 128) :
    (traj m c n).acc (ix2 g d) = ∑ b ∈ Finset.range (n + 1), ∑ k, inE (a2 m c) g (edgeOf m (pt m b) k) * addE m c g (edgeOf m (pt m b) k) d := by
  induction n with
  | zero =>
    rw [traj_zero, step_acc m c _ _ (start_qf m c _) g d, Finset.sum_range_one, start_acc, zero_add]
  | succ n ih =>
    rw [traj_succ, step_acc m c _ _ (traj_qf m c n) g d, Finset.sum_range_succ, ih]

/-- The counts after a point. -/
theorem traj_cnt (n : ℕ) (g : Fin 512) :
    (traj m c n).cnt (ix2 g 0) = ∑ b ∈ Finset.range (n + 1), ∑ k, inE (a2 m c) g (edgeOf m (pt m b) k) * selE (a3 m c) (edgeOf m (pt m b) k) := by
  induction n with
  | zero =>
    rw [traj_zero, step_cnt m c _ _ g, Finset.sum_range_one, start_cnt, zero_add]
  | succ n ih =>
    rw [traj_succ, step_cnt m c _ _ g, Finset.sum_range_succ, ih]

/-- Twenty blocks of eight thousand edges are all the edges. -/
theorem all_edges (F : Fin 160000 → EReal) : ∑ b ∈ Finset.range 20, ∑ k, F (edgeOf m (pt m b) k) = ∑ e, F e := by
  have e1 : ∑ e : Fin 160000, F e = ∑ p : Fin 20 × Fin 8000, F (finProdFinEquiv p) :=
    (Fintype.sum_equiv (finProdFinEquiv (m := 20) (n := 8000)) (fun p => F (finProdFinEquiv p)) F (fun _ => rfl)).symm
  rw [e1, Fintype.sum_prod_type, Finset.sum_range]
  refine Finset.sum_congr rfl fun b _ => Finset.sum_congr rfl fun k _ => congrArg F (Fin.ext ?_)
  have hb := b.isLt
  show min b.val 19 * 8000 + k.val = k.val + 8000 * b.val
  omega

/-- The sums after the last point. -/
theorem last_acc (g : Fin 512) (d : Fin 128) : (traj m c 19).acc (ix2 g d) = ∑ e, inE (a2 m c) g e * addE m c g e d :=
  (traj_acc m c 19 g d).trans (all_edges m fun e => inE (a2 m c) g e * addE m c g e d)

/-- The counts after the last point. -/
theorem last_cnt (g : Fin 512) : (traj m c 19).cnt (ix2 g 0) = ∑ e, inE (a2 m c) g e * selE (a3 m c) e :=
  (traj_cnt m c 19 g).trans (all_edges m fun e => inE (a2 m c) g e * selE (a3 m c) e)

end Cert.KernelIdeal.Hand
-- ==== Proof.Value.Last.lean ====
module

public import proofs.«01_k».proof.Proof.Value.Grid

/-! The three results of the launch, element by element, are the reference's. -/

@[expose] public section

set_option maxRecDepth 16384
set_option Elab.async false

noncomputable section

namespace Cert.KernelIdeal.Hand

open Cert.KernelIdeal Cert.KernelIdeal.Gen Cert.Value
open Idealize.ShloMosaic
open Cert.ReferenceIdeal.Hand (inE selE edgeTerm)
open Cert.ReferenceIdeal.Read

variable (m : (ℓ : Loc nD τ sig) → Buf (Elt Ideal) ℓ) (c : Dev nD)

/-- What the precondition says of the arrays: the ones that reach a layer norm are real, and the head's last weights are zero. -/
structure Good : Prop where
  f0 : ∀ i, Re (a0 m c i)
  f1 : ∀ i, Re (a1 m c i)
  f4 : ∀ i, Re (a4 m c i)
  f5 : ∀ i, Re (a5 m c i)
  f6 : ∀ i, Re (a6 m c i)
  f7 : ∀ i, Re (a7 m c i)
  f8 : ∀ i, Re (a8 m c i)
  f9 : ∀ i, Re (a9 m c i)
  f10 : ∀ i, Re (a10 m c i)
  h20 : ∀ k : Fin 128, a20 m c (ix2 k 0) = (0 : EReal)

/-- The reference's edge logits, from the launch's arrays. -/
abbrev refElog := val_main_v279 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c)

/-- The reference's stop logits, from the launch's arrays. -/
abbrev refStop := val_main_v280 (F := Ideal) (a0 m c) (a1 m c) (a2 m c) (a3 m c) (a4 m c) (a5 m c) (a6 m c) (a7 m c) (a8 m c) (a9 m c) (a10 m c) (a11 m c) (a12 m c) (a13 m c) (a14 m c) (a15 m c) (a22 m c) (a23 m c) (a24 m c) (a25 m c) (a26 m c) (a27 m c)

/-- The reference's current state, from the launch's arrays. -/
abbrev refCur := val_main_v139 (F := Ideal) (a0 m c) (a1 m c) (a2 m c) (a3 m c) (a4 m c) (a5 m c) (a6 m c) (a7 m c) (a8 m c) (a9 m c) (a10 m c) (a11 m c) (a12 m c) (a13 m c) (a14 m c) (a15 m c)

/-- The edge logits of a block. -/
theorem elog_eq (H : Good m c) (t : Fin (cfgA m).N) (k : Fin 8000) :
    elogOf (insAt m c t) (ix3 0 0 k) = refElog m c (ix3 ⟨t.val, t_lt m t⟩ 0 k) := by
  refine (pay24_apply _ _ k).trans ?_
  rw [sel_eq, x23_of]
  refine Eq.symm ((Cert.ReferenceIdeal.Hand.v279_apply _ _ _ _ _ _ _ _ _ _ _ _ _ _ _ _ _ _ _ _ _ _ _ k (edgeOf m t k).isLt).trans ?_)
  exact Cert.ReferenceIdeal.Hand.v236_apply _ _ _ _ _ _ _ _ _ _ _ _ _ _ _ _ _ _ _ _ _ _ _ H.h20

/-- The current state. -/
theorem cur_eq (H : Good m c) (t : Fin (cfgA m).N) (r : Fin 512) (f : Fin 128) :
    curOf (insAt m c t) (traj m c 19) (ix2 r f) = refCur m c (ix2 r f) := by
  refine (pay11_apply _ _ _ _ _ r f).trans ?_
  refine Eq.trans ?_ (Cert.ReferenceIdeal.Hand.v139_apply _ _ _ _ _ _ _ _ _ _ _ _ _ _ _ _ r f).symm
  have h15 := funext (x15_of m c t)
  have h16 := funext (x16_of m c t)
  rw [x5_of, h15, h16, last_cnt, Cert.ReferenceIdeal.Hand.v109_apply]
  refine congrArg (fun u => lnK (Ideal.ofBits .f32 0x43000000#32) u (fun k => a14 m c (ix1 k)) (fun k => a15 m c (ix1 k)) f) (funext fun k => ?_)
  rw [last_acc, Cert.ReferenceIdeal.Hand.v105_apply _ _ _ _ _ _ _ _ _ _ _ _ _ _ r k H.f0 H.f1 H.f4 H.f5 H.f6 H.f7 H.f8 H.f9 H.f10]
  rfl

/-- The stop head's row. -/
theorem row_eq (H : Good m c) (t : Fin (cfgA m).N) (r : Fin 512) (a : Fin 256) :
    k0_pay12 (F := Ideal) (insAt m c t).x5 (traj m c 19).cnt (traj m c 19).acc (insAt m c t).x15 (insAt m c t).x16 (ix2 r a)
      = val_main_v237 (F := Ideal) (a0 m c) (a1 m c) (a2 m c) (a3 m c) (a4 m c) (a5 m c) (a6 m c) (a7 m c) (a8 m c) (a9 m c) (a10 m c) (a11 m c) (a12 m c) (a13 m c) (a14 m c) (a15 m c) (ix2 r a) := by
  rw [pay12_apply, Cert.ReferenceIdeal.Hand.v237_apply]
  by_cases h : a.val < 128
  · rw [dif_pos h, dif_pos h]
    exact cur_eq m c H t r ⟨a.val, h⟩
  · rw [dif_neg h, dif_neg h, x5_of]

/-- The stop logits. -/
theorem stop_eq (H : Good m c) (t : Fin (cfgA m).N) (r : Fin 512) :
    stopOf (insAt m c t) (traj m c 19) (ix2 r 0) = refStop m c (ix2 r 0) := by
  refine (pay14_apply _ _ _ _ _ _ _ r).trans ?_
  refine Eq.trans ?_ (Cert.ReferenceIdeal.Hand.v280_apply _ _ _ _ _ _ _ _ _ _ _ _ _ _ _ _ _ _ _ _ _ _ r).symm
  refine Eq.trans ?_ (Cert.ReferenceIdeal.Hand.v277_apply _ _ _ _ _ _ _ _ _ _ _ _ _ _ _ _ _ _ _ _ _ _ r).symm
  have h17 := funext (x17_of m c t)
  have h18 := funext (x18_of m c t)
  have h20 := funext (x20_of m c t)
  have hr := funext (row_eq m c H t r)
  rw [hr, h17, h18, x19_of, x21_of, x22_of]
  simp only [Cert.ReferenceIdeal.Hand.v261_apply, x20_of]

end Cert.KernelIdeal.Hand
-- ==== Proof.Value.Pre.lean ====
module

public import proofs.«01_k».proof.Defs
public import proofs.«01_k».proof.Pre_finite_and_zero_head
public import proofs.«01_k».proof.Proof.Gen.KernelIdeal
public import proofs.«01_k».proof.Proof.Value.Last
public import Idealize.ShloMosaic.Lib.Pointwise

/-! What the precondition says of the arrays. -/

@[expose] public section

set_option maxRecDepth 16384
set_option Elab.async false

noncomputable section

namespace Cert.Proof

open Idealize.ShloMosaic
open Cert.Value

/-- The shapes of the precondition's broadcasts. -/
theorem preFacts : Cert.Pre_finite_and_zero_head.Facts :=
  ⟨by decide, by decide, by decide, by decide, by decide, by decide, by decide⟩

/-- The bits of positive infinity. -/
theorem lit_top : Ideal.ofBits .f32 0x7F800000#32 = (⊤ : EReal) := by simp [Ideal.ofBits, Ideal.ieee]

/-- An array below infinity in absolute value is real. -/
theorem re_of_lt {s : Shape} (h : (⟨0, ![]⟩ : Shape).BroadcastsInDim s (![] : Fin 0 → Fin s.rank)) (x : FVec Ideal s .f32)
    (hx : cmpf .olt (Host.absf x) (broadcastInDim s ![] h (constant (F := Ideal) ⟨0, ![]⟩ .f32 0x7F800000#32)) = fun _ => 1#1) (i : s.Idx) : Re (x i) := by
  have e : Ideal.cmp .olt (max (x i) (-(x i))) (Ideal.ofBits .f32 0x7F800000#32) = 1#1 := congrFun hx i
  rw [lit_top] at e
  exact re_of_abs ((Ideal.cmp_olt_eq_one _ _).1 e)

/-- An array equal to zero everywhere. -/
theorem zero_of_eq {s : Shape} (h : (⟨0, ![]⟩ : Shape).BroadcastsInDim s (![] : Fin 0 → Fin s.rank)) (x : FVec Ideal s .f32)
    (hx : cmpf .oeq x (broadcastInDim s ![] h (constant (F := Ideal) ⟨0, ![]⟩ .f32 0x00000000#32)) = fun _ => 1#1) (i : s.Idx) : x i = (0 : EReal) := by
  have e : Ideal.cmp .oeq (x i) (Ideal.ofBits .f32 0x00000000#32) = 1#1 := congrFun hx i
  exact ((Ideal.cmp_oeq_eq_one _ _).1 e).trans (by simp [Ideal.ofBits, Ideal.ieee])

/-- The precondition, array by array. -/
theorem good (m : (ℓ : Loc Cert.KernelIdeal.nD Cert.KernelIdeal.τ Cert.KernelIdeal.sig) → Buf (Elt Ideal) ℓ)
    (h : Cert.Pre_KernelIdeal_finite_and_zero_head (hPre_finite_and_zero_head := preFacts) m) (c : Dev Cert.KernelIdeal.nD) : Cert.KernelIdeal.Hand.Good m c := by
  obtain ⟨h0, h1, h4, h5, h6, h7, h8, h9, h10, h20⟩ := h c
  exact ⟨re_of_lt _ _ h0, re_of_lt _ _ h1, re_of_lt _ _ h4, re_of_lt _ _ h5, re_of_lt _ _ h6, re_of_lt _ _ h7, re_of_lt _ _ h8, re_of_lt _ _ h9, re_of_lt _ _ h10,
    fun k => zero_of_eq _ _ h20 (ix2 k 0)⟩

end Cert.Proof

end
-- ==== Proof.Value.Arr.lean ====
module

public import proofs.«01_k».proof.Proof.Value.Last

/-! The three result arrays as the kernel leaves them. -/

@[expose] public section

set_option maxRecDepth 16384
set_option Elab.async false

noncomputable section

namespace Cert.KernelIdeal.Hand

open Cert.KernelIdeal Cert.KernelIdeal.Gen Cert.Value
open Idealize.ShloMosaic
open Idealize.ShloMosaic.Pipeline (Dat Cfg Window)

variable (m : (ℓ : Loc nD τ sig) → Buf (Elt Ideal) ℓ) (c : Dev nD)

/-- Every point writes its block of edge logits back. -/
theorem flush22 : ∀ t : Fin grid0.N, (spec0 (22 : Fin 25)).flushAt cc0_transform_22 t = true := by decide

/-- A point's block of edge logits is the one of its number. -/
theorem index22 : ∀ t : Fin grid0.N, cc0_transform_22 (grid0.coords t) = ![t.val, 0, 0] := by decide

/-- The stop logits are written back at the last point only. -/
theorem flush23 : ∀ t : Fin grid0.N, (spec0 (23 : Fin 25)).flushAt cc0_transform_23 t = true ↔ t.val = 19 := by decide

/-- The stop logits are one block. -/
theorem index23 : ∀ t : Fin grid0.N, cc0_transform_23 (grid0.coords t) = ![0, 0] := by decide

/-- The current state is written back at the last point only. -/
theorem flush24 : ∀ t : Fin grid0.N, (spec0 (24 : Fin 25)).flushAt cc0_transform_24 t = true ↔ t.val = 19 := by decide

/-- The current state is one block. -/
theorem index24 : ∀ t : Fin grid0.N, cc0_transform_24 (grid0.coords t) = ![0, 0] := by decide

/-- The blocks of edge logits cover their array. -/
theorem covers22 : ((cfgA m).win (22 : Fin 25)).Covers := by
  refine ⟨fun a => ?_, fun β => ⟨⟨(β (0 : Fin 3)).val, ?_⟩, flush22 _, fun a => ⟨?_, Or.inl rfl⟩⟩⟩
  · match a with
    | ⟨0, _⟩ => exact Nat.one_pos
    | ⟨1, _⟩ => exact Nat.one_pos
    | ⟨2, _⟩ => show 0 < 8000; omega
  · have h : (β (0 : Fin 3)).val < (20 + 1 - 1) / 1 := (β (0 : Fin 3)).isLt
    exact Nat.lt_of_lt_of_eq (show (β (0 : Fin 3)).val < 20 by omega) (N_eq m).symm
  · refine (congrFun (index22 _) a).trans ?_
    match a with
    | ⟨0, _⟩ => rfl
    | ⟨1, _⟩ =>
      have h : (β (1 : Fin 3)).val < (1 + 1 - 1) / 1 := (β (1 : Fin 3)).isLt
      show 0 = (β (1 : Fin 3)).val
      omega
    | ⟨2, _⟩ =>
      have h : (β (2 : Fin 3)).val < (8000 + 8000 - 1) / 8000 := (β (2 : Fin 3)).isLt
      show 0 = (β (2 : Fin 3)).val
      omega

/-- The last point writes the whole of the stop logits. -/
theorem whole23 (t : Fin (cfgA m).N) (h : t.val = 19) : ((cfgA m).win (23 : Fin 25)).WholeAt t := by
  refine ⟨(flush23 t).2 h, fun t' h' => Fin.ext (((flush23 t').1 h').trans h.symm), fun a => ⟨?_, ?_⟩⟩
  · refine (congrFun (index23 t) a).trans ?_
    match a with
    | ⟨0, _⟩ => rfl
    | ⟨1, _⟩ => rfl
  · match a with
    | ⟨0, _⟩ => rfl
    | ⟨1, _⟩ => rfl

/-- The last point writes the whole of the current state. -/
theorem whole24 (t : Fin (cfgA m).N) (h : t.val = 19) : ((cfgA m).win (24 : Fin 25)).WholeAt t := by
  refine ⟨(flush24 t).2 h, fun t' h' => Fin.ext (((flush24 t').1 h').trans h.symm), fun a => ⟨?_, ?_⟩⟩
  · refine (congrFun (index24 t) a).trans ?_
    match a with
    | ⟨0, _⟩ => rfl
    | ⟨1, _⟩ => rfl
  · match a with
    | ⟨0, _⟩ => rfl
    | ⟨1, _⟩ => rfl

/-- The last point. -/
theorem last_val : (pt m 19).val = 19 := rfl

/-- The edge logits' array. -/
theorem arr22 (H : Good m c) : (dats m 0 c).arrAt (22 : Fin 25) (cfgA m).N = refElog m c := by
  refine (dats m 0 c).arrAt_eq_of_covers (22 : Fin 25) (refElog m c) (covers22 m) fun t hf y => ?_
  blk_simp
  have e0 : y = (ix3 0 0 (y (2 : Fin 3)) : S1x1x8000.Idx) := by
    funext a
    match a with
    | ⟨0, _⟩ => exact Subsingleton.elim (α := Fin 1) _ _
    | ⟨1, _⟩ => exact Subsingleton.elim (α := Fin 1) _ _
    | ⟨2, _⟩ => rfl
  have e1 : (((cfgA m).win (22 : Fin 25)).blk t).view.emb y = (ix3 ⟨t.val, t_lt m t⟩ 0 (y (2 : Fin 3)) : S20x1x8000.Idx) := by
    refine funext fun a => Fin.ext ?_
    blk_simp
    match a with
    | ⟨0, _⟩ =>
      have h : (y (0 : Fin 3)).val < 1 := (y (0 : Fin 3)).isLt
      show cc0_transform_22 (grid0.coords t) (0 : Fin 3) * 1 + (y (0 : Fin 3)).val = t.val
      rw [index22]
      show t.val * 1 + (y (0 : Fin 3)).val = t.val
      omega
    | ⟨1, _⟩ =>
      have h : (y (1 : Fin 3)).val < 1 := (y (1 : Fin 3)).isLt
      show cc0_transform_22 (grid0.coords t) (1 : Fin 3) * 1 + (y (1 : Fin 3)).val = 0
      rw [index22]
      show 0 * 1 + (y (1 : Fin 3)).val = 0
      omega
    | ⟨2, _⟩ =>
      show cc0_transform_22 (grid0.coords t) (2 : Fin 3) * 8000 + (y (2 : Fin 3)).val = (y (2 : Fin 3)).val
      rw [index22]
      show 0 * 8000 + (y (2 : Fin 3)).val = (y (2 : Fin 3)).val
      omega
  rw [e1]
  refine Eq.trans ?_ (elog_eq m c H t (y (2 : Fin 3)))
  exact congrArg (elogOf (insAt m c t)) e0

/-- The stop logits' array. -/
theorem arr23 (H : Good m c) : (dats m 0 c).arrAt (23 : Fin 25) (cfgA m).N = refStop m c := by
  refine (dats m 0 c).arrAt_eq_of_after_last (23 : Fin 25) (pt m 19) (whole23 m (pt m 19) rfl) (refStop m c) fun j => ?_
  blk_simp
  have e0 : j = (ix2 (j (0 : Fin 2)) 0 : S512x1.Idx) := by
    funext a
    match a with
    | ⟨0, _⟩ => rfl
    | ⟨1, _⟩ => exact Subsingleton.elim (α := Fin 1) _ _
  rw [e0]
  exact stop_eq m c H (pt m 19) (j (0 : Fin 2))

/-- The current state's array. -/
theorem arr24 (H : Good m c) : (dats m 0 c).arrAt (24 : Fin 25) (cfgA m).N = refCur m c := by
  refine (dats m 0 c).arrAt_eq_of_after_last (24 : Fin 25) (pt m 19) (whole24 m (pt m 19) rfl) (refCur m c) fun j => ?_
  blk_simp
  have e0 : j = (ix2 (j (0 : Fin 2)) (j (1 : Fin 2)) : S512x128.Idx) := by
    funext a
    match a with
    | ⟨0, _⟩ => rfl
    | ⟨1, _⟩ => rfl
  rw [e0]
  exact cur_eq m c H (pt m 19) (j (0 : Fin 2)) (j (1 : Fin 2))

end Cert.KernelIdeal.Hand
-- ==== Proof.Value.Equal.lean ====
module

public import proofs.«01_k».proof.Proof.Frames
public import proofs.«01_k».proof.Proof.Value.Pre
public import proofs.«01_k».proof.Proof.Value.Arr

/-! The kernel and the reference end with equal results. -/

@[expose] public section

set_option maxRecDepth 16384
set_option Elab.async false

noncomputable section

namespace Cert.Proof

open Idealize.ShloMosaic Idealize.SL.Sem
open Cert.KernelIdeal.Hand (refElog refStop refCur Good)

/-- The two launches hold the same arguments. -/
def Same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
  ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
  ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
  ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
  ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
  ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
  ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
  ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
  ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
  ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
  ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)

section
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ) (c : Dev Cert.KernelIdeal.nD)

/-- The reference's edge logits, from the kernel's arguments. -/
theorem elog_same (hm : Same m m' c) :
    Cert.ReferenceIdeal.Read.val_main_v279 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) = refElog m c := by
  obtain ⟨e0, e1, e2, e3, e4, e5, e6, e7, e8, e9, e10, e11, e12, e13, e14, e15, e16, e17, e18, e19, e20, e21, e22, e23, e24, e25, e26, e27⟩ := hm
  rw [e0, e1, e2, e3, e4, e5, e6, e7, e8, e9, e10, e11, e12, e13, e14, e15, e16, e17, e18, e19, e20, e21]

/-- The reference's stop logits, from the kernel's arguments. -/
theorem stop_same (hm : Same m m' c) :
    Cert.ReferenceIdeal.Read.val_main_v280 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) (m' ((c.tc : Thread Cert.ReferenceIdeal.nD Cert.ReferenceIdeal.τ).loc Cert.ReferenceIdeal.main_arg27)) = refStop m c := by
  obtain ⟨e0, e1, e2, e3, e4, e5, e6, e7, e8, e9, e10, e11, e12, e13, e14, e15, e16, e17, e18, e19, e20, e21, e22, e23, e24, e25, e26, e27⟩ := hm
  rw [e0, e1, e2, e3, e4, e5, e6, e7, e8, e9, e10, e11, e12, e13, e14, e15, e22, e23, e24, e25, e26, e27]

/-- The reference's current state, from the kernel's arguments. -/
theorem cur_same (hm : Same m m' c) :
    Cert.ReferenceIdeal.Read.val_main_v139 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) = refCur m c := by
  obtain ⟨e0, e1, e2, e3, e4, e5, e6, e7, e8, e9, e10, e11, e12, e13, e14, e15, e16, e17, e18, e19, e20, e21, e22, e23, e24, e25, e26, e27⟩ := hm
  rw [e0, e1, e2, e3, e4, e5, e6, e7, e8, e9, e10, e11, e12, e13, e14, e15]

end

/-- The kernel's run: its results are the reference's functions of its arguments. -/
theorem run_kernel (m : (ℓ : Loc Cert.KernelIdeal.nD Cert.KernelIdeal.τ Cert.KernelIdeal.sig) → Buf (Elt Ideal) ℓ) (g : Dev Cert.KernelIdeal.nD → PrngReg)
    (H : ∀ c, Good m c) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v71_0) = refElog m c
      ∧ r.2.mem ((c.tc : Thread Cert.KernelIdeal.nD Cert.KernelIdeal.τ).loc Cert.KernelIdeal.main_v71_1) = refStop m c
      ∧ r.2.mem ((c.tc : Thread Cert.KernelIdeal.nD Cert.KernelIdeal.τ).loc Cert.KernelIdeal.main_v71_2) = refCur m c
      ∧ Cert.KernelIdeal.Hand.Kept m r.2 c) :=
  (θ_run Cert.KernelIdeal.defs _ _).mono (fun r h c => ⟨((h.1.1 c).1 (22 : Fin 25)).trans (Cert.KernelIdeal.Hand.arr22 m c (H c)),
      ((h.1.1 c).1 (23 : Fin 25)).trans (Cert.KernelIdeal.Hand.arr23 m c (H c)), ((h.1.1 c).1 (24 : Fin 25)).trans (Cert.KernelIdeal.Hand.arr24 m c (H c)), h.2.1 c⟩)
    (θ_run_and (Cert.KernelIdeal.Hand.run_main m g) (Cert.KernelIdeal.Hand.kept m g))

/-- The kernel and the reference, from equal arguments, end with equal results. -/
theorem equal : Cert.algebraic_KernelIdeal_ReferenceIdeal_pre_finite_and_zero_head (hKernelIdeal := Cert.KernelIdeal.Gen.facts) (hReferenceIdeal := Cert.ReferenceIdeal.Gen.facts)
    (hPre_finite_and_zero_head := preFacts) := fun m g m' g' hp hs =>
  ⟨fun c => refElog m c, fun c => refStop m c, fun c => refCur m c, run_kernel m g (good m hp),
    (θ_run Cert.ReferenceIdeal.defs _ _).mono (fun r h c =>
        ⟨(h c).1.trans ((Cert.ReferenceIdeal.Read.val_main_v279_eq (F := Ideal) (StableHlo.launchContents m' c)).trans (elog_same m m' c (hs c))),
          (h c).2.1.trans ((Cert.ReferenceIdeal.Read.val_main_v280_eq (F := Ideal) (StableHlo.launchContents m' c)).trans (stop_same m m' c (hs c))),
          (h c).2.2.1.trans ((Cert.ReferenceIdeal.Read.val_main_v139_eq (F := Ideal) (StableHlo.launchContents m' c)).trans (cur_same m m' c (hs c))), (h c).2.2.2⟩)
      (Cert.ReferenceIdeal.Value.run (F := Ideal) m' g')⟩

/-- The kernel keeps its arguments under the precondition. -/
theorem frameKI_pre : Cert.quiescent_KernelIdeal_pre_finite_and_zero_head (hKernelIdeal := Cert.KernelIdeal.Gen.facts) (hPre_finite_and_zero_head := preFacts) := fun m g _ =>
  Cert.KernelIdeal.Hand.kept m g

/-- The reference keeps its arguments under the precondition. -/
theorem frameRI_pre : Cert.quiescent_ReferenceIdeal_pre_finite_and_zero_head (hReferenceIdeal := Cert.ReferenceIdeal.Gen.facts) (hPre_finite_and_zero_head := preFacts) := fun m g _ =>
  (θ_run Cert.ReferenceIdeal.defs _ _).mono (fun r h => ⟨fun c => (h c).2.2.2, sem_eq_zero_of_no_sems (by decide) r.2⟩)
    (Cert.ReferenceIdeal.Value.run (F := Ideal) m g)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.ReferenceIdeal.Read
public import proofs.«01_k».proof.Proof.Value.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, preFacts, frameK, frameKI, frameKI_pre, frameRI, frameRI_pre, trivial, equal⟩

end Cert.Proof

end
